-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_laid_out [hPre_laid_out : Cert.Pre_laid_out.Facts] (m : (ℓ : Loc Cert.KernelIdeal.nD Cert.KernelIdeal.τ Cert.KernelIdeal.sig) → Buf (Elt Ideal) ℓ) : Prop :=
  ∀ c : Dev Cert.KernelIdeal.nD,
    (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_laid_out [hPre_laid_out : Cert.Pre_laid_out.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.1 = (fun _ => 1#1)
    ∧ (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.2.1 = (fun _ => 1#1)
    ∧ (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.2.2 = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.2.1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.2.2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routed [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).1 = (fun _ => 1#1)
    ∧ (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).2.1 = (fun _ => 1#1)
    ∧ (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).2.2.1 = (fun _ => 1#1)
    ∧ (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).2.2.2 = (fun _ => 1#1)

def Pre_LastExperts [hPre_last_routed : Cert.Pre_last_routed.Facts] (m : (ℓ : Loc Cert.LastExperts.nD Cert.LastExperts.τ Cert.LastExperts.sig) → Buf (Elt Bits) ℓ) : Prop :=
  ∀ c : Dev Cert.LastExperts.nD,
    (Cert.Pre_last_routed.fn (F := Bits) (m ((c.tc : Thread Cert.LastExperts.nD Cert.LastExperts.τ).loc Cert.LastExperts.main_arg0)) (m ((c.tc : Thread Cert.LastExperts.nD Cert.LastExperts.τ).loc Cert.LastExperts.main_arg1)) (m ((c.tc : Thread Cert.LastExperts.nD Cert.LastExperts.τ).loc Cert.LastExperts.main_arg2)) (m ((c.tc : Thread Cert.LastExperts.nD Cert.LastExperts.τ).loc Cert.LastExperts.main_arg3)) (m ((c.tc : Thread Cert.LastExperts.nD Cert.LastExperts.τ).loc Cert.LastExperts.main_arg4)) (m ((c.tc : Thread Cert.LastExperts.nD Cert.LastExperts.τ).loc Cert.LastExperts.main_arg5))).1 = (fun _ => 1#1)
    ∧ (Cert.Pre_last_routed.fn (F := Bits) (m ((c.tc : Thread Cert.LastExperts.nD Cert.LastExperts.τ).loc Cert.LastExperts.main_arg0)) (m ((c.tc : Thread Cert.LastExperts.nD Cert.LastExperts.τ).loc Cert.LastExperts.main_arg1)) (m ((c.tc : Thread Cert.LastExperts.nD Cert.LastExperts.τ).loc Cert.LastExperts.main_arg2)) (m ((c.tc : Thread Cert.LastExperts.nD Cert.LastExperts.τ).loc Cert.LastExperts.main_arg3)) (m ((c.tc : Thread Cert.LastExperts.nD Cert.LastExperts.τ).loc Cert.LastExperts.main_arg4)) (m ((c.tc : Thread Cert.LastExperts.nD Cert.LastExperts.τ).loc Cert.LastExperts.main_arg5))).2.1 = (fun _ => 1#1)
    ∧ (Cert.Pre_last_routed.fn (F := Bits) (m ((c.tc : Thread Cert.LastExperts.nD Cert.LastExperts.τ).loc Cert.LastExperts.main_arg0)) (m ((c.tc : Thread Cert.LastExperts.nD Cert.LastExperts.τ).loc Cert.LastExperts.main_arg1)) (m ((c.tc : Thread Cert.LastExperts.nD Cert.LastExperts.τ).loc Cert.LastExperts.main_arg2)) (m ((c.tc : Thread Cert.LastExperts.nD Cert.LastExperts.τ).loc Cert.LastExperts.main_arg3)) (m ((c.tc : Thread Cert.LastExperts.nD Cert.LastExperts.τ).loc Cert.LastExperts.main_arg4)) (m ((c.tc : Thread Cert.LastExperts.nD Cert.LastExperts.τ).loc Cert.LastExperts.main_arg5))).2.2.1 = (fun _ => 1#1)
    ∧ (Cert.Pre_last_routed.fn (F := Bits) (m ((c.tc : Thread Cert.LastExperts.nD Cert.LastExperts.τ).loc Cert.LastExperts.main_arg0)) (m ((c.tc : Thread Cert.LastExperts.nD Cert.LastExperts.τ).loc Cert.LastExperts.main_arg1)) (m ((c.tc : Thread Cert.LastExperts.nD Cert.LastExperts.τ).loc Cert.LastExperts.main_arg2)) (m ((c.tc : Thread Cert.LastExperts.nD Cert.LastExperts.τ).loc Cert.LastExperts.main_arg3)) (m ((c.tc : Thread Cert.LastExperts.nD Cert.LastExperts.τ).loc Cert.LastExperts.main_arg4)) (m ((c.tc : Thread Cert.LastExperts.nD Cert.LastExperts.τ).loc Cert.LastExperts.main_arg5))).2.2.2 = (fun _ => 1#1)

def Pre_LastExpertsIdeal [hPre_last_routed : Cert.Pre_last_routed.Facts] (m : (ℓ : Loc Cert.LastExpertsIdeal.nD Cert.LastExpertsIdeal.τ Cert.LastExpertsIdeal.sig) → Buf (Elt Ideal) ℓ) : Prop :=
  ∀ c : Dev Cert.LastExpertsIdeal.nD,
    (Cert.Pre_last_routed.fn (F := Ideal) (m ((c.tc : Thread Cert.LastExpertsIdeal.nD Cert.LastExpertsIdeal.τ).loc Cert.LastExpertsIdeal.main_arg0)) (m ((c.tc : Thread Cert.LastExpertsIdeal.nD Cert.LastExpertsIdeal.τ).loc Cert.LastExpertsIdeal.main_arg1)) (m ((c.tc : Thread Cert.LastExpertsIdeal.nD Cert.LastExpertsIdeal.τ).loc Cert.LastExpertsIdeal.main_arg2)) (m ((c.tc : Thread Cert.LastExpertsIdeal.nD Cert.LastExpertsIdeal.τ).loc Cert.LastExpertsIdeal.main_arg3)) (m ((c.tc : Thread Cert.LastExpertsIdeal.nD Cert.LastExpertsIdeal.τ).loc Cert.LastExpertsIdeal.main_arg4)) (m ((c.tc : Thread Cert.LastExpertsIdeal.nD Cert.LastExpertsIdeal.τ).loc Cert.LastExpertsIdeal.main_arg5))).1 = (fun _ => 1#1)
    ∧ (Cert.Pre_last_routed.fn (F := Ideal) (m ((c.tc : Thread Cert.LastExpertsIdeal.nD Cert.LastExpertsIdeal.τ).loc Cert.LastExpertsIdeal.main_arg0)) (m ((c.tc : Thread Cert.LastExpertsIdeal.nD Cert.LastExpertsIdeal.τ).loc Cert.LastExpertsIdeal.main_arg1)) (m ((c.tc : Thread Cert.LastExpertsIdeal.nD Cert.LastExpertsIdeal.τ).loc Cert.LastExpertsIdeal.main_arg2)) (m ((c.tc : Thread Cert.LastExpertsIdeal.nD Cert.LastExpertsIdeal.τ).loc Cert.LastExpertsIdeal.main_arg3)) (m ((c.tc : Thread Cert.LastExpertsIdeal.nD Cert.LastExpertsIdeal.τ).loc Cert.LastExpertsIdeal.main_arg4)) (m ((c.tc : Thread Cert.LastExpertsIdeal.nD Cert.LastExpertsIdeal.τ).loc Cert.LastExpertsIdeal.main_arg5))).2.1 = (fun _ => 1#1)
    ∧ (Cert.Pre_last_routed.fn (F := Ideal) (m ((c.tc : Thread Cert.LastExpertsIdeal.nD Cert.LastExpertsIdeal.τ).loc Cert.LastExpertsIdeal.main_arg0)) (m ((c.tc : Thread Cert.LastExpertsIdeal.nD Cert.LastExpertsIdeal.τ).loc Cert.LastExpertsIdeal.main_arg1)) (m ((c.tc : Thread Cert.LastExpertsIdeal.nD Cert.LastExpertsIdeal.τ).loc Cert.LastExpertsIdeal.main_arg2)) (m ((c.tc : Thread Cert.LastExpertsIdeal.nD Cert.LastExpertsIdeal.τ).loc Cert.LastExpertsIdeal.main_arg3)) (m ((c.tc : Thread Cert.LastExpertsIdeal.nD Cert.LastExpertsIdeal.τ).loc Cert.LastExpertsIdeal.main_arg4)) (m ((c.tc : Thread Cert.LastExpertsIdeal.nD Cert.LastExpertsIdeal.τ).loc Cert.LastExpertsIdeal.main_arg5))).2.2.1 = (fun _ => 1#1)
    ∧ (Cert.Pre_last_routed.fn (F := Ideal) (m ((c.tc : Thread Cert.LastExpertsIdeal.nD Cert.LastExpertsIdeal.τ).loc Cert.LastExpertsIdeal.main_arg0)) (m ((c.tc : Thread Cert.LastExpertsIdeal.nD Cert.LastExpertsIdeal.τ).loc Cert.LastExpertsIdeal.main_arg1)) (m ((c.tc : Thread Cert.LastExpertsIdeal.nD Cert.LastExpertsIdeal.τ).loc Cert.LastExpertsIdeal.main_arg2)) (m ((c.tc : Thread Cert.LastExpertsIdeal.nD Cert.LastExpertsIdeal.τ).loc Cert.LastExpertsIdeal.main_arg3)) (m ((c.tc : Thread Cert.LastExpertsIdeal.nD Cert.LastExpertsIdeal.τ).loc Cert.LastExpertsIdeal.main_arg4)) (m ((c.tc : Thread Cert.LastExpertsIdeal.nD Cert.LastExpertsIdeal.τ).loc Cert.LastExpertsIdeal.main_arg5))).2.2.2 = (fun _ => 1#1)

def Pre_LastExpertsReferenceIdeal (m : (ℓ : Loc Cert.LastExpertsReferenceIdeal.nD Cert.LastExpertsReferenceIdeal.τ Cert.LastExpertsReferenceIdeal.sig) → Buf (Elt Ideal) ℓ) : Prop :=
  True

def Pre_LastExpertsReferenceIdeal_last_routed [hPre_last_routed : Cert.Pre_last_routed.Facts] (m : (ℓ : Loc Cert.LastExpertsReferenceIdeal.nD Cert.LastExpertsReferenceIdeal.τ Cert.LastExpertsReferenceIdeal.sig) → Buf (Elt Ideal) ℓ) : Prop :=
  ∀ c : Dev Cert.LastExpertsReferenceIdeal.nD,
    (Cert.Pre_last_routed.fn (F := Ideal) (m ((c.tc : Thread Cert.LastExpertsReferenceIdeal.nD Cert.LastExpertsReferenceIdeal.τ).loc Cert.LastExpertsReferenceIdeal.main_arg0)) (m ((c.tc : Thread Cert.LastExpertsReferenceIdeal.nD Cert.LastExpertsReferenceIdeal.τ).loc Cert.LastExpertsReferenceIdeal.main_arg1)) (m ((c.tc : Thread Cert.LastExpertsReferenceIdeal.nD Cert.LastExpertsReferenceIdeal.τ).loc Cert.LastExpertsReferenceIdeal.main_arg2)) (m ((c.tc : Thread Cert.LastExpertsReferenceIdeal.nD Cert.LastExpertsReferenceIdeal.τ).loc Cert.LastExpertsReferenceIdeal.main_arg3)) (m ((c.tc : Thread Cert.LastExpertsReferenceIdeal.nD Cert.LastExpertsReferenceIdeal.τ).loc Cert.LastExpertsReferenceIdeal.main_arg4)) (m ((c.tc : Thread Cert.LastExpertsReferenceIdeal.nD Cert.LastExpertsReferenceIdeal.τ).loc Cert.LastExpertsReferenceIdeal.main_arg5))).1 = (fun _ => 1#1)
    ∧ (Cert.Pre_last_routed.fn (F := Ideal) (m ((c.tc : Thread Cert.LastExpertsReferenceIdeal.nD Cert.LastExpertsReferenceIdeal.τ).loc Cert.LastExpertsReferenceIdeal.main_arg0)) (m ((c.tc : Thread Cert.LastExpertsReferenceIdeal.nD Cert.LastExpertsReferenceIdeal.τ).loc Cert.LastExpertsReferenceIdeal.main_arg1)) (m ((c.tc : Thread Cert.LastExpertsReferenceIdeal.nD Cert.LastExpertsReferenceIdeal.τ).loc Cert.LastExpertsReferenceIdeal.main_arg2)) (m ((c.tc : Thread Cert.LastExpertsReferenceIdeal.nD Cert.LastExpertsReferenceIdeal.τ).loc Cert.LastExpertsReferenceIdeal.main_arg3)) (m ((c.tc : Thread Cert.LastExpertsReferenceIdeal.nD Cert.LastExpertsReferenceIdeal.τ).loc Cert.LastExpertsReferenceIdeal.main_arg4)) (m ((c.tc : Thread Cert.LastExpertsReferenceIdeal.nD Cert.LastExpertsReferenceIdeal.τ).loc Cert.LastExpertsReferenceIdeal.main_arg5))).2.1 = (fun _ => 1#1)
    ∧ (Cert.Pre_last_routed.fn (F := Ideal) (m ((c.tc : Thread Cert.LastExpertsReferenceIdeal.nD Cert.LastExpertsReferenceIdeal.τ).loc Cert.LastExpertsReferenceIdeal.main_arg0)) (m ((c.tc : Thread Cert.LastExpertsReferenceIdeal.nD Cert.LastExpertsReferenceIdeal.τ).loc Cert.LastExpertsReferenceIdeal.main_arg1)) (m ((c.tc : Thread Cert.LastExpertsReferenceIdeal.nD Cert.LastExpertsReferenceIdeal.τ).loc Cert.LastExpertsReferenceIdeal.main_arg2)) (m ((c.tc : Thread Cert.LastExpertsReferenceIdeal.nD Cert.LastExpertsReferenceIdeal.τ).loc Cert.LastExpertsReferenceIdeal.main_arg3)) (m ((c.tc : Thread Cert.LastExpertsReferenceIdeal.nD Cert.LastExpertsReferenceIdeal.τ).loc Cert.LastExpertsReferenceIdeal.main_arg4)) (m ((c.tc : Thread Cert.LastExpertsReferenceIdeal.nD Cert.LastExpertsReferenceIdeal.τ).loc Cert.LastExpertsReferenceIdeal.main_arg5))).2.2.1 = (fun _ => 1#1)
    ∧ (Cert.Pre_last_routed.fn (F := Ideal) (m ((c.tc : Thread Cert.LastExpertsReferenceIdeal.nD Cert.LastExpertsReferenceIdeal.τ).loc Cert.LastExpertsReferenceIdeal.main_arg0)) (m ((c.tc : Thread Cert.LastExpertsReferenceIdeal.nD Cert.LastExpertsReferenceIdeal.τ).loc Cert.LastExpertsReferenceIdeal.main_arg1)) (m ((c.tc : Thread Cert.LastExpertsReferenceIdeal.nD Cert.LastExpertsReferenceIdeal.τ).loc Cert.LastExpertsReferenceIdeal.main_arg2)) (m ((c.tc : Thread Cert.LastExpertsReferenceIdeal.nD Cert.LastExpertsReferenceIdeal.τ).loc Cert.LastExpertsReferenceIdeal.main_arg3)) (m ((c.tc : Thread Cert.LastExpertsReferenceIdeal.nD Cert.LastExpertsReferenceIdeal.τ).loc Cert.LastExpertsReferenceIdeal.main_arg4)) (m ((c.tc : Thread Cert.LastExpertsReferenceIdeal.nD Cert.LastExpertsReferenceIdeal.τ).loc Cert.LastExpertsReferenceIdeal.main_arg5))).2.2.2 = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_laid_out [hKernelIdeal : Cert.KernelIdeal.Facts] [hPre_laid_out : Cert.Pre_laid_out.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_laid_out m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_laid_out [hReferenceIdeal : Cert.ReferenceIdeal.Facts] [hPre_laid_out : Cert.Pre_laid_out.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_laid_out m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_routed [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_LastExperts [hLastExperts : Cert.LastExperts.Facts] [hPre_last_routed : Cert.Pre_last_routed.Facts] : Prop :=
  ∀ (m : (ℓ : Loc Cert.LastExperts.nD Cert.LastExperts.τ Cert.LastExperts.sig) → Buf (Elt Bits) ℓ) (g : Dev Cert.LastExperts.nD → PrngReg), Pre_LastExperts m →
    θ_run (Cert.LastExperts.defs (F := Bits)) (onTc (τ := Cert.LastExperts.τ) (Cert.LastExperts.main (F := Bits))) ⟨m, fun _ => 0, g⟩ (fun r => (∀ c : Dev Cert.LastExperts.nD,
      r.2.mem ((c.tc : Thread Cert.LastExperts.nD Cert.LastExperts.τ).loc Cert.LastExperts.main_arg0) = m ((c.tc : Thread Cert.LastExperts.nD Cert.LastExperts.τ).loc Cert.LastExperts.main_arg0)
      ∧ r.2.mem ((c.tc : Thread Cert.LastExperts.nD Cert.LastExperts.τ).loc Cert.LastExperts.main_arg1) = m ((c.tc : Thread Cert.LastExperts.nD Cert.LastExperts.τ).loc Cert.LastExperts.main_arg1)
      ∧ r.2.mem ((c.tc : Thread Cert.LastExperts.nD Cert.LastExperts.τ).loc Cert.LastExperts.main_arg2) = m ((c.tc : Thread Cert.LastExperts.nD Cert.LastExperts.τ).loc Cert.LastExperts.main_arg2)
      ∧ r.2.mem ((c.tc : Thread Cert.LastExperts.nD Cert.LastExperts.τ).loc Cert.LastExperts.main_arg3) = m ((c.tc : Thread Cert.LastExperts.nD Cert.LastExperts.τ).loc Cert.LastExperts.main_arg3)
      ∧ r.2.mem ((c.tc : Thread Cert.LastExperts.nD Cert.LastExperts.τ).loc Cert.LastExperts.main_arg4) = m ((c.tc : Thread Cert.LastExperts.nD Cert.LastExperts.τ).loc Cert.LastExperts.main_arg4)
      ∧ r.2.mem ((c.tc : Thread Cert.LastExperts.nD Cert.LastExperts.τ).loc Cert.LastExperts.main_arg5) = m ((c.tc : Thread Cert.LastExperts.nD Cert.LastExperts.τ).loc Cert.LastExperts.main_arg5))
      ∧ r.2.sem = fun _ => 0)

def quiescent_LastExpertsIdeal [hLastExpertsIdeal : Cert.LastExpertsIdeal.Facts] [hPre_last_routed : Cert.Pre_last_routed.Facts] : Prop :=
  ∀ (m : (ℓ : Loc Cert.LastExpertsIdeal.nD Cert.LastExpertsIdeal.τ Cert.LastExpertsIdeal.sig) → Buf (Elt Ideal) ℓ) (g : Dev Cert.LastExpertsIdeal.nD → PrngReg), Pre_LastExpertsIdeal m →
    θ_run (Cert.LastExpertsIdeal.defs (F := Ideal)) (onTc (τ := Cert.LastExpertsIdeal.τ) (Cert.LastExpertsIdeal.main (F := Ideal))) ⟨m, fun _ => 0, g⟩ (fun r => (∀ c : Dev Cert.LastExpertsIdeal.nD,
      r.2.mem ((c.tc : Thread Cert.LastExpertsIdeal.nD Cert.LastExpertsIdeal.τ).loc Cert.LastExpertsIdeal.main_arg0) = m ((c.tc : Thread Cert.LastExpertsIdeal.nD Cert.LastExpertsIdeal.τ).loc Cert.LastExpertsIdeal.main_arg0)
      ∧ r.2.mem ((c.tc : Thread Cert.LastExpertsIdeal.nD Cert.LastExpertsIdeal.τ).loc Cert.LastExpertsIdeal.main_arg1) = m ((c.tc : Thread Cert.LastExpertsIdeal.nD Cert.LastExpertsIdeal.τ).loc Cert.LastExpertsIdeal.main_arg1)
      ∧ r.2.mem ((c.tc : Thread Cert.LastExpertsIdeal.nD Cert.LastExpertsIdeal.τ).loc Cert.LastExpertsIdeal.main_arg2) = m ((c.tc : Thread Cert.LastExpertsIdeal.nD Cert.LastExpertsIdeal.τ).loc Cert.LastExpertsIdeal.main_arg2)
      ∧ r.2.mem ((c.tc : Thread Cert.LastExpertsIdeal.nD Cert.LastExpertsIdeal.τ).loc Cert.LastExpertsIdeal.main_arg3) = m ((c.tc : Thread Cert.LastExpertsIdeal.nD Cert.LastExpertsIdeal.τ).loc Cert.LastExpertsIdeal.main_arg3)
      ∧ r.2.mem ((c.tc : Thread Cert.LastExpertsIdeal.nD Cert.LastExpertsIdeal.τ).loc Cert.LastExpertsIdeal.main_arg4) = m ((c.tc : Thread Cert.LastExpertsIdeal.nD Cert.LastExpertsIdeal.τ).loc Cert.LastExpertsIdeal.main_arg4)
      ∧ r.2.mem ((c.tc : Thread Cert.LastExpertsIdeal.nD Cert.LastExpertsIdeal.τ).loc Cert.LastExpertsIdeal.main_arg5) = m ((c.tc : Thread Cert.LastExpertsIdeal.nD Cert.LastExpertsIdeal.τ).loc Cert.LastExpertsIdeal.main_arg5))
      ∧ r.2.sem = fun _ => 0)

def quiescent_LastExpertsReferenceIdeal [hLastExpertsReferenceIdeal : Cert.LastExpertsReferenceIdeal.Facts] : Prop :=
  ∀ (m : (ℓ : Loc Cert.LastExpertsReferenceIdeal.nD Cert.LastExpertsReferenceIdeal.τ Cert.LastExpertsReferenceIdeal.sig) → Buf (Elt Ideal) ℓ) (g : Dev Cert.LastExpertsReferenceIdeal.nD → PrngReg), Pre_LastExpertsReferenceIdeal m →
    θ_run (Cert.LastExpertsReferenceIdeal.defs (F := Ideal)) (onTc (τ := Cert.LastExpertsReferenceIdeal.τ) (Cert.LastExpertsReferenceIdeal.main (F := Ideal))) ⟨m, fun _ => 0, g⟩ (fun r => (∀ c : Dev Cert.LastExpertsReferenceIdeal.nD,
      r.2.mem ((c.tc : Thread Cert.LastExpertsReferenceIdeal.nD Cert.LastExpertsReferenceIdeal.τ).loc Cert.LastExpertsReferenceIdeal.main_arg0) = m ((c.tc : Thread Cert.LastExpertsReferenceIdeal.nD Cert.LastExpertsReferenceIdeal.τ).loc Cert.LastExpertsReferenceIdeal.main_arg0)
      ∧ r.2.mem ((c.tc : Thread Cert.LastExpertsReferenceIdeal.nD Cert.LastExpertsReferenceIdeal.τ).loc Cert.LastExpertsReferenceIdeal.main_arg1) = m ((c.tc : Thread Cert.LastExpertsReferenceIdeal.nD Cert.LastExpertsReferenceIdeal.τ).loc Cert.LastExpertsReferenceIdeal.main_arg1)
      ∧ r.2.mem ((c.tc : Thread Cert.LastExpertsReferenceIdeal.nD Cert.LastExpertsReferenceIdeal.τ).loc Cert.LastExpertsReferenceIdeal.main_arg2) = m ((c.tc : Thread Cert.LastExpertsReferenceIdeal.nD Cert.LastExpertsReferenceIdeal.τ).loc Cert.LastExpertsReferenceIdeal.main_arg2)
      ∧ r.2.mem ((c.tc : Thread Cert.LastExpertsReferenceIdeal.nD Cert.LastExpertsReferenceIdeal.τ).loc Cert.LastExpertsReferenceIdeal.main_arg3) = m ((c.tc : Thread Cert.LastExpertsReferenceIdeal.nD Cert.LastExpertsReferenceIdeal.τ).loc Cert.LastExpertsReferenceIdeal.main_arg3)
      ∧ r.2.mem ((c.tc : Thread Cert.LastExpertsReferenceIdeal.nD Cert.LastExpertsReferenceIdeal.τ).loc Cert.LastExpertsReferenceIdeal.main_arg4) = m ((c.tc : Thread Cert.LastExpertsReferenceIdeal.nD Cert.LastExpertsReferenceIdeal.τ).loc Cert.LastExpertsReferenceIdeal.main_arg4)
      ∧ r.2.mem ((c.tc : Thread Cert.LastExpertsReferenceIdeal.nD Cert.LastExpertsReferenceIdeal.τ).loc Cert.LastExpertsReferenceIdeal.main_arg5) = m ((c.tc : Thread Cert.LastExpertsReferenceIdeal.nD Cert.LastExpertsReferenceIdeal.τ).loc Cert.LastExpertsReferenceIdeal.main_arg5))
      ∧ r.2.sem = fun _ => 0)

def quiescent_LastExpertsReferenceIdeal_pre_last_routed [hLastExpertsReferenceIdeal : Cert.LastExpertsReferenceIdeal.Facts] [hPre_last_routed : Cert.Pre_last_routed.Facts] : Prop :=
  ∀ (m : (ℓ : Loc Cert.LastExpertsReferenceIdeal.nD Cert.LastExpertsReferenceIdeal.τ Cert.LastExpertsReferenceIdeal.sig) → Buf (Elt Ideal) ℓ) (g : Dev Cert.LastExpertsReferenceIdeal.nD → PrngReg), Pre_LastExpertsReferenceIdeal_last_routed m →
    θ_run (Cert.LastExpertsReferenceIdeal.defs (F := Ideal)) (onTc (τ := Cert.LastExpertsReferenceIdeal.τ) (Cert.LastExpertsReferenceIdeal.main (F := Ideal))) ⟨m, fun _ => 0, g⟩ (fun r => (∀ c : Dev Cert.LastExpertsReferenceIdeal.nD,
      r.2.mem ((c.tc : Thread Cert.LastExpertsReferenceIdeal.nD Cert.LastExpertsReferenceIdeal.τ).loc Cert.LastExpertsReferenceIdeal.main_arg0) = m ((c.tc : Thread Cert.LastExpertsReferenceIdeal.nD Cert.LastExpertsReferenceIdeal.τ).loc Cert.LastExpertsReferenceIdeal.main_arg0)
      ∧ r.2.mem ((c.tc : Thread Cert.LastExpertsReferenceIdeal.nD Cert.LastExpertsReferenceIdeal.τ).loc Cert.LastExpertsReferenceIdeal.main_arg1) = m ((c.tc : Thread Cert.LastExpertsReferenceIdeal.nD Cert.LastExpertsReferenceIdeal.τ).loc Cert.LastExpertsReferenceIdeal.main_arg1)
      ∧ r.2.mem ((c.tc : Thread Cert.LastExpertsReferenceIdeal.nD Cert.LastExpertsReferenceIdeal.τ).loc Cert.LastExpertsReferenceIdeal.main_arg2) = m ((c.tc : Thread Cert.LastExpertsReferenceIdeal.nD Cert.LastExpertsReferenceIdeal.τ).loc Cert.LastExpertsReferenceIdeal.main_arg2)
      ∧ r.2.mem ((c.tc : Thread Cert.LastExpertsReferenceIdeal.nD Cert.LastExpertsReferenceIdeal.τ).loc Cert.LastExpertsReferenceIdeal.main_arg3) = m ((c.tc : Thread Cert.LastExpertsReferenceIdeal.nD Cert.LastExpertsReferenceIdeal.τ).loc Cert.LastExpertsReferenceIdeal.main_arg3)
      ∧ r.2.mem ((c.tc : Thread Cert.LastExpertsReferenceIdeal.nD Cert.LastExpertsReferenceIdeal.τ).loc Cert.LastExpertsReferenceIdeal.main_arg4) = m ((c.tc : Thread Cert.LastExpertsReferenceIdeal.nD Cert.LastExpertsReferenceIdeal.τ).loc Cert.LastExpertsReferenceIdeal.main_arg4)
      ∧ r.2.mem ((c.tc : Thread Cert.LastExpertsReferenceIdeal.nD Cert.LastExpertsReferenceIdeal.τ).loc Cert.LastExpertsReferenceIdeal.main_arg5) = m ((c.tc : Thread Cert.LastExpertsReferenceIdeal.nD Cert.LastExpertsReferenceIdeal.τ).loc Cert.LastExpertsReferenceIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5))
      ∧ r.2.sem = fun _ => 0)

def preserves_Kernel_KernelIdeal : Prop :=
  True

def algebraic_KernelIdeal_ReferenceIdeal_pre_laid_out [hKernelIdeal : Cert.KernelIdeal.Facts] [hReferenceIdeal : Cert.ReferenceIdeal.Facts] [hPre_laid_out : Cert.Pre_laid_out.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_laid_out m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v28) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_LastExperts_LastExpertsIdeal : Prop :=
  True

def algebraic_LastExpertsIdeal_LastExpertsReferenceIdeal [hLastExpertsIdeal : Cert.LastExpertsIdeal.Facts] [hLastExpertsReferenceIdeal : Cert.LastExpertsReferenceIdeal.Facts] [hPre_last_routed : Cert.Pre_last_routed.Facts] : Prop :=
  ∀ (m : (ℓ : Loc Cert.LastExpertsIdeal.nD Cert.LastExpertsIdeal.τ Cert.LastExpertsIdeal.sig) → Buf (Elt Ideal) ℓ) (g : Dev Cert.LastExpertsIdeal.nD → PrngReg)
    (m' : (ℓ : Loc Cert.LastExpertsReferenceIdeal.nD Cert.LastExpertsReferenceIdeal.τ Cert.LastExpertsReferenceIdeal.sig) → Buf (Elt Ideal) ℓ) (g' : Dev Cert.LastExpertsReferenceIdeal.nD → PrngReg), Pre_LastExpertsIdeal m →
    (∀ c : Dev Cert.LastExpertsIdeal.nD,
      m' ((c.tc : Thread Cert.LastExpertsReferenceIdeal.nD Cert.LastExpertsReferenceIdeal.τ).loc Cert.LastExpertsReferenceIdeal.main_arg0) = m ((c.tc : Thread Cert.LastExpertsIdeal.nD Cert.LastExpertsIdeal.τ).loc Cert.LastExpertsIdeal.main_arg0)
      ∧ m' ((c.tc : Thread Cert.LastExpertsReferenceIdeal.nD Cert.LastExpertsReferenceIdeal.τ).loc Cert.LastExpertsReferenceIdeal.main_arg1) = m ((c.tc : Thread Cert.LastExpertsIdeal.nD Cert.LastExpertsIdeal.τ).loc Cert.LastExpertsIdeal.main_arg1)
      ∧ m' ((c.tc : Thread Cert.LastExpertsReferenceIdeal.nD Cert.LastExpertsReferenceIdeal.τ).loc Cert.LastExpertsReferenceIdeal.main_arg2) = m ((c.tc : Thread Cert.LastExpertsIdeal.nD Cert.LastExpertsIdeal.τ).loc Cert.LastExpertsIdeal.main_arg2)
      ∧ m' ((c.tc : Thread Cert.LastExpertsReferenceIdeal.nD Cert.LastExpertsReferenceIdeal.τ).loc Cert.LastExpertsReferenceIdeal.main_arg3) = m ((c.tc : Thread Cert.LastExpertsIdeal.nD Cert.LastExpertsIdeal.τ).loc Cert.LastExpertsIdeal.main_arg3)
      ∧ m' ((c.tc : Thread Cert.LastExpertsReferenceIdeal.nD Cert.LastExpertsReferenceIdeal.τ).loc Cert.LastExpertsReferenceIdeal.main_arg4) = m ((c.tc : Thread Cert.LastExpertsIdeal.nD Cert.LastExpertsIdeal.τ).loc Cert.LastExpertsIdeal.main_arg4)
      ∧ m' ((c.tc : Thread Cert.LastExpertsReferenceIdeal.nD Cert.LastExpertsReferenceIdeal.τ).loc Cert.LastExpertsReferenceIdeal.main_arg5) = m ((c.tc : Thread Cert.LastExpertsIdeal.nD Cert.LastExpertsIdeal.τ).loc Cert.LastExpertsIdeal.main_arg5)) →
    ∃ (v0 : (c : Dev Cert.LastExpertsIdeal.nD) → Buf (Elt Ideal) ((c.tc : Thread Cert.LastExpertsIdeal.nD Cert.LastExpertsIdeal.τ).loc Cert.LastExpertsIdeal.main_v0)),
      θ_run (Cert.LastExpertsIdeal.defs (F := Ideal)) (onTc (τ := Cert.LastExpertsIdeal.τ) (Cert.LastExpertsIdeal.main (F := Ideal))) ⟨m, fun _ => 0, g⟩ (fun r => ∀ c : Dev Cert.LastExpertsIdeal.nD,
          r.2.mem ((c.tc : Thread Cert.LastExpertsIdeal.nD Cert.LastExpertsIdeal.τ).loc Cert.LastExpertsIdeal.main_v0) = v0 c
          ∧ r.2.mem ((c.tc : Thread Cert.LastExpertsIdeal.nD Cert.LastExpertsIdeal.τ).loc Cert.LastExpertsIdeal.main_arg0) = m ((c.tc : Thread Cert.LastExpertsIdeal.nD Cert.LastExpertsIdeal.τ).loc Cert.LastExpertsIdeal.main_arg0)
          ∧ r.2.mem ((c.tc : Thread Cert.LastExpertsIdeal.nD Cert.LastExpertsIdeal.τ).loc Cert.LastExpertsIdeal.main_arg1) = m ((c.tc : Thread Cert.LastExpertsIdeal.nD Cert.LastExpertsIdeal.τ).loc Cert.LastExpertsIdeal.main_arg1)
          ∧ r.2.mem ((c.tc : Thread Cert.LastExpertsIdeal.nD Cert.LastExpertsIdeal.τ).loc Cert.LastExpertsIdeal.main_arg2) = m ((c.tc : Thread Cert.LastExpertsIdeal.nD Cert.LastExpertsIdeal.τ).loc Cert.LastExpertsIdeal.main_arg2)
          ∧ r.2.mem ((c.tc : Thread Cert.LastExpertsIdeal.nD Cert.LastExpertsIdeal.τ).loc Cert.LastExpertsIdeal.main_arg3) = m ((c.tc : Thread Cert.LastExpertsIdeal.nD Cert.LastExpertsIdeal.τ).loc Cert.LastExpertsIdeal.main_arg3)
          ∧ r.2.mem ((c.tc : Thread Cert.LastExpertsIdeal.nD Cert.LastExpertsIdeal.τ).loc Cert.LastExpertsIdeal.main_arg4) = m ((c.tc : Thread Cert.LastExpertsIdeal.nD Cert.LastExpertsIdeal.τ).loc Cert.LastExpertsIdeal.main_arg4)
          ∧ r.2.mem ((c.tc : Thread Cert.LastExpertsIdeal.nD Cert.LastExpertsIdeal.τ).loc Cert.LastExpertsIdeal.main_arg5) = m ((c.tc : Thread Cert.LastExpertsIdeal.nD Cert.LastExpertsIdeal.τ).loc Cert.LastExpertsIdeal.main_arg5))
      ∧ θ_run (Cert.LastExpertsReferenceIdeal.defs (F := Ideal)) (onTc (τ := Cert.LastExpertsReferenceIdeal.τ) (Cert.LastExpertsReferenceIdeal.main (F := Ideal))) ⟨m', fun _ => 0, g'⟩ (fun r => ∀ c : Dev Cert.LastExpertsReferenceIdeal.nD,
          r.2.mem ((c.tc : Thread Cert.LastExpertsReferenceIdeal.nD Cert.LastExpertsReferenceIdeal.τ).loc Cert.LastExpertsReferenceIdeal.main_v28) = v0 c
          ∧ r.2.mem ((c.tc : Thread Cert.LastExpertsReferenceIdeal.nD Cert.LastExpertsReferenceIdeal.τ).loc Cert.LastExpertsReferenceIdeal.main_arg0) = m' ((c.tc : Thread Cert.LastExpertsReferenceIdeal.nD Cert.LastExpertsReferenceIdeal.τ).loc Cert.LastExpertsReferenceIdeal.main_arg0)
          ∧ r.2.mem ((c.tc : Thread Cert.LastExpertsReferenceIdeal.nD Cert.LastExpertsReferenceIdeal.τ).loc Cert.LastExpertsReferenceIdeal.main_arg1) = m' ((c.tc : Thread Cert.LastExpertsReferenceIdeal.nD Cert.LastExpertsReferenceIdeal.τ).loc Cert.LastExpertsReferenceIdeal.main_arg1)
          ∧ r.2.mem ((c.tc : Thread Cert.LastExpertsReferenceIdeal.nD Cert.LastExpertsReferenceIdeal.τ).loc Cert.LastExpertsReferenceIdeal.main_arg2) = m' ((c.tc : Thread Cert.LastExpertsReferenceIdeal.nD Cert.LastExpertsReferenceIdeal.τ).loc Cert.LastExpertsReferenceIdeal.main_arg2)
          ∧ r.2.mem ((c.tc : Thread Cert.LastExpertsReferenceIdeal.nD Cert.LastExpertsReferenceIdeal.τ).loc Cert.LastExpertsReferenceIdeal.main_arg3) = m' ((c.tc : Thread Cert.LastExpertsReferenceIdeal.nD Cert.LastExpertsReferenceIdeal.τ).loc Cert.LastExpertsReferenceIdeal.main_arg3)
          ∧ r.2.mem ((c.tc : Thread Cert.LastExpertsReferenceIdeal.nD Cert.LastExpertsReferenceIdeal.τ).loc Cert.LastExpertsReferenceIdeal.main_arg4) = m' ((c.tc : Thread Cert.LastExpertsReferenceIdeal.nD Cert.LastExpertsReferenceIdeal.τ).loc Cert.LastExpertsReferenceIdeal.main_arg4)
          ∧ r.2.mem ((c.tc : Thread Cert.LastExpertsReferenceIdeal.nD Cert.LastExpertsReferenceIdeal.τ).loc Cert.LastExpertsReferenceIdeal.main_arg5) = m' ((c.tc : Thread Cert.LastExpertsReferenceIdeal.nD Cert.LastExpertsReferenceIdeal.τ).loc Cert.LastExpertsReferenceIdeal.main_arg5))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)) →
    ∃ (v0 : (c : Dev Cert.DenseIdeal.nD) → Buf (Elt Ideal) ((c.tc : Thread Cert.DenseIdeal.nD Cert.DenseIdeal.τ).loc Cert.DenseIdeal.main_v4)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v4) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v42) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hLastExperts : Cert.LastExperts.Facts) (hLastExpertsIdeal : Cert.LastExpertsIdeal.Facts) (hLastExpertsReferenceIdeal : Cert.LastExpertsReferenceIdeal.Facts) (hDense : Cert.Dense.Facts) (hDenseIdeal : Cert.DenseIdeal.Facts) (hDenseReferenceIdeal : Cert.DenseReferenceIdeal.Facts) (hPre_laid_out : Cert.Pre_laid_out.Facts) (hPre_routed : Cert.Pre_routed.Facts) (hPre_last_routed : Cert.Pre_last_routed.Facts),
    quiescent_Kernel (hKernel := hKernel)
    ∧ quiescent_KernelIdeal (hKernelIdeal := hKernelIdeal)
    ∧ quiescent_KernelIdeal_pre_laid_out (hKernelIdeal := hKernelIdeal) (hPre_laid_out := hPre_laid_out)
    ∧ quiescent_ReferenceIdeal (hReferenceIdeal := hReferenceIdeal)
    ∧ quiescent_ReferenceIdeal_pre_laid_out (hReferenceIdeal := hReferenceIdeal) (hPre_laid_out := hPre_laid_out)
    ∧ quiescent_Experts (hExperts := hExperts) (hPre_routed := hPre_routed)
    ∧ quiescent_ExpertsIdeal (hExpertsIdeal := hExpertsIdeal) (hPre_routed := hPre_routed)
    ∧ quiescent_ExpertsReferenceIdeal (hExpertsReferenceIdeal := hExpertsReferenceIdeal)
    ∧ quiescent_ExpertsReferenceIdeal_pre_routed (hExpertsReferenceIdeal := hExpertsReferenceIdeal) (hPre_routed := hPre_routed)
    ∧ quiescent_LastExperts (hLastExperts := hLastExperts) (hPre_last_routed := hPre_last_routed)
    ∧ quiescent_LastExpertsIdeal (hLastExpertsIdeal := hLastExpertsIdeal) (hPre_last_routed := hPre_last_routed)
    ∧ quiescent_LastExpertsReferenceIdeal (hLastExpertsReferenceIdeal := hLastExpertsReferenceIdeal)
    ∧ quiescent_LastExpertsReferenceIdeal_pre_last_routed (hLastExpertsReferenceIdeal := hLastExpertsReferenceIdeal) (hPre_last_routed := hPre_last_routed)
    ∧ quiescent_Dense (hDense := hDense)
    ∧ quiescent_DenseIdeal (hDenseIdeal := hDenseIdeal)
    ∧ quiescent_DenseReferenceIdeal (hDenseReferenceIdeal := hDenseReferenceIdeal)
    ∧ preserves_Kernel_KernelIdeal
    ∧ algebraic_KernelIdeal_ReferenceIdeal_pre_laid_out (hKernelIdeal := hKernelIdeal) (hReferenceIdeal := hReferenceIdeal) (hPre_laid_out := hPre_laid_out)
    ∧ preserves_Experts_ExpertsIdeal
    ∧ algebraic_ExpertsIdeal_ExpertsReferenceIdeal (hExpertsIdeal := hExpertsIdeal) (hExpertsReferenceIdeal := hExpertsReferenceIdeal) (hPre_routed := hPre_routed)
    ∧ preserves_LastExperts_LastExpertsIdeal
    ∧ algebraic_LastExpertsIdeal_LastExpertsReferenceIdeal (hLastExpertsIdeal := hLastExpertsIdeal) (hLastExpertsReferenceIdeal := hLastExpertsReferenceIdeal) (hPre_last_routed := hPre_last_routed)
    ∧ preserves_Dense_DenseIdeal
    ∧ algebraic_DenseIdeal_DenseReferenceIdeal (hDenseIdeal := hDenseIdeal) (hDenseReferenceIdeal := hDenseReferenceIdeal)
-- ==== Pre_laid_out.lean ====
abbrev S16x2304x768 : Shape := ⟨3, ![16, 2304, 768]⟩
abbrev S16x1024x2304 : Shape := ⟨3, ![16, 1024, 2304]⟩
abbrev S16x2304x1024 : Shape := ⟨3, ![16, 2304, 1024]⟩
abbrev S16x2304x512 : Shape := ⟨3, ![16, 2304, 512]⟩
abbrev S16x2x6x1024 : Shape := ⟨4, ![16, 2, 6, 1024]⟩
abbrev S1024x1024 : Shape := ⟨2, ![1024, 1024]⟩
abbrev S3x256 : Shape := ⟨2, ![3, 256]⟩
abbrev S64 : Shape := ⟨1, ![64]⟩
abbrev S4x32 : Shape := ⟨2, ![4, 32]⟩
abbrev S16x2304x4x256 : Shape := ⟨4, ![16, 2304, 4, 256]⟩
abbrev S16x4x256x2304 : Shape := ⟨4, ![16, 4, 256, 2304]⟩
abbrev S_ : Shape := ⟨0, ![]⟩
abbrev S16x2304x4x128 : Shape := ⟨4, ![16, 2304, 4, 128]⟩
abbrev S16x2304x2x64 : Shape := ⟨4, ![16, 2304, 2, 64]⟩
abbrev S16x2x64x2304 : Shape := ⟨4, ![16, 2, 64, 2304]⟩
abbrev S16x4x1x2304 : Shape := ⟨4, ![16, 4, 1, 2304]⟩
abbrev S16x4x2304 : Shape := ⟨3, ![16, 4, 2304]⟩
abbrev S16x4x1x1 : Shape := ⟨4, ![16, 4, 1, 1]⟩
abbrev S16x4x1 : Shape := ⟨3, ![16, 4, 1]⟩

class Facts : Prop where
  shapeCasts_S16x2304x1024_S16x2304x4x256 : S16x2304x1024.ShapeCasts S16x2304x4x256
  shapeCasts_S16x1024x2304_S16x4x256x2304 : S16x1024x2304.ShapeCasts S16x4x256x2304
  bcast_S_S16x2304x768 : S_.BroadcastsInDim S16x2304x768 (![] : Fin 0 → Fin S16x2304x768.rank)
  bcast_S_S16x1024x2304 : S_.BroadcastsInDim S16x1024x2304 (![] : Fin 0 → Fin S16x1024x2304.rank)
  bcast_S_S16x2304x1024 : S_.BroadcastsInDim S16x2304x1024 (![] : Fin 0 → Fin S16x2304x1024.rank)
  bcast_S_S4x32 : S_.BroadcastsInDim S4x32 (![] : Fin 0 → Fin S4x32.rank)
  slices_S16x2304x4x256_S16x2304x4x128_0_0_0_64 : S16x2304x4x256.Slices ![0, 0, 0, 64] S16x2304x4x128
  bcast_S_S16x2304x4x128 : S_.BroadcastsInDim S16x2304x4x128 (![] : Fin 0 → Fin S16x2304x4x128.rank)
  slices_S16x2304x4x256_S16x2304x2x64_0_0_0_0 : S16x2304x4x256.Slices ![0, 0, 0, 0] S16x2304x2x64
  slices_S16x2304x4x256_S16x2304x2x64_0_0_0_192 : S16x2304x4x256.Slices ![0, 0, 0, 192] S16x2304x2x64
  slices_S16x4x256x2304_S16x2x64x2304_0_0_0_0 : S16x4x256x2304.Slices ![0, 0, 0, 0] S16x2x64x2304
  slices_S16x4x256x2304_S16x2x64x2304_0_0_64_0 : S16x4x256x2304.Slices ![0, 0, 64, 0] S16x2x64x2304
  slices_S16x4x256x2304_S16x4x1x2304_0_0_128_0 : S16x4x256x2304.Slices ![0, 0, 128, 0] S16x4x1x2304
  shapeCasts_S16x4x1x2304_S16x4x2304 : S16x4x1x2304.ShapeCasts S16x4x2304
  slices_S16x4x256x2304_S16x4x1x1_0_0_128_0 : S16x4x256x2304.Slices ![0, 0, 128, 0] S16x4x1x1
  shapeCasts_S16x4x1x1_S16x4x1 : S16x4x1x1.ShapeCasts S16x4x1
  bcast_S16x4x1_S16x4x2304_0_1_2 : S16x4x1.BroadcastsInDim S16x4x2304 (![0, 1, 2] : Fin 3 → Fin S16x4x2304.rank)

variable [Facts]

def fn_part1 {F : FTy → Type} [FloatOps F] (main_v1 : FVec F S16x4x256x2304 .bf16) (main_v4 : IVec S16x2304x768 1) (main_v7 : IVec S16x1024x2304 1) (main_v10 : IVec S16x2304x1024 1) (main_v13 : IVec S4x32 1) (main_v16 : IVec S16x2304x4x128 1) (main_v17 : FVec F S16x2304x2x64 .bf16) (main_v18 : FVec F S16x2304x2x64 .bf16) : IVec S16x2304x768 1 × IVec S16x1024x2304 1 × IVec S16x2304x1024 1 × IVec S4x32 1 × IVec S16x2304x4x128 1 × IVec S16x2304x2x64 1 × IVec S16x2x64x2304 1 × IVec S16x4x2304 1 :=
  let main_v19 : IVec S16x2304x2x64 1 := cmpf .oeq main_v17 main_v18
  let main_v20 : FVec F S16x2x64x2304 .bf16 := (extractStridedSlice S16x2x64x2304 ![0, 0, 0, 0] · slices_S16x4x256x2304_S16x2x64x2304_0_0_0_0) main_v1
  let main_v21 : FVec F S16x2x64x2304 .bf16 := (extractStridedSlice S16x2x64x2304 ![0, 0, 64, 0] · slices_S16x4x256x2304_S16x2x64x2304_0_0_64_0) main_v1
  let main_v22 : IVec S16x2x64x2304 1 := cmpf .oeq main_v20 main_v21
  let main_v23 : FVec F S16x4x1x2304 .bf16 := (extractStridedSlice S16x4x1x2304 ![0, 0, 128, 0] · slices_S16x4x256x2304_S16x4x1x2304_0_0_128_0) main_v1
  let main_v24 : FVec F S16x4x2304 .bf16 := shapeCast S16x4x2304 main_v23 shapeCasts_S16x4x1x2304_S16x4x2304
  let main_v25 : FVec F S16x4x1x1 .bf16 := (extractStridedSlice S16x4x1x1 ![0, 0, 128, 0] · slices_S16x4x256x2304_S16x4x1x1_0_0_128_0) main_v1
  let main_v26 : FVec F S16x4x1 .bf16 := shapeCast S16x4x1 main_v25 shapeCasts_S16x4x1x1_S16x4x1
  let main_v27 : FVec F S16x4x2304 .bf16 := broadcastInDim S16x4x2304 ![0, 1, 2] bcast_S16x4x1_S16x4x2304_0_1_2 main_v26
  let main_v28 : IVec S16x4x2304 1 := cmpf .oeq main_v24 main_v27
  (main_v4, main_v7, main_v10, main_v13, main_v16, main_v19, main_v22, main_v28)

def fn {F : FTy → Type} [FloatOps F] (main_arg0 : FVec F S16x2304x768 .bf16) (main_arg1 : FVec F S16x1024x2304 .bf16) (main_arg2 : FVec F S16x2304x1024 .bf16) (main_arg3 : FVec F S16x2304x512 .f32) (main_arg4 : FVec F S16x2304x1024 .f32) (main_arg5 : FVec F S16x2x6x1024 .f32) (main_arg6 : FVec F S1024x1024 .f32) (main_arg7 : FVec F S3x256 .f32) (main_arg8 : FVec F S64 .f32) (main_arg9 : FVec F S4x32 .f32) : IVec S16x2304x768 1 × IVec S16x1024x2304 1 × IVec S16x2304x1024 1 × IVec S4x32 1 × IVec S16x2304x4x128 1 × IVec S16x2304x2x64 1 × IVec S16x2x64x2304 1 × IVec S16x4x2304 1 :=
  let main_v0 : FVec F S16x2304x4x256 .bf16 := shapeCast S16x2304x4x256 main_arg2 shapeCasts_S16x2304x1024_S16x2304x4x256
  let main_v1 : FVec F S16x4x256x2304 .bf16 := shapeCast S16x4x256x2304 main_arg1 shapeCasts_S16x1024x2304_S16x4x256x2304
  let main_v2 : FVec F S16x2304x768 .bf16 := Host.absf main_arg0
  let main_cst : FVec F S_ .bf16 := constant S_ .bf16 0x7F80#16
  let main_v3 : FVec F S16x2304x768 .bf16 := broadcastInDim S16x2304x768 ![] bcast_S_S16x2304x768 main_cst
  let main_v4 : IVec S16x2304x768 1 := cmpf .olt main_v2 main_v3
  let main_v5 : FVec F S16x1024x2304 .bf16 := Host.absf main_arg1
  let main_cst_0 : FVec F S_ .bf16 := constant S_ .bf16 0x7F80#16
  let main_v6 : FVec F S16x1024x2304 .bf16 := broadcastInDim S16x1024x2304 ![] bcast_S_S16x1024x2304 main_cst_0
  let main_v7 : IVec S16x1024x2304 1 := cmpf .olt main_v5 main_v6
  let main_v8 : FVec F S16x2304x1024 .bf16 := Host.absf main_arg2
  let main_cst_1 : FVec F S_ .bf16 := constant S_ .bf16 0x7F80#16
  let main_v9 : FVec F S16x2304x1024 .bf16 := broadcastInDim S16x2304x1024 ![] bcast_S_S16x2304x1024 main_cst_1
  let main_v10 : IVec S16x2304x1024 1 := cmpf .olt main_v8 main_v9
  let main_v11 : FVec F S4x32 .f32 := Host.absf main_arg9
  let main_cst_2 : FVec F S_ .f32 := constant S_ .f32 0x7F800000#32
  let main_v12 : FVec F S4x32 .f32 := broadcastInDim S4x32 ![] bcast_S_S4x32 main_cst_2
  let main_v13 : IVec S4x32 1 := cmpf .olt main_v11 main_v12
  let main_v14 : FVec F S16x2304x4x128 .bf16 := (extractStridedSlice S16x2304x4x128 ![0, 0, 0, 64] · slices_S16x2304x4x256_S16x2304x4x128_0_0_0_64) main_v0
  let main_cst_3 : FVec F S_ .bf16 := constant S_ .bf16 0x3F80#16
  let main_v15 : FVec F S16x2304x4x128 .bf16 := broadcastInDim S16x2304x4x128 ![] bcast_S_S16x2304x4x128 main_cst_3
  let main_v16 : IVec S16x2304x4x128 1 := cmpf .oeq main_v14 main_v15
  let main_v17 : FVec F S16x2304x2x64 .bf16 := (extractStridedSlice S16x2304x2x64 ![0, 0, 0, 0] · slices_S16x2304x4x256_S16x2304x2x64_0_0_0_0) main_v0
  let main_v18 : FVec F S16x2304x2x64 .bf16 := (extractStridedSlice S16x2304x2x64 ![0, 0, 0, 192] · slices_S16x2304x4x256_S16x2304x2x64_0_0_0_192) main_v0
  fn_part1 (F := F) main_v1 main_v4 main_v7 main_v10 main_v13 main_v16 main_v17 main_v18
-- ==== Pre_last_routed.lean ====
abbrev S264 : Shape := ⟨1, ![264]⟩
abbrev S1 : Shape := ⟨1, ![1]⟩
abbrev S67584x1024 : Shape := ⟨2, ![67584, 1024]⟩
abbrev S16x1024x2816 : Shape := ⟨3, ![16, 1024, 2816]⟩
abbrev S16x2816x1024 : Shape := ⟨3, ![16, 2816, 1024]⟩
abbrev S_ : Shape := ⟨0, ![]⟩

class Facts : Prop where
  bcast_S_S264 : S_.BroadcastsInDim S264 (![] : Fin 0 → Fin S264.rank)
  bcast_S_S1 : S_.BroadcastsInDim S1 (![] : Fin 0 → Fin S1.rank)

variable [Facts]

def fn {F : FTy → Type} [FloatOps F] (main_arg0 : IVec S264 32) (main_arg1 : IVec S1 32) (main_arg2 : FVec F S67584x1024 .f32) (main_arg3 : FVec F S16x1024x2816 .bf16) (main_arg4 : FVec F S16x1024x2816 .bf16) (main_arg5 : FVec F S16x2816x1024 .bf16) : IVec S264 1 × IVec S264 1 × IVec S1 1 × IVec S1 1 :=
  let main_c : IVec S_ 32 := constantI S_ 32 0#32
  let main_v0 : IVec S264 32 := broadcastInDim S264 ![] bcast_S_S264 main_c
  let main_v1 : IVec S264 1 := cmpi .sge main_arg0 main_v0
  let main_c_0 : IVec S_ 32 := constantI S_ 32 16#32
  let main_v2 : IVec S264 32 := broadcastInDim S264 ![] bcast_S_S264 main_c_0
  let main_v3 : IVec S264 1 := cmpi .slt main_arg0 main_v2
  let main_c_1 : IVec S_ 32 := constantI S_ 32 1#32
  let main_v4 : IVec S1 32 := broadcastInDim S1 ![] bcast_S_S1 main_c_1
  let main_v5 : IVec S1 1 := cmpi .sge main_arg1 main_v4
  let main_c_2 : IVec S_ 32 := constantI S_ 32 264#32
  let main_v6 : IVec S1 32 := broadcastInDim S1 ![] bcast_S_S1 main_c_2
  let main_v7 : IVec S1 1 := cmpi .sle main_arg1 main_v6
  (main_v1, main_v3, main_v5, main_v7)
-- ==== Pre_routed.lean ====
abbrev S296 : Shape := ⟨1, ![296]⟩
abbrev S1 : Shape := ⟨1, ![1]⟩
abbrev S75776x1024 : Shape := ⟨2, ![75776, 1024]⟩
abbrev S16x1024x2816 : Shape := ⟨3, ![16, 1024, 2816]⟩
abbrev S16x2816x1024 : Shape := ⟨3, ![16, 2816, 1024]⟩
abbrev S_ : Shape := ⟨0, ![]⟩

class Facts : Prop where
  bcast_S_S296 : S_.BroadcastsInDim S296 (![] : Fin 0 → Fin S296.rank)
  bcast_S_S1 : S_.BroadcastsInDim S1 (![] : Fin 0 → Fin S1.rank)

variable [Facts]

def fn {F : FTy → Type} [FloatOps F] (main_arg0 : IVec S296 32) (main_arg1 : IVec S1 32) (main_arg2 : FVec F S75776x1024 .f32) (main_arg3 : FVec F S16x1024x2816 .bf16) (main_arg4 : FVec F S16x1024x2816 .bf16) (main_arg5 : FVec F S16x2816x1024 .bf16) : IVec S296 1 × IVec S296 1 × IVec S1 1 × IVec S1 1 :=
  let main_c : IVec S_ 32 := constantI S_ 32 0#32
  let main_v0 : IVec S296 32 := broadcastInDim S296 ![] bcast_S_S296 main_c
  let main_v1 : IVec S296 1 := cmpi .sge main_arg0 main_v0
  let main_c_0 : IVec S_ 32 := constantI S_ 32 16#32
  let main_v2 : IVec S296 32 := broadcastInDim S296 ![] bcast_S_S296 main_c_0
  let main_v3 : IVec S296 1 := cmpi .slt main_arg0 main_v2
  let main_c_1 : IVec S_ 32 := constantI S_ 32 1#32
  let main_v4 : IVec S1 32 := broadcastInDim S1 ![] bcast_S_S1 main_c_1
  let main_v5 : IVec S1 1 := cmpi .sge main_arg1 main_v4
  let main_c_2 : IVec S_ 32 := constantI S_ 32 296#32
  let main_v6 : IVec S1 32 := broadcastInDim S1 ![] bcast_S_S1 main_c_2
  let main_v7 : IVec S1 1 := cmpi .sle main_arg1 main_v6
  (main_v1, main_v3, main_v5, main_v7)
-- ==== Kernel.lean ====
abbrev S16x2304x768 : Shape := ⟨3, ![16, 2304, 768]⟩
abbrev S16x1024x2304 : Shape := ⟨3, ![16, 1024, 2304]⟩
abbrev S16x2304x1024 : Shape := ⟨3, ![16, 2304, 1024]⟩
abbrev S16x2304x512 : Shape := ⟨3, ![16, 2304, 512]⟩
abbrev S16x2x6x1024 : Shape := ⟨4, ![16, 2, 6, 1024]⟩
abbrev S1024x1024 : Shape := ⟨2, ![1024, 1024]⟩
abbrev S3x256 : Shape := ⟨2, ![3, 256]⟩
abbrev S64 : Shape := ⟨1, ![64]⟩
abbrev S4x32 : Shape := ⟨2, ![4, 32]⟩
abbrev S128 : Shape := ⟨1, ![128]⟩
abbrev S_ : Shape := ⟨0, ![]⟩
abbrev S1x128 : Shape := ⟨2, ![1, 128]⟩
abbrev S8x128 : Shape := ⟨2, ![8, 128]⟩
abbrev S256 : Shape := ⟨1, ![256]⟩
abbrev S1x256 : Shape := ⟨2, ![1, 256]⟩
abbrev S1x64 : Shape := ⟨2, ![1, 64]⟩
abbrev S4x64 : Shape := ⟨2, ![4, 64]⟩
abbrev S8x256 : Shape := ⟨2, ![8, 256]⟩
abbrev S1x256x768 : Shape := ⟨3, ![1, 256, 768]⟩
abbrev S1x1024x2304 : Shape := ⟨3, ![1, 1024, 2304]⟩
abbrev S1x2304x1024 : Shape := ⟨3, ![1, 2304, 1024]⟩
abbrev S1x256x512 : Shape := ⟨3, ![1, 256, 512]⟩
abbrev S1x8x512 : Shape := ⟨3, ![1, 8, 512]⟩
abbrev S1x256x1024 : Shape := ⟨3, ![1, 256, 1024]⟩
abbrev S1x1x6x1024 : Shape := ⟨4, ![1, 1, 6, 1024]⟩
abbrev S256x128 : Shape := ⟨2, ![256, 128]⟩
abbrev S1x32 : Shape := ⟨2, ![1, 32]⟩
abbrev S1 : Shape := ⟨1, ![1]⟩
abbrev S1x1 : Shape := ⟨2, ![1, 1]⟩
abbrev S1x256x128 : Shape := ⟨3, ![1, 256, 128]⟩
abbrev S256x256 : Shape := ⟨2, ![256, 256]⟩
abbrev S512x256 : Shape := ⟨2, ![512, 256]⟩
abbrev S1x256x256 : Shape := ⟨3, ![1, 256, 256]⟩
abbrev S512x128 : Shape := ⟨2, ![512, 128]⟩
abbrev S1x1x256 : Shape := ⟨3, ![1, 1, 256]⟩
abbrev S128x128 : Shape := ⟨2, ![128, 128]⟩
abbrev S256x1024 : Shape := ⟨2, ![256, 1024]⟩
abbrev S1x1x1x1024 : Shape := ⟨4, ![1, 1, 1, 1024]⟩
abbrev S1x1024 : Shape := ⟨2, ![1, 1024]⟩

abbrev nBuf : Space → Nat
  | .hbm => 139
  | .vmem => 22
  | .smem => 0
  | _ => 0

abbrev hbmTy0_0 (i : Nat) : BufTy := match i % 128 with
  | 0 => ⟨S16x2304x768, .bf16⟩
  | 1 => ⟨S16x1024x2304, .bf16⟩
  | 2 => ⟨S16x2304x1024, .bf16⟩
  | 3 => ⟨S16x2304x512, .f32⟩
  | 4 => ⟨S16x2304x1024, .f32⟩
  | 5 => ⟨S16x2x6x1024, .f32⟩
  | 6 => ⟨S1024x1024, .f32⟩
  | 7 => ⟨S3x256, .f32⟩
  | 8 => ⟨S64, .f32⟩
  | 9 => ⟨S4x32, .f32⟩
  | 10 => ⟨S128, .i32⟩
  | 11 => ⟨S_, .i32⟩
  | 12 => ⟨S128, .i32⟩
  | 13 => ⟨S128, .i1⟩
  | 14 => ⟨S_, .i32⟩
  | 15 => ⟨S128, .i32⟩
  | 16 => ⟨S128, .i1⟩
  | 17 => ⟨S_, .i32⟩
  | 18 => ⟨S_, .i32⟩
  | 19 => ⟨S128, .i32⟩
  | 20 => ⟨S128, .i32⟩
  | 21 => ⟨S128, .i32⟩
  | 22 => ⟨S_, .i32⟩
  | 23 => ⟨S128, .i32⟩
  | 24 => ⟨S128, .i1⟩
  | 25 => ⟨S128, .i32⟩
  | 26 => ⟨S128, .i32⟩
  | 27 => ⟨S_, .i32⟩
  | 28 => ⟨S128, .i32⟩
  | 29 => ⟨S128, .i1⟩
  | 30 => ⟨S128, .i1⟩
  | 31 => ⟨S_, .i32⟩
  | 32 => ⟨S128, .i32⟩
  | 33 => ⟨S128, .i32⟩
  | 34 => ⟨S128, .i32⟩
  | 35 => ⟨S_, .i32⟩
  | 36 => ⟨S128, .i32⟩
  | 37 => ⟨S128, .i1⟩
  | 38 => ⟨S_, .i32⟩
  | 39 => ⟨S_, .i32⟩
  | 40 => ⟨S128, .i32⟩
  | 41 => ⟨S128, .i32⟩
  | 42 => ⟨S128, .i32⟩
  | 43 => ⟨S_, .i32⟩
  | 44 => ⟨S128, .i32⟩
  | 45 => ⟨S128, .i1⟩
  | 46 => ⟨S128, .i32⟩
  | 47 => ⟨S128, .i32⟩
  | 48 => ⟨S_, .i32⟩
  | 49 => ⟨S128, .i32⟩
  | 50 => ⟨S128, .i1⟩
  | 51 => ⟨S128, .i1⟩
  | 52 => ⟨S_, .i32⟩
  | 53 => ⟨S128, .i32⟩
  | 54 => ⟨S128, .i32⟩
  | 55 => ⟨S128, .i32⟩
  | 56 => ⟨S_, .i32⟩
  | 57 => ⟨S128, .i32⟩
  | 58 => ⟨S128, .i1⟩
  | 59 => ⟨S_, .i32⟩
  | 60 => ⟨S_, .i32⟩
  | 61 => ⟨S128, .i32⟩
  | 62 => ⟨S128, .i32⟩
  | 63 => ⟨S128, .i32⟩
  | 64 => ⟨S_, .i32⟩
  | 65 => ⟨S128, .i32⟩
  | 66 => ⟨S128, .i1⟩
  | 67 => ⟨S128, .i32⟩
  | 68 => ⟨S128, .i32⟩
  | 69 => ⟨S_, .i32⟩
  | 70 => ⟨S128, .i32⟩
  | 71 => ⟨S128, .i1⟩
  | 72 => ⟨S128, .i1⟩
  | 73 => ⟨S_, .i32⟩
  | 74 => ⟨S128, .i32⟩
  | 75 => ⟨S128, .i32⟩
  | 76 => ⟨S128, .i32⟩
  | 77 => ⟨S_, .i32⟩
  | 78 => ⟨S128, .i32⟩
  | 79 => ⟨S128, .i1⟩
  | 80 => ⟨S_, .i32⟩
  | 81 => ⟨S_, .i32⟩
  | 82 => ⟨S128, .i32⟩
  | 83 => ⟨S128, .i32⟩
  | 84 => ⟨S128, .i32⟩
  | 85 => ⟨S_, .i32⟩
  | 86 => ⟨S128, .i32⟩
  | 87 => ⟨S128, .i1⟩
  | 88 => ⟨S128, .i32⟩
  | 89 => ⟨S128, .i32⟩
  | 90 => ⟨S_, .i32⟩
  | 91 => ⟨S128, .i32⟩
  | 92 => ⟨S128, .i1⟩
  | 93 => ⟨S128, .i1⟩
  | 94 => ⟨S_, .i32⟩
  | 95 => ⟨S128, .i32⟩
  | 96 => ⟨S128, .i32⟩
  | 97 => ⟨S128, .i32⟩
  | 98 => ⟨S_, .i32⟩
  | 99 => ⟨S128, .i32⟩
  | 100 => ⟨S128, .i1⟩
  | 101 => ⟨S_, .i32⟩
  | 102 => ⟨S128, .i32⟩
  | 103 => ⟨S128, .i1⟩
  | 104 => ⟨S_, .i32⟩
  | 105 => ⟨S128, .i32⟩
  | 106 => ⟨S128, .i1⟩
  | 107 => ⟨S1x128, .i1⟩
  | 108 => ⟨S1x128, .i1⟩
  | 109 => ⟨S1x128, .i1⟩
  | 110 => ⟨S1x128, .i1⟩
  | 111 => ⟨S1x128, .i1⟩
  | 112 => ⟨S1x128, .i1⟩
  | 113 => ⟨S1x128, .i1⟩
  | 114 => ⟨S1x128, .i1⟩
  | 115 => ⟨S8x128, .i1⟩
  | 116 => ⟨S8x128, .bf16⟩
  | 117 => ⟨S_, .f32⟩
  | 118 => ⟨S256, .f32⟩
  | 119 => ⟨S1x256, .f32⟩
  | 120 => ⟨S256, .f32⟩
  | 121 => ⟨S1x256, .f32⟩
  | 122 => ⟨S256, .f32⟩
  | 123 => ⟨S1x256, .f32⟩
  | 124 => ⟨S256, .f32⟩
  | 125 => ⟨S1x64, .f32⟩
  | 126 => ⟨S4x64, .f32⟩
  | 127 => ⟨S256, .f32⟩
  | _ => ⟨S16x2304x768, .bf16⟩

abbrev hbmTy0_1 (i : Nat) : BufTy := match i % 128 with
  | 0 => ⟨S1x256, .f32⟩
  | 1 => ⟨S1x256, .f32⟩
  | 2 => ⟨S1x256, .f32⟩
  | 3 => ⟨S1x256, .f32⟩
  | 4 => ⟨S1x256, .f32⟩
  | 5 => ⟨S1x256, .f32⟩
  | 6 => ⟨S1x256, .f32⟩
  | 7 => ⟨S1x256, .f32⟩
  | 8 => ⟨S8x256, .f32⟩
  | 9 => ⟨S1024x1024, .bf16⟩
  | 10 => ⟨S16x2304x1024, .f32⟩
  | _ => ⟨S16x2304x768, .bf16⟩

abbrev hbmTy (i : Nat) : BufTy := match i / 128 with
  | 0 => hbmTy0_0 i
  | 1 => hbmTy0_1 i
  | _ => ⟨S16x2304x768, .bf16⟩

abbrev bufTy : (tb : Table) → Fin (tcTables nBuf tb) → BufTy
  | .hbm, ⟨i, _⟩ => hbmTy i
  | .local _ .vmem, ⟨0, _⟩ => ⟨S1x256x768, .bf16⟩
  | .local _ .vmem, ⟨1, _⟩ => ⟨S1x256x768, .bf16⟩
  | .local _ .vmem, ⟨2, _⟩ => ⟨S1x1024x2304, .bf16⟩
  | .local _ .vmem, ⟨3, _⟩ => ⟨S1x1024x2304, .bf16⟩
  | .local _ .vmem, ⟨4, _⟩ => ⟨S1x2304x1024, .bf16⟩
  | .local _ .vmem, ⟨5, _⟩ => ⟨S1x2304x1024, .bf16⟩
  | .local _ .vmem, ⟨6, _⟩ => ⟨S1x256x512, .f32⟩
  | .local _ .vmem, ⟨7, _⟩ => ⟨S1x256x512, .f32⟩
  | .local _ .vmem, ⟨8, _⟩ => ⟨S1x8x512, .f32⟩
  | .local _ .vmem, ⟨9, _⟩ => ⟨S1x8x512, .f32⟩
  | .local _ .vmem, ⟨10, _⟩ => ⟨S1x8x512, .f32⟩
  | .local _ .vmem, ⟨11, _⟩ => ⟨S1x8x512, .f32⟩
  | .local _ .vmem, ⟨12, _⟩ => ⟨S1x256x1024, .f32⟩
  | .local _ .vmem, ⟨13, _⟩ => ⟨S1x256x1024, .f32⟩
  | .local _ .vmem, ⟨14, _⟩ => ⟨S1x1x6x1024, .f32⟩
  | .local _ .vmem, ⟨15, _⟩ => ⟨S1x1x6x1024, .f32⟩
  | .local _ .vmem, ⟨16, _⟩ => ⟨S1024x1024, .bf16⟩
  | .local _ .vmem, ⟨17, _⟩ => ⟨S8x128, .bf16⟩
  | .local _ .vmem, ⟨18, _⟩ => ⟨S8x256, .f32⟩
  | .local _ .vmem, ⟨19, _⟩ => ⟨S4x32, .f32⟩
  | .local _ .vmem, ⟨20, _⟩ => ⟨S1x256x1024, .f32⟩
  | .local _ .vmem, ⟨21, _⟩ => ⟨S1x256x1024, .f32⟩
  | _, _ => ⟨S16x2304x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v5 : Ref sig .tc := ⟨.hbm, 34, rfl⟩
abbrev main_c_2 : Ref sig .tc := ⟨.hbm, 35, rfl⟩
abbrev main_v6 : Ref sig .tc := ⟨.hbm, 36, rfl⟩
abbrev main_v7 : Ref sig .tc := ⟨.hbm, 37, rfl⟩
abbrev main_c_3 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v8 : Ref sig .tc := ⟨.hbm, 55, rfl⟩
abbrev main_c_4 : Ref sig .tc := ⟨.hbm, 56, rfl⟩
abbrev main_v9 : Ref sig .tc := ⟨.hbm, 57, rfl⟩
abbrev main_v10 : Ref sig .tc := ⟨.hbm, 58, rfl⟩
abbrev main_c_5 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_c : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_0 : Ref sig .tc := ⟨.hbm, 73, rfl⟩
abbrev main_call2_v12 : Ref sig .tc := ⟨.hbm, 74, rfl⟩
abbrev main_call2_v13 : Ref sig .tc := ⟨.hbm, 75, rfl⟩
abbrev main_v11 : Ref sig .tc := ⟨.hbm, 76, rfl⟩
abbrev main_c_6 : Ref sig .tc := ⟨.hbm, 77, rfl⟩
abbrev main_v12 : Ref sig .tc := ⟨.hbm, 78, rfl⟩
abbrev main_v13 : Ref sig .tc := ⟨.hbm, 79, rfl⟩
abbrev main_c_7 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_c : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_0 : Ref sig .tc := ⟨.hbm, 94, rfl⟩
abbrev main_call3_v12 : Ref sig .tc := ⟨.hbm, 95, rfl⟩
abbrev main_call3_v13 : Ref sig .tc := ⟨.hbm, 96, rfl⟩
abbrev main_v14 : Ref sig .tc := ⟨.hbm, 97, rfl⟩
abbrev main_c_8 : Ref sig .tc := ⟨.hbm, 98, rfl⟩
abbrev main_v15 : Ref sig .tc := ⟨.hbm, 99, rfl⟩
abbrev main_v16 : Ref sig .tc := ⟨.hbm, 100, rfl⟩
abbrev main_c_9 : Ref sig .tc := ⟨.hbm, 101, rfl⟩
abbrev main_v17 : Ref sig .tc := ⟨.hbm, 102, rfl⟩
abbrev main_v18 : Ref sig .tc := ⟨.hbm, 103, rfl⟩
abbrev main_c_10 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_cst : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_v44 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c8_i32 : BitVec 32 := 8#32
  let v23 : BitVec 1 := Scalar.cmpi .slt arg1 c8_i32
  let v24 : BitVec 32 := Scalar.extui v23
  let c0_i32_5 : BitVec 32 := 0#32
  let v25 : BitVec 1 := Scalar.cmpi .ne v24 c0_i32_5
  v25

def k0_cond2 (i : grid0.Coords) : BitVec 1 :=
  let arg1 : BitVec 32 := BitVec.ofNat 32 (i 1).val
  let c8_i32_6 : BitVec 32 := 8#32
  let v26 : BitVec 1 := Scalar.cmpi .sge arg1 c8_i32_6
  let v27 : BitVec 32 := Scalar.extui v26
  let c0_i32_7 : BitVec 32 := 0#32
  let v28 : BitVec 1 := Scalar.cmpi .ne v27 c0_i32_7
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c287_i32 : BitVec 32 := 287#32
  let v2 : BitVec 32 := Scalar.minsi v1 c287_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S16x2304x768 : Shape := ⟨3, ![16, 2304, 768]⟩
abbrev S16x1024x2304 : Shape := ⟨3, ![16, 1024, 2304]⟩
abbrev S16x2304x1024 : Shape := ⟨3, ![16, 2304, 1024]⟩
abbrev S16x2304x512 : Shape := ⟨3, ![16, 2304, 512]⟩
abbrev S16x2x6x1024 : Shape := ⟨4, ![16, 2, 6, 1024]⟩
abbrev S1024x1024 : Shape := ⟨2, ![1024, 1024]⟩
abbrev S3x256 : Shape := ⟨2, ![3, 256]⟩
abbrev S64 : Shape := ⟨1, ![64]⟩
abbrev S4x32 : Shape := ⟨2, ![4, 32]⟩
abbrev S16x2304x4x256 : Shape := ⟨4, ![16, 2304, 4, 256]⟩
abbrev S16x2304x2x4x64 : Shape := ⟨5, ![16, 2304, 2, 4, 64]⟩
abbrev S16x2304x2x64 : Shape := ⟨4, ![16, 2304, 2, 64]⟩
abbrev S16x2304x256 : Shape := ⟨3, ![16, 2304, 256]⟩
abbrev S16x2304x4x2x32 : Shape := ⟨5, ![16, 2304, 4, 2, 32]⟩
abbrev S16x2304x2x128 : Shape := ⟨4, ![16, 2304, 2, 128]⟩
abbrev S16x2304x2x1x64 : Shape := ⟨5, ![16, 2304, 2, 1, 64]⟩
abbrev S16x2304x2x2x64 : Shape := ⟨5, ![16, 2304, 2, 2, 64]⟩
abbrev S16x2304x4x64 : Shape := ⟨4, ![16, 2304, 4, 64]⟩
abbrev S1x32 : Shape := ⟨2, ![1, 32]⟩
abbrev S32 : Shape := ⟨1, ![32]⟩
abbrev S_ : Shape := ⟨0, ![]⟩
abbrev S16x1x1x1024 : Shape := ⟨4, ![16, 1, 1, 1024]⟩
abbrev S16x1x1024 : Shape := ⟨3, ![16, 1, 1024]⟩
abbrev S16x2048x2x4x64 : Shape := ⟨5, ![16, 2048, 2, 4, 64]⟩
abbrev S16x2x2304x2048x4 : Shape := ⟨5, ![16, 2, 2304, 2048, 4]⟩
abbrev S16x2x4x2048x2304 : Shape := ⟨5, ![16, 2, 4, 2048, 2304]⟩
abbrev S16x2x4x2048 : Shape := ⟨4, ![16, 2, 4, 2048]⟩
abbrev S16x2x4x2048x1 : Shape := ⟨5, ![16, 2, 4, 2048, 1]⟩
abbrev S16x2x64x4x2048 : Shape := ⟨5, ![16, 2, 64, 4, 2048]⟩
abbrev S16x2048x4x2x32 : Shape := ⟨5, ![16, 2048, 4, 2, 32]⟩
abbrev S16x4x2x2048x2304 : Shape := ⟨5, ![16, 4, 2, 2048, 2304]⟩
abbrev S16x4x2x2048 : Shape := ⟨4, ![16, 4, 2, 2048]⟩
abbrev S16x4x2x2048x1 : Shape := ⟨5, ![16, 4, 2, 2048, 1]⟩
abbrev S16x4x1x2048x2304 : Shape := ⟨5, ![16, 4, 1, 2048, 2304]⟩
abbrev S16x4x2048x2304 : Shape := ⟨4, ![16, 4, 2048, 2304]⟩
abbrev S16x4x64x2048 : Shape := ⟨4, ![16, 4, 64, 2048]⟩
abbrev S16x2048x4x64 : Shape := ⟨4, ![16, 2048, 4, 64]⟩
abbrev S16x2048x256 : Shape := ⟨3, ![16, 2048, 256]⟩
abbrev S16x2050x256 : Shape := ⟨3, ![16, 2050, 256]⟩
abbrev S1x256 : Shape := ⟨2, ![1, 256]⟩
abbrev S256 : Shape := ⟨1, ![256]⟩
abbrev S1x1x256 : Shape := ⟨3, ![1, 1, 256]⟩
abbrev S16x2048x4 : Shape := ⟨3, ![16, 2048, 4]⟩
abbrev S16x2048x4x1 : Shape := ⟨4, ![16, 2048, 4, 1]⟩
abbrev S1x1x1x64 : Shape := ⟨4, ![1, 1, 1, 64]⟩
abbrev S16x2048x512 : Shape := ⟨3, ![16, 2048, 512]⟩
abbrev S16x2048x1024 : Shape := ⟨3, ![16, 2048, 1024]⟩
abbrev S16x256x2x4x64 : Shape := ⟨5, ![16, 256, 2, 4, 64]⟩
abbrev S16x256x2x64 : Shape := ⟨4, ![16, 256, 2, 64]⟩
abbrev S16x2x256x256x4 : Shape := ⟨5, ![16, 2, 256, 256, 4]⟩
abbrev S16x2x4x256x256 : Shape := ⟨5, ![16, 2, 4, 256, 256]⟩
abbrev S16x2x4x256 : Shape := ⟨4, ![16, 2, 4, 256]⟩
abbrev S16x2x4x256x1 : Shape := ⟨5, ![16, 2, 4, 256, 1]⟩
abbrev S16x2x64x4x256 : Shape := ⟨5, ![16, 2, 64, 4, 256]⟩
abbrev S16x256x4x2x32 : Shape := ⟨5, ![16, 256, 4, 2, 32]⟩
abbrev S16x256x4x64 : Shape := ⟨4, ![16, 256, 4, 64]⟩
abbrev S16x4x2x256x256 : Shape := ⟨5, ![16, 4, 2, 256, 256]⟩
abbrev S16x4x2x256 : Shape := ⟨4, ![16, 4, 2, 256]⟩
abbrev S16x4x2x256x1 : Shape := ⟨5, ![16, 4, 2, 256, 1]⟩
abbrev S16x4x1x256x256 : Shape := ⟨5, ![16, 4, 1, 256, 256]⟩
abbrev S16x4x256x256 : Shape := ⟨4, ![16, 4, 256, 256]⟩
abbrev S16x4x64x256 : Shape := ⟨4, ![16, 4, 64, 256]⟩
abbrev S16x256x256 : Shape := ⟨3, ![16, 256, 256]⟩
abbrev S16x258x256 : Shape := ⟨3, ![16, 258, 256]⟩
abbrev S16x256x4 : Shape := ⟨3, ![16, 256, 4]⟩
abbrev S16x256x4x1 : Shape := ⟨4, ![16, 256, 4, 1]⟩
abbrev S16x256x512 : Shape := ⟨3, ![16, 256, 512]⟩
abbrev S16x256x1024 : Shape := ⟨3, ![16, 256, 1024]⟩

abbrev nBuf : Space → Nat
  | .hbm => 270
  | .vmem => 0
  | .smem => 0
  | _ => 0

abbrev hbmTy0_0 (i : Nat) : BufTy := match i % 128 with
  | 0 => ⟨S16x2304x768, .bf16⟩
  | 1 => ⟨S16x1024x2304, .bf16⟩
  | 2 => ⟨S16x2304x1024, .bf16⟩
  | 3 => ⟨S16x2304x512, .f32⟩
  | 4 => ⟨S16x2304x1024, .f32⟩
  | 5 => ⟨S16x2x6x1024, .f32⟩
  | 6 => ⟨S1024x1024, .f32⟩
  | 7 => ⟨S3x256, .f32⟩
  | 8 => ⟨S64, .f32⟩
  | 9 => ⟨S4x32, .f32⟩
  | 10 => ⟨S16x2304x768, .f32⟩
  | 11 => ⟨S16x1024x2304, .f32⟩
  | 12 => ⟨S16x2304x1024, .f32⟩
  | 13 => ⟨S16x2304x1024, .f32⟩
  | 14 => ⟨S16x2304x4x256, .f32⟩
  | 15 => ⟨S16x2304x4x256, .f32⟩
  | 16 => ⟨S16x2304x512, .f32⟩
  | 17 => ⟨S16x2304x2x4x64, .f32⟩
  | 18 => ⟨S16x2304x2x64, .f32⟩
  | 19 => ⟨S16x2304x2x64, .f32⟩
  | 20 => ⟨S16x2304x256, .f32⟩
  | 21 => ⟨S16x2304x4x2x32, .f32⟩
  | 22 => ⟨S16x2304x2x128, .f32⟩
  | 23 => ⟨S16x2304x4x2x32, .f32⟩
  | 24 => ⟨S16x2304x2x64, .f32⟩
  | 25 => ⟨S16x2304x2x64, .f32⟩
  | 26 => ⟨S16x2304x2x1x64, .f32⟩
  | 27 => ⟨S16x2304x2x1x64, .f32⟩
  | 28 => ⟨S16x2304x2x2x64, .f32⟩
  | 29 => ⟨S16x2304x4x64, .f32⟩
  | 30 => ⟨S16x2304x256, .f32⟩
  | 31 => ⟨S16x2304x256, .f32⟩
  | 32 => ⟨S1x32, .f32⟩
  | 33 => ⟨S32, .f32⟩
  | 34 => ⟨S1x32, .f32⟩
  | 35 => ⟨S32, .f32⟩
  | 36 => ⟨S32, .f32⟩
  | 37 => ⟨S_, .f32⟩
  | 38 => ⟨S_, .f32⟩
  | 39 => ⟨S_, .f32⟩
  | 40 => ⟨S1x32, .f32⟩
  | 41 => ⟨S32, .f32⟩
  | 42 => ⟨S1x32, .f32⟩
  | 43 => ⟨S32, .f32⟩
  | 44 => ⟨S32, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S16x1x1x1024, .f32⟩
  | 52 => ⟨S16x1x1024, .f32⟩
  | 53 => ⟨S16x2048x2x4x64, .f32⟩
  | 54 => ⟨S16x2x2304x2048x4, .f32⟩
  | 55 => ⟨S16x2x4x2048x2304, .f32⟩
  | 56 => ⟨S_, .f32⟩
  | 57 => ⟨S_, .f32⟩
  | 58 => ⟨S16x2x4x2048x2304, .f32⟩
  | 59 => ⟨S16x2x4x2048x2304, .f32⟩
  | 60 => ⟨S_, .f32⟩
  | 61 => ⟨S16x2x4x2048, .f32⟩
  | 62 => ⟨S_, .f32⟩
  | 63 => ⟨S16x2x4x2048, .f32⟩
  | 64 => ⟨S16x2x4x2048, .f32⟩
  | 65 => ⟨S16x2x4x2048x1, .f32⟩
  | 66 => ⟨S16x2x4x2048x2304, .f32⟩
  | 67 => ⟨S16x2x4x2048x2304, .f32⟩
  | 68 => ⟨S16x2x4x2048x2304, .f32⟩
  | 69 => ⟨S_, .f32⟩
  | 70 => ⟨S16x2x4x2048, .f32⟩
  | 71 => ⟨S16x2x4x2048x1, .f32⟩
  | 72 => ⟨S16x2x4x2048x2304, .f32⟩
  | 73 => ⟨S16x2x4x2048x2304, .f32⟩
  | 74 => ⟨S16x2x64x4x2048, .f32⟩
  | 75 => ⟨S16x2048x2x4x64, .f32⟩
  | 76 => ⟨S16x2048x4x2x32, .f32⟩
  | 77 => ⟨S16x4x2x2048x2304, .f32⟩
  | 78 => ⟨S_, .f32⟩
  | 79 => ⟨S_, .f32⟩
  | 80 => ⟨S16x4x2x2048x2304, .f32⟩
  | 81 => ⟨S16x4x2x2048x2304, .f32⟩
  | 82 => ⟨S_, .f32⟩
  | 83 => ⟨S16x4x2x2048, .f32⟩
  | 84 => ⟨S_, .f32⟩
  | 85 => ⟨S16x4x2x2048, .f32⟩
  | 86 => ⟨S16x4x2x2048, .f32⟩
  | 87 => ⟨S16x4x2x2048x1, .f32⟩
  | 88 => ⟨S16x4x2x2048x2304, .f32⟩
  | 89 => ⟨S16x4x2x2048x2304, .f32⟩
  | 90 => ⟨S16x4x2x2048x2304, .f32⟩
  | 91 => ⟨S_, .f32⟩
  | 92 => ⟨S16x4x2x2048, .f32⟩
  | 93 => ⟨S16x4x2x2048x1, .f32⟩
  | 94 => ⟨S16x4x2x2048x2304, .f32⟩
  | 95 => ⟨S16x4x2x2048x2304, .f32⟩
  | 96 => ⟨S16x4x1x2048x2304, .f32⟩
  | 97 => ⟨S16x4x2048x2304, .f32⟩
  | 98 => ⟨S16x4x1x2048x2304, .f32⟩
  | 99 => ⟨S16x4x2048x2304, .f32⟩
  | 100 => ⟨S16x4x2048x2304, .f32⟩
  | 101 => ⟨S16x4x2048x2304, .f32⟩
  | 102 => ⟨S16x4x2048x2304, .f32⟩
  | 103 => ⟨S16x4x64x2048, .f32⟩
  | 104 => ⟨S16x2048x4x64, .f32⟩
  | 105 => ⟨S16x2048x256, .f32⟩
  | 106 => ⟨S16x2048x256, .f32⟩
  | 107 => ⟨S_, .i32⟩
  | 108 => ⟨S_, .f32⟩
  | 109 => ⟨S16x2050x256, .f32⟩
  | 110 => ⟨S1x256, .f32⟩
  | 111 => ⟨S256, .f32⟩
  | 112 => ⟨S16x2048x256, .f32⟩
  | 113 => ⟨S1x1x256, .f32⟩
  | 114 => ⟨S16x2048x256, .f32⟩
  | 115 => ⟨S16x2048x256, .f32⟩
  | 116 => ⟨S1x256, .f32⟩
  | 117 => ⟨S256, .f32⟩
  | 118 => ⟨S16x2048x256, .f32⟩
  | 119 => ⟨S1x1x256, .f32⟩
  | 120 => ⟨S16x2048x256, .f32⟩
  | 121 => ⟨S16x2048x256, .f32⟩
  | 122 => ⟨S16x2048x256, .f32⟩
  | 123 => ⟨S1x256, .f32⟩
  | 124 => ⟨S256, .f32⟩
  | 125 => ⟨S16x2048x256, .f32⟩
  | 126 => ⟨S1x1x256, .f32⟩
  | 127 => ⟨S16x2048x256, .f32⟩
  | _ => ⟨S16x2304x768, .bf16⟩

abbrev hbmTy0_1 (i : Nat) : BufTy := match i % 128 with
  | 0 => ⟨S16x2048x256, .f32⟩
  | 1 => ⟨S16x2048x256, .f32⟩
  | 2 => ⟨S16x2048x256, .f32⟩
  | 3 => ⟨S16x2048x4x64, .f32⟩
  | 4 => ⟨S_, .f32⟩
  | 5 => ⟨S16x2048x4, .f32⟩
  | 6 => ⟨S16x2048x4x1, .f32⟩
  | 7 => ⟨S_, .f32⟩
  | 8 => ⟨S16x2048x4x1, .f32⟩
  | 9 => ⟨S16x2048x4x1, .f32⟩
  | 10 => ⟨S_, .f32⟩
  | 11 => ⟨S16x2048x4x1, .f32⟩
  | 12 => ⟨S16x2048x4x1, .f32⟩
  | 13 => ⟨S16x2048x4x1, .f32⟩
  | 14 => ⟨S16x2048x4x64, .f32⟩
  | 15 => ⟨S16x2048x4x64, .f32⟩
  | 16 => ⟨S1x1x1x64, .f32⟩
  | 17 => ⟨S16x2048x4x64, .f32⟩
  | 18 => ⟨S16x2048x4x64, .f32⟩
  | 19 => ⟨S_, .f32⟩
  | 20 => ⟨S16x2048x4x64, .f32⟩
  | 21 => ⟨S16x2048x4x64, .f32⟩
  | 22 => ⟨S16x2048x512, .f32⟩
  | 23 => ⟨S16x2048x256, .f32⟩
  | 24 => ⟨S16x2048x1024, .f32⟩
  | 25 => ⟨S16x2048x1024, .f32⟩
  | 26 => ⟨S16x2048x1024, .f32⟩
  | 27 => ⟨S16x2048x1024, .f32⟩
  | 28 => ⟨S16x2048x1024, .f32⟩
  | 29 => ⟨S16x2048x1024, .f32⟩
  | 30 => ⟨S16x1x1x1024, .f32⟩
  | 31 => ⟨S16x1x1024, .f32⟩
  | 32 => ⟨S16x256x2x4x64, .f32⟩
  | 33 => ⟨S16x256x2x64, .f32⟩
  | 34 => ⟨S16x256x2x64, .f32⟩
  | 35 => ⟨S16x2x256x256x4, .f32⟩
  | 36 => ⟨S16x2x4x256x256, .f32⟩
  | 37 => ⟨S_, .f32⟩
  | 38 => ⟨S_, .f32⟩
  | 39 => ⟨S16x2x4x256x256, .f32⟩
  | 40 => ⟨S16x2x4x256x256, .f32⟩
  | 41 => ⟨S_, .f32⟩
  | 42 => ⟨S16x2x4x256, .f32⟩
  | 43 => ⟨S_, .f32⟩
  | 44 => ⟨S16x2x4x256, .f32⟩
  | 45 => ⟨S16x2x4x256, .f32⟩
  | 46 => ⟨S16x2x4x256x1, .f32⟩
  | 47 => ⟨S16x2x4x256x256, .f32⟩
  | 48 => ⟨S16x2x4x256x256, .f32⟩
  | 49 => ⟨S16x2x4x256x256, .f32⟩
  | 50 => ⟨S_, .f32⟩
  | 51 => ⟨S16x2x4x256, .f32⟩
  | 52 => ⟨S16x2x4x256x1, .f32⟩
  | 53 => ⟨S16x2x4x256x256, .f32⟩
  | 54 => ⟨S16x2x4x256x256, .f32⟩
  | 55 => ⟨S16x2x64x4x256, .f32⟩
  | 56 => ⟨S16x256x2x4x64, .f32⟩
  | 57 => ⟨S16x256x4x2x32, .f32⟩
  | 58 => ⟨S16x256x4x2x32, .f32⟩
  | 59 => ⟨S16x256x4x64, .f32⟩
  | 60 => ⟨S16x4x2x256x256, .f32⟩
  | 61 => ⟨S_, .f32⟩
  | 62 => ⟨S_, .f32⟩
  | 63 => ⟨S16x4x2x256x256, .f32⟩
  | 64 => ⟨S16x4x2x256x256, .f32⟩
  | 65 => ⟨S_, .f32⟩
  | 66 => ⟨S16x4x2x256, .f32⟩
  | 67 => ⟨S_, .f32⟩
  | 68 => ⟨S16x4x2x256, .f32⟩
  | 69 => ⟨S16x4x2x256, .f32⟩
  | 70 => ⟨S16x4x2x256x1, .f32⟩
  | 71 => ⟨S16x4x2x256x256, .f32⟩
  | 72 => ⟨S16x4x2x256x256, .f32⟩
  | 73 => ⟨S16x4x2x256x256, .f32⟩
  | 74 => ⟨S_, .f32⟩
  | 75 => ⟨S16x4x2x256, .f32⟩
  | 76 => ⟨S16x4x2x256x1, .f32⟩
  | 77 => ⟨S16x4x2x256x256, .f32⟩
  | 78 => ⟨S16x4x2x256x256, .f32⟩
  | 79 => ⟨S16x4x1x256x256, .f32⟩
  | 80 => ⟨S16x4x256x256, .f32⟩
  | 81 => ⟨S16x4x1x256x256, .f32⟩
  | 82 => ⟨S16x4x256x256, .f32⟩
  | 83 => ⟨S16x4x256x256, .f32⟩
  | 84 => ⟨S16x4x256x256, .f32⟩
  | 85 => ⟨S16x4x256x256, .f32⟩
  | 86 => ⟨S16x4x64x256, .f32⟩
  | 87 => ⟨S16x256x4x64, .f32⟩
  | 88 => ⟨S16x256x256, .f32⟩
  | 89 => ⟨S16x256x256, .f32⟩
  | 90 => ⟨S_, .i32⟩
  | 91 => ⟨S_, .f32⟩
  | 92 => ⟨S16x258x256, .f32⟩
  | 93 => ⟨S1x256, .f32⟩
  | 94 => ⟨S256, .f32⟩
  | 95 => ⟨S16x256x256, .f32⟩
  | 96 => ⟨S1x1x256, .f32⟩
  | 97 => ⟨S16x256x256, .f32⟩
  | 98 => ⟨S16x256x256, .f32⟩
  | 99 => ⟨S1x256, .f32⟩
  | 100 => ⟨S256, .f32⟩
  | 101 => ⟨S16x256x256, .f32⟩
  | 102 => ⟨S1x1x256, .f32⟩
  | 103 => ⟨S16x256x256, .f32⟩
  | 104 => ⟨S16x256x256, .f32⟩
  | 105 => ⟨S16x256x256, .f32⟩
  | 106 => ⟨S1x256, .f32⟩
  | 107 => ⟨S256, .f32⟩
  | 108 => ⟨S16x256x256, .f32⟩
  | 109 => ⟨S1x1x256, .f32⟩
  | 110 => ⟨S16x256x256, .f32⟩
  | 111 => ⟨S16x256x256, .f32⟩
  | 112 => ⟨S16x256x256, .f32⟩
  | 113 => ⟨S16x256x256, .f32⟩
  | 114 => ⟨S16x256x4x64, .f32⟩
  | 115 => ⟨S_, .f32⟩
  | 116 => ⟨S16x256x4, .f32⟩
  | 117 => ⟨S16x256x4x1, .f32⟩
  | 118 => ⟨S_, .f32⟩
  | 119 => ⟨S16x256x4x1, .f32⟩
  | 120 => ⟨S16x256x4x1, .f32⟩
  | 121 => ⟨S_, .f32⟩
  | 122 => ⟨S16x256x4x1, .f32⟩
  | 123 => ⟨S16x256x4x1, .f32⟩
  | 124 => ⟨S16x256x4x1, .f32⟩
  | 125 => ⟨S16x256x4x64, .f32⟩
  | 126 => ⟨S16x256x4x64, .f32⟩
  | 127 => ⟨S1x1x1x64, .f32⟩
  | _ => ⟨S16x2304x768, .bf16⟩

abbrev hbmTy0_2 (i : Nat) : BufTy := match i % 128 with
  | 0 => ⟨S16x256x4x64, .f32⟩
  | 1 => ⟨S16x256x4x64, .f32⟩
  | 2 => ⟨S_, .f32⟩
  | 3 => ⟨S16x256x4x64, .f32⟩
  | 4 => ⟨S16x256x4x64, .f32⟩
  | 5 => ⟨S16x256x512, .f32⟩
  | 6 => ⟨S16x256x256, .f32⟩
  | 7 => ⟨S16x256x1024, .f32⟩
  | 8 => ⟨S16x256x1024, .f32⟩
  | 9 => ⟨S16x256x1024, .f32⟩
  | 10 => ⟨S16x256x1024, .f32⟩
  | 11 => ⟨S16x256x1024, .f32⟩
  | 12 => ⟨S16x256x1024, .f32⟩
  | 13 => ⟨S16x2304x1024, .f32⟩
  | _ => ⟨S16x2304x768, .bf16⟩

abbrev hbmTy (i : Nat) : BufTy := match i / 128 with
  | 0 => hbmTy0_0 i
  | 1 => hbmTy0_1 i
  | 2 => hbmTy0_2 i
  | _ => ⟨S16x2304x768, .bf16⟩

abbrev bufTy : (tb : Table) → Fin (tcTables nBuf tb) → BufTy
  | .hbm, ⟨i, _⟩ => hbmTy i
  | _, _ => ⟨S16x2304x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_0 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_1 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_7 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_9 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_c : Ref sig .tc := ⟨.hbm, 107, rfl⟩
abbrev main_call0_v0 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_10 : Ref sig .tc := ⟨.hbm, 132, rfl⟩
abbrev main_v109 : Ref sig .tc := ⟨.hbm, 133, rfl⟩
abbrev main_v110 : Ref sig .tc := ⟨.hbm, 134, rfl⟩
abbrev main_cst_11 : Ref sig .tc := ⟨.hbm, 135, rfl⟩
abbrev main_v111 : Ref sig .tc := ⟨.hbm, 136, rfl⟩
abbrev main_v112 : Ref sig .tc := ⟨.hbm, 137, rfl⟩
abbrev main_cst_12 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_13 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_cst_14 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_cst_15 : Ref sig .tc := ⟨.hbm, 169, rfl⟩
abbrev main_v141 : Ref sig .tc := ⟨.hbm, 170, rfl⟩
abbrev main_cst_16 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_cst_17 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_cst_18 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_cst_19 : Ref sig .tc := ⟨.hbm, 193, rfl⟩
abbrev main_v161 : Ref sig .tc := ⟨.hbm, 194, rfl⟩
abbrev main_cst_20 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_cst_21 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_c_22 : Ref sig .tc := ⟨.hbm, 218, rfl⟩
abbrev main_call1_v0 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_cst_23 : Ref sig .tc := ⟨.hbm, 243, rfl⟩
abbrev main_v206 : Ref sig .tc := ⟨.hbm, 244, rfl⟩
abbrev main_v207 : Ref sig .tc := ⟨.hbm, 245, rfl⟩
abbrev main_cst_24 : Ref sig .tc := ⟨.hbm, 246, rfl⟩
abbrev main_v208 : Ref sig .tc := ⟨.hbm, 247, rfl⟩
abbrev main_v209 : Ref sig .tc := ⟨.hbm, 248, rfl⟩
abbrev main_cst_25 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_cst_26 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩

abbrev nD : Nat := 1
abbrev τ : Topo := Topo.v7x

variable {F : FTy → Type} [FloatOps F]
-- ==== Experts.lean ====
abbrev S296 : Shape := ⟨1, ![296]⟩
abbrev S1 : Shape := ⟨1, ![1]⟩
abbrev S75776x1024 : Shape := ⟨2, ![75776, 1024]⟩
abbrev S16x1024x2816 : Shape := ⟨3, ![16, 1024, 2816]⟩
abbrev S16x2816x1024 : Shape := ⟨3, ![16, 2816, 1024]⟩
abbrev S256x1024 : Shape := ⟨2, ![256, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 5
  | .vmem => 10
  | .smem => 2
  | _ => 0

abbrev bufTy : (tb : Table) → Fin (tcTables nBuf tb) → BufTy
  | .hbm, ⟨0, _⟩ => ⟨S75776x1024, .f32⟩
  | .hbm, ⟨1, _⟩ => ⟨S16x1024x2816, .bf16⟩
  | .hbm, ⟨2, _⟩ => ⟨S16x1024x2816, .bf16⟩
  | .hbm, ⟨3, _⟩ => ⟨S16x2816x1024, .bf16⟩
  | .hbm, ⟨4, _⟩ => ⟨S75776x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S256x1024, .f32⟩
  | .local _ .vmem, ⟨9, _⟩ => ⟨S256x1024, .f32⟩
  | .local _ .smem, ⟨0, _⟩ => ⟨S296, .i32⟩
  | .local _ .smem, ⟨1, _⟩ => ⟨S1, .i32⟩
  | _, _ => ⟨S75776x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![296], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S296 : Shape := ⟨1, ![296]⟩
abbrev S1 : Shape := ⟨1, ![1]⟩
abbrev S75776x1024 : Shape := ⟨2, ![75776, 1024]⟩
abbrev S16x1024x2816 : Shape := ⟨3, ![16, 1024, 2816]⟩
abbrev S16x2816x1024 : Shape := ⟨3, ![16, 2816, 1024]⟩
abbrev S296x1 : Shape := ⟨2, ![296, 1]⟩
abbrev S296x256 : Shape := ⟨2, ![296, 256]⟩
abbrev S75776 : Shape := ⟨1, ![75776]⟩
abbrev S_ : Shape := ⟨0, ![]⟩
abbrev S75776x1 : Shape := ⟨2, ![75776, 1]⟩
abbrev S16 : Shape := ⟨1, ![16]⟩
abbrev S1x16 : Shape := ⟨2, ![1, 16]⟩
abbrev S75776x16 : Shape := ⟨2, ![75776, 16]⟩
abbrev S16x2816x75776 : Shape := ⟨3, ![16, 2816, 75776]⟩
abbrev S16x75776x2816 : Shape := ⟨3, ![16, 75776, 2816]⟩
abbrev S16x75776x1024 : Shape := ⟨3, ![16, 75776, 1024]⟩

abbrev nBuf : Space → Nat
  | .hbm => 44
  | .vmem => 0
  | .smem => 0
  | _ => 0

abbrev bufTy : (tb : Table) → Fin (tcTables nBuf tb) → BufTy
  | .hbm, ⟨0, _⟩ => ⟨S296, .i32⟩
  | .hbm, ⟨1, _⟩ => ⟨S1, .i32⟩
  | .hbm, ⟨2, _⟩ => ⟨S75776x1024, .f32⟩
  | .hbm, ⟨3, _⟩ => ⟨S16x1024x2816, .bf16⟩
  | .hbm, ⟨4, _⟩ => ⟨S16x1024x2816, .bf16⟩
  | .hbm, ⟨5, _⟩ => ⟨S16x2816x1024, .bf16⟩
  | .hbm, ⟨6, _⟩ => ⟨S296x1, .i32⟩
  | .hbm, ⟨7, _⟩ => ⟨S296x256, .i32⟩
  | .hbm, ⟨8, _⟩ => ⟨S75776, .i32⟩
  | .hbm, ⟨9, _⟩ => ⟨S75776, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S75776, .i32⟩
  | .hbm, ⟨14, _⟩ => ⟨S75776, .i1⟩
  | .hbm, ⟨15, _⟩ => ⟨S75776x1, .i32⟩
  | .hbm, ⟨16, _⟩ => ⟨S16, .i32⟩
  | .hbm, ⟨17, _⟩ => ⟨S1x16, .i32⟩
  | .hbm, ⟨18, _⟩ => ⟨S75776x16, .i32⟩
  | .hbm, ⟨19, _⟩ => ⟨S75776x16, .i32⟩
  | .hbm, ⟨20, _⟩ => ⟨S75776x16, .i1⟩
  | .hbm, ⟨21, _⟩ => ⟨S75776x1, .i1⟩
  | .hbm, ⟨22, _⟩ => ⟨S75776x16, .i1⟩
  | .hbm, ⟨23, _⟩ => ⟨S75776x16, .i1⟩
  | .hbm, ⟨24, _⟩ => ⟨S75776x16, .f32⟩
  | .hbm, ⟨25, _⟩ => ⟨S16x1024x2816, .f32⟩
  | .hbm, ⟨26, _⟩ => ⟨S16x1024x2816, .f32⟩
  | .hbm, ⟨27, _⟩ => ⟨S16x2816x1024, .f32⟩
  | .hbm, ⟨28, _⟩ => ⟨S16x2816x75776, .f32⟩
  | .hbm, ⟨29, _⟩ => ⟨S16x75776x2816, .f32⟩
  | .hbm, ⟨30, _⟩ => ⟨S16x2816x75776, .f32⟩
  | .hbm, ⟨31, _⟩ => ⟨S16x75776x2816, .f32⟩
  | .hbm, ⟨32, _⟩ => ⟨S16x75776x2816, .f32⟩
  | .hbm, ⟨33, _⟩ => ⟨S16x75776x2816, .f32⟩
  | .hbm, ⟨34, _⟩ => ⟨S_, .f32⟩
  | .hbm, ⟨35, _⟩ => ⟨S16x75776x2816, .f32⟩
  | .hbm, ⟨36, _⟩ => ⟨S16x75776x2816, .f32⟩
  | .hbm, ⟨37, _⟩ => ⟨S_, .f32⟩
  | .hbm, ⟨38, _⟩ => ⟨S16x75776x2816, .f32⟩
  | .hbm, ⟨39, _⟩ => ⟨S16x75776x2816, .f32⟩
  | .hbm, ⟨40, _⟩ => ⟨S16x75776x2816, .f32⟩
  | .hbm, ⟨41, _⟩ => ⟨S16x75776x2816, .f32⟩
  | .hbm, ⟨42, _⟩ => ⟨S16x75776x1024, .f32⟩
  | .hbm, ⟨43, _⟩ => ⟨S75776x1024, .f32⟩
  | _, _ => ⟨S296, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== LastExperts.lean ====
abbrev S264 : Shape := ⟨1, ![264]⟩
abbrev S1 : Shape := ⟨1, ![1]⟩
abbrev S67584x1024 : Shape := ⟨2, ![67584, 1024]⟩
abbrev S16x1024x2816 : Shape := ⟨3, ![16, 1024, 2816]⟩
abbrev S16x2816x1024 : Shape := ⟨3, ![16, 2816, 1024]⟩
abbrev S256x1024 : Shape := ⟨2, ![256, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 5
  | .vmem => 10
  | .smem => 2
  | _ => 0

abbrev bufTy : (tb : Table) → Fin (tcTables nBuf tb) → BufTy
  | .hbm, ⟨0, _⟩ => ⟨S67584x1024, .f32⟩
  | .hbm, ⟨1, _⟩ => ⟨S16x1024x2816, .bf16⟩
  | .hbm, ⟨2, _⟩ => ⟨S16x1024x2816, .bf16⟩
  | .hbm, ⟨3, _⟩ => ⟨S16x2816x1024, .bf16⟩
  | .hbm, ⟨4, _⟩ => ⟨S67584x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S256x1024, .f32⟩
  | .local _ .vmem, ⟨9, _⟩ => ⟨S256x1024, .f32⟩
  | .local _ .smem, ⟨0, _⟩ => ⟨S264, .i32⟩
  | .local _ .smem, ⟨1, _⟩ => ⟨S1, .i32⟩
  | _, _ => ⟨S67584x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![264], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LastExpertsReferenceIdeal.lean ====
abbrev S264 : Shape := ⟨1, ![264]⟩
abbrev S1 : Shape := ⟨1, ![1]⟩
abbrev S67584x1024 : Shape := ⟨2, ![67584, 1024]⟩
abbrev S16x1024x2816 : Shape := ⟨3, ![16, 1024, 2816]⟩
abbrev S16x2816x1024 : Shape := ⟨3, ![16, 2816, 1024]⟩
abbrev S264x1 : Shape := ⟨2, ![264, 1]⟩
abbrev S264x256 : Shape := ⟨2, ![264, 256]⟩
abbrev S67584 : Shape := ⟨1, ![67584]⟩
abbrev S_ : Shape := ⟨0, ![]⟩
abbrev S67584x1 : Shape := ⟨2, ![67584, 1]⟩
abbrev S16 : Shape := ⟨1, ![16]⟩
abbrev S1x16 : Shape := ⟨2, ![1, 16]⟩
abbrev S67584x16 : Shape := ⟨2, ![67584, 16]⟩
abbrev S16x2816x67584 : Shape := ⟨3, ![16, 2816, 67584]⟩
abbrev S16x67584x2816 : Shape := ⟨3, ![16, 67584, 2816]⟩
abbrev S16x67584x1024 : Shape := ⟨3, ![16, 67584, 1024]⟩

abbrev nBuf : Space → Nat
  | .hbm => 44
  | .vmem => 0
  | .smem => 0
  | _ => 0

abbrev bufTy : (tb : Table) → Fin (tcTables nBuf tb) → BufTy
  | .hbm, ⟨0, _⟩ => ⟨S264, .i32⟩
  | .hbm, ⟨1, _⟩ => ⟨S1, .i32⟩
  | .hbm, ⟨2, _⟩ => ⟨S67584x1024, .f32⟩
  | .hbm, ⟨3, _⟩ => ⟨S16x1024x2816, .bf16⟩
  | .hbm, ⟨4, _⟩ => ⟨S16x1024x2816, .bf16⟩
  | .hbm, ⟨5, _⟩ => ⟨S16x2816x1024, .bf16⟩
  | .hbm, ⟨6, _⟩ => ⟨S264x1, .i32⟩
  | .hbm, ⟨7, _⟩ => ⟨S264x256, .i32⟩
  | .hbm, ⟨8, _⟩ => ⟨S67584, .i32⟩
  | .hbm, ⟨9, _⟩ => ⟨S67584, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S67584, .i32⟩
  | .hbm, ⟨14, _⟩ => ⟨S67584, .i1⟩
  | .hbm, ⟨15, _⟩ => ⟨S67584x1, .i32⟩
  | .hbm, ⟨16, _⟩ => ⟨S16, .i32⟩
  | .hbm, ⟨17, _⟩ => ⟨S1x16, .i32⟩
  | .hbm, ⟨18, _⟩ => ⟨S67584x16, .i32⟩
  | .hbm, ⟨19, _⟩ => ⟨S67584x16, .i32⟩
  | .hbm, ⟨20, _⟩ => ⟨S67584x16, .i1⟩
  | .hbm, ⟨21, _⟩ => ⟨S67584x1, .i1⟩
  | .hbm, ⟨22, _⟩ => ⟨S67584x16, .i1⟩
  | .hbm, ⟨23, _⟩ => ⟨S67584x16, .i1⟩
  | .hbm, ⟨24, _⟩ => ⟨S67584x16, .f32⟩
  | .hbm, ⟨25, _⟩ => ⟨S16x1024x2816, .f32⟩
  | .hbm, ⟨26, _⟩ => ⟨S16x1024x2816, .f32⟩
  | .hbm, ⟨27, _⟩ => ⟨S16x2816x1024, .f32⟩
  | .hbm, ⟨28, _⟩ => ⟨S16x2816x67584, .f32⟩
  | .hbm, ⟨29, _⟩ => ⟨S16x67584x2816, .f32⟩
  | .hbm, ⟨30, _⟩ => ⟨S16x2816x67584, .f32⟩
  | .hbm, ⟨31, _⟩ => ⟨S16x67584x2816, .f32⟩
  | .hbm, ⟨32, _⟩ => ⟨S16x67584x2816, .f32⟩
  | .hbm, ⟨33, _⟩ => ⟨S16x67584x2816, .f32⟩
  | .hbm, ⟨34, _⟩ => ⟨S_, .f32⟩
  | .hbm, ⟨35, _⟩ => ⟨S16x67584x2816, .f32⟩
  | .hbm, ⟨36, _⟩ => ⟨S16x67584x2816, .f32⟩
  | .hbm, ⟨37, _⟩ => ⟨S_, .f32⟩
  | .hbm, ⟨38, _⟩ => ⟨S16x67584x2816, .f32⟩
  | .hbm, ⟨39, _⟩ => ⟨S16x67584x2816, .f32⟩
  | .hbm, ⟨40, _⟩ => ⟨S16x67584x2816, .f32⟩
  | .hbm, ⟨41, _⟩ => ⟨S16x67584x2816, .f32⟩
  | .hbm, ⟨42, _⟩ => ⟨S16x67584x1024, .f32⟩
  | .hbm, ⟨43, _⟩ => ⟨S67584x1024, .f32⟩
  | _, _ => ⟨S264, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Dense.lean ====
abbrev S16x2304x1024 : Shape := ⟨3, ![16, 2304, 1024]⟩
abbrev S16x2x6x1024 : Shape := ⟨4, ![16, 2, 6, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x768x1024 : Shape := ⟨3, ![1, 768, 1024]⟩
abbrev S1x2x6x1024 : Shape := ⟨4, ![1, 2, 6, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x6x1024 : Shape := ⟨4, ![1, 1, 6, 1024]⟩
abbrev S6x1024 : Shape := ⟨2, ![6, 1024]⟩
abbrev S256x2816 : Shape := ⟨2, ![256, 2816]⟩

abbrev nBuf : Space → Nat
  | .hbm => 11
  | .vmem => 10
  | .smem => 0
  | _ => 0

abbrev bufTy : (tb : Table) → Fin (tcTables nBuf tb) → BufTy
  | .hbm, ⟨0, _⟩ => ⟨S16x2304x1024, .f32⟩
  | .hbm, ⟨1, _⟩ => ⟨S16x2x6x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16x2304x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x2x6x1024, .f32⟩
  | .local _ .vmem, ⟨3, _⟩ => ⟨S1x2x6x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x768x1024, .f32⟩
  | .local _ .vmem, ⟨9, _⟩ => ⟨S1x768x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 3], ![false, false]⟩

def k0_off1 (i : grid0.Coords) (c0_i32 : BitVec 32) : Fin 4 → Nat :=
  let c0_i32_7 : BitVec 32 := 0#32
  let arg1 : BitVec 32 := BitVec.ofNat 32 (i 1).val
  let c3_i32 : BitVec 32 := 3#32
  let v0 : BitVec 32 := Scalar.muli arg1 c3_i32
  let v1 : BitVec 32 := Scalar.addi v0 c0_i32
  let c8_i32 : BitVec 32 := 8#32
  let v2 : BitVec 1 := Scalar.cmpi .sge v1 c8_i32
  let c1_i32 : BitVec 32 := 1#32
  let c0_i32_0 : BitVec 32 := 0#32
  let v3 : BitVec 32 := Scalar.select v2 c1_i32 c0_i32_0
  let c0_i32_8 : BitVec 32 := 0#32
  let c0_i32_9 : BitVec 32 := 0#32
  ![0, v3.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DenseReferenceIdeal.lean ====
abbrev S16x2304x1024 : Shape := ⟨3, ![16, 2304, 1024]⟩
abbrev S16x2x6x1024 : Shape := ⟨4, ![16, 2, 6, 1024]⟩
abbrev S1024 : Shape := ⟨1, ![1024]⟩
abbrev S1024x2816 : Shape := ⟨2, ![1024, 2816]⟩
abbrev S2816x1024 : Shape := ⟨2, ![2816, 1024]⟩
abbrev S2304 : Shape := ⟨1, ![2304]⟩
abbrev S_ : Shape := ⟨0, ![]⟩
abbrev S1x2304x1 : Shape := ⟨3, ![1, 2304, 1]⟩
abbrev S16x1x1x1024 : Shape := ⟨4, ![16, 1, 1, 1024]⟩
abbrev S16x1x1024 : Shape := ⟨3, ![16, 1, 1024]⟩
abbrev S16x2304 : Shape := ⟨2, ![16, 2304]⟩
abbrev S16x2304x1 : Shape := ⟨3, ![16, 2304, 1]⟩
abbrev S1x1x1024 : Shape := ⟨3, ![1, 1, 1024]⟩
abbrev S16x2304x2816 : Shape := ⟨3, ![16, 2304, 2816]⟩

abbrev nBuf : Space → Nat
  | .hbm => 71
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S16x2x6x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2304, .i32⟩
  | .hbm, ⟨7, _⟩ => ⟨S_, .i32⟩
  | .hbm, ⟨8, _⟩ => ⟨S2304, .i32⟩
  | .hbm, ⟨9, _⟩ => ⟨S2304, .i1⟩
  | .hbm, ⟨10, _⟩ => ⟨S1x2304x1, .i1⟩
  | .hbm, ⟨11, _⟩ => ⟨S16x1x1x1024, .f32⟩
  | .hbm, ⟨12, _⟩ => ⟨S16x1x1024, .f32⟩
  | .hbm, ⟨13, _⟩ => ⟨S16x1x1x1024, .f32⟩
  | .hbm, ⟨14, _⟩ => ⟨S16x1x1024, .f32⟩
  | .hbm, ⟨15, _⟩ => ⟨S16x2304x1024, .i1⟩
  | .hbm, ⟨16, _⟩ => ⟨S16x2304x1024, .f32⟩
  | .hbm, ⟨17, _⟩ => ⟨S16x2304x1024, .f32⟩
  | .hbm, ⟨18, _⟩ => ⟨S16x2304x1024, .f32⟩
  | .hbm, ⟨19, _⟩ => ⟨S16x1x1x1024, .f32⟩
  | .hbm, ⟨20, _⟩ => ⟨S16x1x1024, .f32⟩
  | .hbm, ⟨21, _⟩ => ⟨S16x1x1x1024, .f32⟩
  | .hbm, ⟨22, _⟩ => ⟨S16x1x1024, .f32⟩
  | .hbm, ⟨23, _⟩ => ⟨S16x2304x1024, .i1⟩
  | .hbm, ⟨24, _⟩ => ⟨S16x2304x1024, .f32⟩
  | .hbm, ⟨25, _⟩ => ⟨S16x2304x1024, .f32⟩
  | .hbm, ⟨26, _⟩ => ⟨S16x2304x1024, .f32⟩
  | .hbm, ⟨27, _⟩ => ⟨S16x1x1x1024, .f32⟩
  | .hbm, ⟨28, _⟩ => ⟨S16x1x1024, .f32⟩
  | .hbm, ⟨29, _⟩ => ⟨S16x1x1x1024, .f32⟩
  | .hbm, ⟨30, _⟩ => ⟨S16x1x1024, .f32⟩
  | .hbm, ⟨31, _⟩ => ⟨S16x2304x1024, .i1⟩
  | .hbm, ⟨32, _⟩ => ⟨S16x2304x1024, .f32⟩
  | .hbm, ⟨33, _⟩ => ⟨S16x2304x1024, .f32⟩
  | .hbm, ⟨34, _⟩ => ⟨S16x2304x1024, .f32⟩
  | .hbm, ⟨35, _⟩ => ⟨S16x2304x1024, .f32⟩
  | .hbm, ⟨36, _⟩ => ⟨S_, .f32⟩
  | .hbm, ⟨37, _⟩ => ⟨S16x2304, .f32⟩
  | .hbm, ⟨38, _⟩ => ⟨S16x2304x1, .f32⟩
  | .hbm, ⟨39, _⟩ => ⟨S_, .f32⟩
  | .hbm, ⟨40, _⟩ => ⟨S16x2304x1, .f32⟩
  | .hbm, ⟨41, _⟩ => ⟨S16x2304x1, .f32⟩
  | .hbm, ⟨42, _⟩ => ⟨S_, .f32⟩
  | .hbm, ⟨43, _⟩ => ⟨S16x2304x1, .f32⟩
  | .hbm, ⟨44, _⟩ => ⟨S16x2304x1, .f32⟩
  | .hbm, ⟨45, _⟩ => ⟨S16x2304x1, .f32⟩
  | .hbm, ⟨46, _⟩ => ⟨S16x2304x1024, .f32⟩
  | .hbm, ⟨47, _⟩ => ⟨S16x2304x1024, .f32⟩
  | .hbm, ⟨48, _⟩ => ⟨S1x1x1024, .f32⟩
  | .hbm, ⟨49, _⟩ => ⟨S16x2304x1024, .f32⟩
  | .hbm, ⟨50, _⟩ => ⟨S16x2304x1024, .f32⟩
  | .hbm, ⟨51, _⟩ => ⟨S_, .f32⟩
  | .hbm, ⟨52, _⟩ => ⟨S16x2304x1024, .f32⟩
  | .hbm, ⟨53, _⟩ => ⟨S16x2304x1024, .f32⟩
  | .hbm, ⟨54, _⟩ => ⟨S16x2304x1024, .f32⟩
  | .hbm, ⟨55, _⟩ => ⟨S16x2304x1024, .f32⟩
  | .hbm, ⟨56, _⟩ => ⟨S16x2304x2816, .f32⟩
  | .hbm, ⟨57, _⟩ => ⟨S16x2304x2816, .f32⟩
  | .hbm, ⟨58, _⟩ => ⟨S16x2304x2816, .f32⟩
  | .hbm, ⟨59, _⟩ => ⟨S_, .f32⟩
  | .hbm, ⟨60, _⟩ => ⟨S16x2304x2816, .f32⟩
  | .hbm, ⟨61, _⟩ => ⟨S16x2304x2816, .f32⟩
  | .hbm, ⟨62, _⟩ => ⟨S_, .f32⟩
  | .hbm, ⟨63, _⟩ => ⟨S16x2304x2816, .f32⟩
  | .hbm, ⟨64, _⟩ => ⟨S16x2304x2816, .f32⟩
  | .hbm, ⟨65, _⟩ => ⟨S16x2304x2816, .f32⟩
  | .hbm, ⟨66, _⟩ => ⟨S16x2304x2816, .f32⟩
  | .hbm, ⟨67, _⟩ => ⟨S16x2304x2816, .f32⟩
  | .hbm, ⟨68, _⟩ => ⟨S16x2304x1024, .f32⟩
  | .hbm, ⟨69, _⟩ => ⟨S16x2304x1024, .f32⟩
  | .hbm, ⟨70, _⟩ => ⟨S16x2304x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_cst_0 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call3_v0 : Ref sig .tc := ⟨.hbm, 57, rfl⟩
abbrev main_call3_v1 : Ref sig .tc := ⟨.hbm, 58, rfl⟩
abbrev main_call3_cst : Ref sig .tc := ⟨.hbm, 59, rfl⟩
abbrev main_call3_v2 : Ref sig .tc := ⟨.hbm, 60, rfl⟩
abbrev main_call3_v3 : Ref sig .tc := ⟨.hbm, 61, rfl⟩
abbrev main_call3_cst_0 : Ref sig .tc := ⟨.hbm, 62, rfl⟩
abbrev main_call3_v4 : Ref sig .tc := ⟨.hbm, 63, rfl⟩
abbrev main_call3_v5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩

abbrev nD : Nat := 1
abbrev τ : Topo := Topo.v7x

variable {F : FTy → Type} [FloatOps F]
-- ==== Proof.IdealRunB.lean ====
/-
  `KernelIdeal`: the run of the attention body on a context tile (the second of its two branches), over the generated skeleton.
  The body is put into its skeleton form by rewriting the ten parts of that branch, each where it stands.
-/
module

public import proofs.«01_k».proof.Proof.Gen.KernelIdeal.Frame.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 8, 17, … 143: 16 of 144), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x256x768 .bf16) (harg2 : arg2.IsWhole) (arg3 : Memref sig .tc .vmem S1x1024x2304 .bf16) (harg3 : arg3.IsWhole) (arg4 : Memref sig .tc .vmem S1x2304x1024 .bf16) (harg4 : arg4.IsWhole) (arg5 : Memref sig .tc .vmem S1x256x512 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x256x1024 .f32) (harg8 : arg8.IsWhole) (arg9 : Memref sig .tc .vmem S1x1x6x1024 .f32) (harg9 : arg9.IsWhole) (arg10 : Memref sig .tc .vmem S1024x1024 .bf16) (harg10 : arg10.IsWhole) (arg11 : Memref sig .tc .vmem S8x128 .bf16) (harg11 : arg11.IsWhole) (arg12 : Memref sig .tc .vmem S8x256 .f32) (harg12 : arg12.IsWhole) (arg13 : Memref sig .tc .vmem S4x32 .f32) (harg13 : arg13.IsWhole) (arg14 : Memref sig .tc .vmem S1x256x1024 .f32) (harg14 : arg14.IsWhole) (hc0 : ¬cond0_0 i) (hc1 : cond0_1 i)
    (x0 : Vec F S1x256x768 .bf16) (x1 : Vec F S1x1024x2304 .bf16) (x2 : Vec F S1x2304x1024 .bf16) (x3 : Vec F S1x256x512 .f32) (x4 : Vec F S1x8x512 .f32) (x5 : Vec F S1x8x512 .f32) (x6 : Vec F S1x256x1024 .f32) (x7 : Vec F S1x1x6x1024 .f32) (x8 : Vec F S1024x1024 .bf16) (x9 : Vec F S8x128 .bf16) (x10 : Vec F S8x256 .f32) (x11 : Vec F S4x32 .f32) :
    { L12 : List (View.Piece (Elt F) S1x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12)) -∗ K ⟨⟩))
          ⊢ wp frame (wpE (defs₀ (F := F)) Variants.none c none) E (cc0_attn_merge i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_attn_merge_eq_skeleton]; unfold cc0_attn_merge_skel
    rw [k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact H12

end Cert.KernelIdeal.Gen

end
-- ==== Proof.IdealFrame.lean ====
/-
  `KernelIdeal`: the frame of the attention call, from the runs of its two branches: what every grid point leaves in the output
  block, the proof data of the pipeline, and the run of the whole program with its arguments unchanged.
-/
module

public import proofs.«01_k».proof.Proof.IdealRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 12 tile its block (1 store of `S1x256x1024`, checked by the kernel's evaluation: Lib/Ring.lean `Piece.tiledL`, linear in the pieces, through a loop's `@[irreducible]` trip theorem too), so they cover it. -/
theorem cover0_A_12 (c : Dev nD) (i : grid0.Coords) (arg2 : Memref sig .tc .vmem S1x256x768 .bf16) (harg2 : arg2.IsWhole) (arg3 : Memref sig .tc .vmem S1x1024x2304 .bf16) (harg3 : arg3.IsWhole) (arg4 : Memref sig .tc .vmem S1x2304x1024 .bf16) (harg4 : arg4.IsWhole) (arg5 : Memref sig .tc .vmem S1x256x512 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x256x1024 .f32) (harg8 : arg8.IsWhole) (arg9 : Memref sig .tc .vmem S1x1x6x1024 .f32) (harg9 : arg9.IsWhole) (arg10 : Memref sig .tc .vmem S1024x1024 .bf16) (harg10 : arg10.IsWhole) (arg11 : Memref sig .tc .vmem S8x128 .bf16) (harg11 : arg11.IsWhole) (arg12 : Memref sig .tc .vmem S8x256 .f32) (harg12 : arg12.IsWhole) (arg13 : Memref sig .tc .vmem S4x32 .f32) (harg13 : arg13.IsWhole) (arg14 : Memref sig .tc .vmem S1x256x1024 .f32) (harg14 : arg14.IsWhole) (hc0 : cond0_0 i) (hc1 : ¬cond0_1 i)
    (x0 : Vec F S1x256x768 .bf16) (x1 : Vec F S1x1024x2304 .bf16) (x2 : Vec F S1x2304x1024 .bf16) (x3 : Vec F S1x256x512 .f32) (x4 : Vec F S1x8x512 .f32) (x5 : Vec F S1x8x512 .f32) (x6 : Vec F S1x256x1024 .f32) (x7 : Vec F S1x1x6x1024 .f32) (x8 : Vec F S1024x1024 .bf16) (x9 : Vec F S8x128 .bf16) (x10 : Vec F S8x256 .f32) (x11 : Vec F S4x32 .f32) (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).1 S1x256x1024.size (by sl_kernel_rfl) y

/-- What case A leaves in output 12's staging buffer: its pieces read back over junk. -/
def out0_A_12 (c : Dev nD) (i : grid0.Coords) (arg2 : Memref sig .tc .vmem S1x256x768 .bf16) (harg2 : arg2.IsWhole) (arg3 : Memref sig .tc .vmem S1x1024x2304 .bf16) (harg3 : arg3.IsWhole) (arg4 : Memref sig .tc .vmem S1x2304x1024 .bf16) (harg4 : arg4.IsWhole) (arg5 : Memref sig .tc .vmem S1x256x512 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x256x1024 .f32) (harg8 : arg8.IsWhole) (arg9 : Memref sig .tc .vmem S1x1x6x1024 .f32) (harg9 : arg9.IsWhole) (arg10 : Memref sig .tc .vmem S1024x1024 .bf16) (harg10 : arg10.IsWhole) (arg11 : Memref sig .tc .vmem S8x128 .bf16) (harg11 : arg11.IsWhole) (arg12 : Memref sig .tc .vmem S8x256 .f32) (harg12 : arg12.IsWhole) (arg13 : Memref sig .tc .vmem S4x32 .f32) (harg13 : arg13.IsWhole) (arg14 : Memref sig .tc .vmem S1x256x1024 .f32) (harg14 : arg14.IsWhole) (hc0 : cond0_0 i) (hc1 : ¬cond0_1 i)
    (x0 : Vec F S1x256x768 .bf16) (x1 : Vec F S1x1024x2304 .bf16) (x2 : Vec F S1x2304x1024 .bf16) (x3 : Vec F S1x256x512 .f32) (x4 : Vec F S1x8x512 .f32) (x5 : Vec F S1x8x512 .f32) (x6 : Vec F S1x256x1024 .f32) (x7 : Vec F S1x1x6x1024 .f32) (x8 : Vec F S1024x1024 .bf16) (x9 : Vec F S8x128 .bf16) (x10 : Vec F S8x256 .f32) (x11 : Vec F S4x32 .f32) : Vec F S1x256x1024 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).1)

/-- Case B's pieces for output 12 tile its block (1 store of `S1x256x1024`, checked by the kernel's evaluation: Lib/Ring.lean `Piece.tiledL`, linear in the pieces, through a loop's `@[irreducible]` trip theorem too), so they cover it. -/
theorem cover0_B_12 (c : Dev nD) (i : grid0.Coords) (arg2 : Memref sig .tc .vmem S1x256x768 .bf16) (harg2 : arg2.IsWhole) (arg3 : Memref sig .tc .vmem S1x1024x2304 .bf16) (harg3 : arg3.IsWhole) (arg4 : Memref sig .tc .vmem S1x2304x1024 .bf16) (harg4 : arg4.IsWhole) (arg5 : Memref sig .tc .vmem S1x256x512 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x256x1024 .f32) (harg8 : arg8.IsWhole) (arg9 : Memref sig .tc .vmem S1x1x6x1024 .f32) (harg9 : arg9.IsWhole) (arg10 : Memref sig .tc .vmem S1024x1024 .bf16) (harg10 : arg10.IsWhole) (arg11 : Memref sig .tc .vmem S8x128 .bf16) (harg11 : arg11.IsWhole) (arg12 : Memref sig .tc .vmem S8x256 .f32) (harg12 : arg12.IsWhole) (arg13 : Memref sig .tc .vmem S4x32 .f32) (harg13 : arg13.IsWhole) (arg14 : Memref sig .tc .vmem S1x256x1024 .f32) (harg14 : arg14.IsWhole) (hc0 : ¬cond0_0 i) (hc1 : cond0_1 i)
    (x0 : Vec F S1x256x768 .bf16) (x1 : Vec F S1x1024x2304 .bf16) (x2 : Vec F S1x2304x1024 .bf16) (x3 : Vec F S1x256x512 .f32) (x4 : Vec F S1x8x512 .f32) (x5 : Vec F S1x8x512 .f32) (x6 : Vec F S1x256x1024 .f32) (x7 : Vec F S1x1x6x1024 .f32) (x8 : Vec F S1024x1024 .bf16) (x9 : Vec F S8x128 .bf16) (x10 : Vec F S8x256 .f32) (x11 : Vec F S4x32 .f32) (y : S1x256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).1 S1x256x1024.size (by sl_kernel_rfl) y

/-- What case B leaves in output 12's staging buffer: its pieces read back over junk. -/
def out0_B_12 (c : Dev nD) (i : grid0.Coords) (arg2 : Memref sig .tc .vmem S1x256x768 .bf16) (harg2 : arg2.IsWhole) (arg3 : Memref sig .tc .vmem S1x1024x2304 .bf16) (harg3 : arg3.IsWhole) (arg4 : Memref sig .tc .vmem S1x2304x1024 .bf16) (harg4 : arg4.IsWhole) (arg5 : Memref sig .tc .vmem S1x256x512 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x256x1024 .f32) (harg8 : arg8.IsWhole) (arg9 : Memref sig .tc .vmem S1x1x6x1024 .f32) (harg9 : arg9.IsWhole) (arg10 : Memref sig .tc .vmem S1024x1024 .bf16) (harg10 : arg10.IsWhole) (arg11 : Memref sig .tc .vmem S8x128 .bf16) (harg11 : arg11.IsWhole) (arg12 : Memref sig .tc .vmem S8x256 .f32) (harg12 : arg12.IsWhole) (arg13 : Memref sig .tc .vmem S4x32 .f32) (harg13 : arg13.IsWhole) (arg14 : Memref sig .tc .vmem S1x256x1024 .f32) (harg14 : arg14.IsWhole) (hc0 : ¬cond0_0 i) (hc1 : cond0_1 i)
    (x0 : Vec F S1x256x768 .bf16) (x1 : Vec F S1x1024x2304 .bf16) (x2 : Vec F S1x2304x1024 .bf16) (x3 : Vec F S1x256x512 .f32) (x4 : Vec F S1x8x512 .f32) (x5 : Vec F S1x8x512 .f32) (x6 : Vec F S1x256x1024 .f32) (x7 : Vec F S1x1x6x1024 .f32) (x8 : Vec F S1024x1024 .bf16) (x9 : Vec F S8x128 .bf16) (x10 : Vec F S8x256 .f32) (x11 : Vec F S4x32 .f32) : Vec F S1x256x1024 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x1024 .f32
  | 0, hn => out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (by (try dsimp only) <;> omega)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩)
  | n + 1, hn =>
    if h0 : (n + 1) % 9 ≤ 7 then
      if h1 : (n + 1) % 9 = 8 then
        False.elim (by have hN : n + 1 < 144 := lt_of_lt_of_eq hn (show cfg0.N = 144 from N_0); omega)
      else
        out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩)
    else
      if h1 : (n + 1) % 9 = 8 then
        out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩)
      else
        False.elim (by have hN : n + 1 < 144 := lt_of_lt_of_eq hn (show cfg0.N = 144 from N_0); omega)

/-- `outsAt0` at a point of case A: that case's contents. -/
theorem outsAt0_A (c : Dev nD) (t : Fin cfg0.N) (h0 : t.val % 9 ≤ 7) (h1 : ¬t.val % 9 = 8) :
    outsAt0 m c t.val t.isLt = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  obtain ⟨n, hn⟩ := t
  cases n with
  | zero => exact rfl
  | succ n => exact (dif_pos h0).trans ((dif_neg h1).trans rfl)

/-- `outsAt0` at a point of case B: that case's contents. -/
theorem outsAt0_B (c : Dev nD) (t : Fin cfg0.N) (h0 : ¬t.val % 9 ≤ 7) (h1 : t.val % 9 = 8) :
    outsAt0 m c t.val t.isLt = out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  obtain ⟨n, hn⟩ := t
  cases n with
  | zero => exact (by exfalso; (try dsimp only at h0); exact by omega)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl]
  have hN : t.val < 144 := lt_of_lt_of_eq t.isLt (show cfg0.N = 144 from N_0)
  by_cases h0 : t.val % 9 ≤ 7
  · by_cases h1 : t.val % 9 = 8
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12_A t ((hcond0_0 t).mpr h0) (fun h => h1 ((hcond0_1 t).mp h))], after0_12]
      rw [outsAt0_A m c t h0 h1]
      unfold out0_A_12
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      iintro ⟨H0, H1, H2, H3, H4, H5, H6, H7, H8, H9, H10, H11, ⟨%e12, H12⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _)
  · by_cases h1 : t.val % 9 = 8
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12_B t (fun h => h0 ((hcond0_0 t).mp h)) ((hcond0_1 t).mpr h1)], after0_12]
      rw [outsAt0_B m c t h0 h1]
      unfold out0_B_12
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      iintro ⟨H0, H1, H2, H3, H4, H5, H6, H7, H8, H9, H10, H11, ⟨%e12, H12⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Gen

end
-- ==== Proof.IdealValue.lean ====
/-
  `KernelIdeal`: the result array after the run, block by block: block `t` is what grid point `t` wrote.
-/
module

public import proofs.«01_k».proof.Proof.IdealFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 12's array: the run's contents for that window after the body (`Gen.outsAt0`), read through the window's block. -/
theorem flushed12 (c : Dev nD) (t : Fin cfg0.N) :
    (dats m 0 c).flushed 12 t = (cfg0.win 12).cut (grid0.coords t) (outsAt0 m c t.val t.isLt) := by
  show (cfg0.win 12).cut (grid0.coords t) ((dats m 0 c).after 12 t) = _
  rw [after0_12]

/-- … so at a point where case A runs, what its write-back would write is that case's NAMED TERM for the window (`Gen.out0_A_12`: the pieces
    its run found, read back) at the point's memrefs and input blocks, and for an output the case reads back what the point before left (`Gen.outsAt0` at `t - 1`) — by the frame's rewriting lemma for the case. -/
theorem flushed12_A (c : Dev nD) (t : Fin cfg0.N) (h0 : t.val % 9 ≤ 7) (h1 : ¬t.val % 9 = 8) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed12, outsAt0_A m c t h0 h1]

/-- … so at a point where case B runs, what its write-back would write is that case's NAMED TERM for the window (`Gen.out0_B_12`: the pieces
    its run found, read back) at the point's memrefs and input blocks, and for an output the case reads back what the point before left (`Gen.outsAt0` at `t - 1`) — by the frame's rewriting lemma for the case. -/
theorem flushed12_B (c : Dev nD) (t : Fin cfg0.N) (h0 : ¬t.val % 9 ≤ 7) (h1 : t.val % 9 = 8) :
    (dats m 0 c).flushed 12 t = (cfg0.win 12).cut (grid0.coords t) (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed12, outsAt0_B m c t h0 h1]

/-- The index map sends distinct grid points to distinct block indices (decided over the 144 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S16x2304x1024.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v51) = (dats m 0 c).arrAt 12 cfg0.N :=
  (h c).1 12

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: input window 6 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 6).trans (((dats m 0 c).arrAt_in 6 rfl _).trans ((A_eq m c 6).trans (V_main_arg4 m c)))

/-- After the frame run, argument `main_arg5` is as launched: input window 7 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 7).trans (((dats m 0 c).arrAt_in 7 rfl _).trans ((A_eq m c 7).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: input window 11 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 11).trans (((dats m 0 c).arrAt_in 11 rfl _).trans ((A_eq m c 11).trans (V_main_arg9 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v51) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post12 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.KernelIdeal.Value

end
-- ==== Proof.AttnVec.lean ====
/-
  What one grid point of the attention call leaves in its output block, as one expression of the blocks it is given: the
  masked queries, the weighted sums over the keys, the normalisation of a pair of heads, the short convolution, the
  normalised difference of two attentions, and the output projection.
-/
module

public import proofs.«01_k».proof.Proof.IdealValue
public import Idealize.ShloMosaic.Lib.Pointwise

@[expose] public section

noncomputable section

namespace Cert.Attn

open Cert.KernelIdeal Cert.KernelIdeal.Gen Idealize.ShloMosaic Idealize.ShloMosaic.TcCoe Idealize.SL.Sem
open Cert.KernelIdeal.Facts

variable {F : FTy → Type} [FloatOps F]

/-! ## The loads -/

/-- A chunk of 128 columns of the query block is inside it. -/
theorem q_in (c : Fin 6) : ∀ a, (![0, 0, 128 * c.val] : Fin 3 → ℕ) a + S1x256x128.size a ≤ S1x256x768.size a := by
  intro a; have := c.isLt; fin_cases a <;> simp [S1x256x128, S1x256x768] <;> omega

/-- A row of the masks is inside them. -/
theorem m_in (g : Fin 6) : ∀ a, (![g.val, 0] : Fin 2 → ℕ) a + S1x128.size a ≤ S8x128.size a := by
  intro a; have := g.isLt; fin_cases a <;> simp [S1x128, S8x128] <;> omega

/-- A block of 256 key rows by 256 keys is inside the keys. -/
theorem k_in (b : Fin 4) (c : Fin 9) : ∀ a, (![0, 256 * b.val, 256 * c.val] : Fin 3 → ℕ) a + S1x256x256.size a ≤ S1x1024x2304.size a := by
  intro a; have := b.isLt; have := c.isLt; fin_cases a <;> simp [S1x256x256, S1x1024x2304] <;> omega

/-- A block of 256 keys by 128 value columns is inside the values. -/
theorem v_in (c : Fin 9) (h : Fin 8) : ∀ a, (![0, 256 * c.val, 128 * h.val] : Fin 3 → ℕ) a + S1x256x128.size a ≤ S1x2304x1024.size a := by
  intro a; have := c.isLt; have := h.isLt; fin_cases a <;> simp [S1x256x128, S1x2304x1024] <;> omega

/-- The 256 key rows of block `b`, the keys of chunk `c`. -/
def keys (x1 : Vec F S1x1024x2304 .bf16) (b : Fin 4) (c : Fin 9) : Vec F S1x256x256 .bf16 :=
  View.ld x1 (Rect.unit (s := S1x1024x2304) ![0, 256 * b.val, 256 * c.val] S1x256x256.size (k_in b c))

/-- The keys of chunk `c`, the 128 value columns of half-block `h`. -/
def vals (x2 : Vec F S1x2304x1024 .bf16) (c : Fin 9) (h : Fin 8) : Vec F S1x256x128 .bf16 :=
  View.ld x2 (Rect.unit (s := S1x2304x1024) ![0, 256 * c.val, 128 * h.val] S1x256x128.size (v_in c h))

/-! ## The attention of one pair of query blocks -/

/-- The queries of column chunk `c` under mask row `g`, and beside them the block whose first column is one. -/
def lhs (x0 : Vec F S1x256x768 .bf16) (x9 : Vec F S8x128 .bf16) (c : Fin 6) (g : Fin 6) : FVec F S256x256 .bf16 :=
  concatenate S256x256 1 [⟨S256x128, mulf
    (shapeCast S256x128 (View.ld x0 (Rect.unit (s := S1x256x768) ![0, 0, 128 * c.val] S1x256x128.size (q_in c))) shapeCasts_S1x256x128_S256x128)
    (broadcastTo S256x128 (shapeCast S1x128 (View.ld x9 (Rect.unit (s := S8x128) ![g.val, 0] S1x128.size (m_in g))) shapeCasts_S1x128_S1x128)
      broadcasts_S1x128_S256x128)⟩, ⟨S256x128, k0_pay2⟩] concatenates_S256x128_S256x128_S256x256_d1

/-- Two blocks of masked queries, one over the other. -/
def two (a b : FVec F S256x256 .bf16) : FVec F S512x256 .bf16 :=
  concatenate S512x256 0 [⟨S256x256, a⟩, ⟨S256x256, b⟩] concatenates_S256x256_S256x256_S512x256_d0

/-- The weights `2 ^ (L k)` of one chunk of keys, times its values. -/
def wsum (L : FVec F S512x256 .bf16) (k : Vec F S1x256x256 .bf16) (v : Vec F S1x256x128 .bf16) : FVec F S512x128 .f32 :=
  matmul dot_S512x256_S256x128_S512x128_1_0_0_1_n_n none
    (truncf .bf16 (exp2 (matmul dot_S512x256_S256x256_S512x256_1_0_0_1_n_n none L
      (shapeCast S256x256 k shapeCasts_S1x256x256_S256x256) (constant S512x256 .f32 0x00000000#32))) bitsLt_bf16_f32)
    (shapeCast S256x128 v shapeCasts_S1x256x128_S256x128) (constant S512x128 .f32 0x00000000#32)

/-- The weighted sums over all nine chunks of keys: what a latent tile computes for key block `b` and value half `h`. -/
def nine (x1 : Vec F S1x1024x2304 .bf16) (x2 : Vec F S1x2304x1024 .bf16) (b : Fin 4) (h : Fin 8) (L : FVec F S512x256 .bf16) :
    FVec F S512x128 .f32 :=
  addf (addf (addf (addf (addf (addf (addf (addf (wsum L (keys x1 b 0) (vals x2 0 h)) (wsum L (keys x1 b 1) (vals x2 1 h)))
    (wsum L (keys x1 b 2) (vals x2 2 h))) (wsum L (keys x1 b 3) (vals x2 3 h))) (wsum L (keys x1 b 4) (vals x2 4 h)))
    (wsum L (keys x1 b 5) (vals x2 5 h))) (wsum L (keys x1 b 6) (vals x2 6 h))) (wsum L (keys x1 b 7) (vals x2 7 h)))
    (wsum L (keys x1 b 8) (vals x2 8 h))

/-- The weighted sums over the last chunk of keys alone: what a context tile computes. -/
def last (x1 : Vec F S1x1024x2304 .bf16) (x2 : Vec F S1x2304x1024 .bf16) (b : Fin 4) (h : Fin 8) (L : FVec F S512x256 .bf16) :
    FVec F S512x128 .f32 :=
  wsum L (keys x1 b 8) (vals x2 8 h)

/-- The first 256 rows. -/
def top (a : FVec F S512x128 .f32) : FVec F S256x128 .f32 := extractStridedSlice S256x128 ![0, 0] a slices_S512x128_o0_0_S256x128

/-- The last 256 rows. -/
def bot (a : FVec F S512x128 .f32) : FVec F S256x128 .f32 := extractStridedSlice S256x128 ![256, 0] a slices_S512x128_o256_0_S256x128

/-- A pair of heads: the low lanes of the one, the high lanes of the other, each divided by its own other half. -/
def norm (lo hi : FVec F S256x128 .f32) : FVec F S256x128 .f32 :=
  divf (select (cmpi .slt (iota .tc S256x128 32 [1] iota_S256x128_d1_w32) (broadcast S256x128 64#32)) lo hi)
    (select (cmpi .slt (iota .tc S256x128 32 [1] iota_S256x128_d1_w32) (broadcast S256x128 64#32))
      (dynamicRotate 1 64#32 none lo rotates_S256x128_d1) (dynamicRotate 1 64#32 none hi rotates_S256x128_d1))

/-! ## The short convolution -/

/-- The convolution of three rows, at the edges of the tile over the neighbouring tiles' rows (zero at the ends of the
    latents and of the context). -/
def conv (t : BitVec 32) (x3 : Vec F S1x256x512 .f32) (x4 x5 : Vec F S1x8x512 .f32) (x10 : Vec F S8x256 .f32) : FVec F S256x256 .f32 :=
  k0_pay48 (k0_pay47 t (k0_pay46 (View.ld x3 (Rect.unit (s := S1x256x512) ![0, 0, 0] S1x256x256.size inb_S1x256x512_S1x256x256_0_0_0)))
      (iota .tc S256x256 32 [0] iota_S256x256_d0_w32) (Scalar.ori (Scalar.cmpi .eq t 0#32) (Scalar.cmpi .eq t 8#32))
      (Scalar.ofBits .f32 0x00000000#32)
      (View.ld x4 (Rect.unit (s := S1x8x512) ![0, 7, 0] S1x1x256.size inb_S1x8x512_S1x1x256_0_7_0))
      (View.ld x5 (Rect.unit (s := S1x8x512) ![0, 0, 0] S1x1x256.size inb_S1x8x512_S1x1x256_0_0_0))
      (View.ld x10 (Rect.unit (s := S8x256) ![0, 0] S1x256.size inb_S8x256_S1x256_0_0))
      (View.ld x10 (Rect.unit (s := S8x256) ![1, 0] S1x256.size inb_S8x256_S1x256_1_0))
      (View.ld x10 (Rect.unit (s := S8x256) ![2, 0] S1x256.size inb_S8x256_S1x256_2_0)))
    (View.ld x3 (Rect.unit (s := S1x256x512) ![0, 0, 256] S1x256x256.size inb_S1x256x512_S1x256x256_0_0_256))

/-! ## The difference of two attentions -/

/-- `a - lam b`, `lam` the one number of the block. -/
def diff (lam : FVec F S1x1 .f32) (a b : FVec F S256x128 .f32) : FVec F S256x128 .f32 :=
  subf a (mulf (broadcastTo S256x128 lam broadcasts_S1x1_S256x128) b)

/-- Each half of the lanes divided by the root of its mean square, times the gain, times `1 - lam_init`. -/
def rms (d : FVec F S256x128 .f32) (x10 : Vec F S8x256 .f32) : FVec F S256x128 .f32 :=
  k0_pay67 (mulf d (rsqrt (addf (mulf (matmul dot_S256x128_S128x128_S256x128_1_0_0_1_n_n none
    (truncf .bf16 (mulf d d) bitsLt_bf16_f32) k0_pay51 (constant S256x128 .f32 0x00000000#32))
    (broadcast S256x128 (Scalar.ofBits .f32 0x3C800000#32))) (broadcast S256x128 (Scalar.ofBits .f32 0x358637BD#32)))))
    (View.ld x10 (Rect.unit (s := S8x256) ![3, 0] S1x128.size inb_S8x256_S1x128_3_0))

/-! ## The block -/

section
variable (acc : Fin 4 → Fin 8 → FVec F S512x256 .bf16 → FVec F S512x128 .f32) (t : BitVec 32)
  (x0 : Vec F S1x256x768 .bf16) (x3 : Vec F S1x256x512 .f32) (x4 x5 : Vec F S1x8x512 .f32)
  (x6 : Vec F S1x256x1024 .f32) (x7 : Vec F S1x1x6x1024 .f32) (x8 : Vec F S1024x1024 .bf16) (x9 : Vec F S8x128 .bf16)
  (x10 : Vec F S8x256 .f32) (x11 : Vec F S4x32 .f32)

/-- Grouped-query heads, column chunks `c`, `c'` over key block `b`, mask row `g` and value half `h`. -/
def gq (b : Fin 4) (h : Fin 8) (c c' g : Fin 6) : FVec F S512x128 .f32 := acc b h (two (lhs x0 x9 c g) (lhs x0 x9 c' g))

/-- Differential heads, column chunk `c` over key block `b`, its two components `g`, `g'` and value half `h`. -/
def df (b : Fin 4) (h : Fin 8) (c g g' : Fin 6) : FVec F S512x128 .f32 := acc b h (two (lhs x0 x9 c g) (lhs x0 x9 c g'))

/-- The number the second attention is taken with. -/
def lam : FVec F S1x1 .f32 := k0_pay1 (View.ld x11 (Rect.unit (s := S4x32) ![0, 0] S4x32.size inb_S4x32_S4x32_0_0))

/-- The two heads of column chunk `c` of the differential attention. -/
def dchunk (b : Fin 4) (h h' : Fin 8) (c : Fin 6) : FVec F S256x128 .f32 :=
  rms (diff (lam x11) (norm (top (df acc x0 x9 b h c 2 3)) (top (df acc x0 x9 b h' c 4 5)))
    (norm (bot (df acc x0 x9 b h c 2 3)) (bot (df acc x0 x9 b h' c 4 5)))) x10

/-- The eight chunks of 128 columns: four of grouped-query attention, two of the convolution, two of differential attention. -/
def ycat : FVec F S256x1024 .bf16 :=
  truncf .bf16 (concatenate S256x1024 1
    [⟨S256x128, norm (top (gq acc x0 x9 0 0 0 1 0)) (top (gq acc x0 x9 0 1 0 1 1))⟩,
     ⟨S256x128, norm (bot (gq acc x0 x9 0 0 0 1 0)) (bot (gq acc x0 x9 0 1 0 1 1))⟩,
     ⟨S256x128, norm (top (gq acc x0 x9 1 2 2 3 0)) (top (gq acc x0 x9 1 3 2 3 1))⟩,
     ⟨S256x128, norm (bot (gq acc x0 x9 1 2 2 3 0)) (bot (gq acc x0 x9 1 3 2 3 1))⟩,
     ⟨S256x128, extractStridedSlice S256x128 ![0, 0] (conv t x3 x4 x5 x10) slices_S256x256_o0_0_S256x128⟩,
     ⟨S256x128, extractStridedSlice S256x128 ![0, 128] (conv t x3 x4 x5 x10) slices_S256x256_o0_128_S256x128⟩,
     ⟨S256x128, dchunk acc x0 x9 x10 x11 2 4 5 4⟩, ⟨S256x128, dchunk acc x0 x9 x10 x11 3 6 7 5⟩]
    concatenates_S256x128_S256x128_S256x128_S256x128_S256x128_S256x128_S256x128_S256x128_S256x1024_d1) bitsLt_bf16_f32

/-- The output projection, its gate and the residual. -/
def block : FVec F S1x256x1024 .f32 :=
  k0_pay3 (ycat acc t x0 x3 x4 x5 x9 x10 x11)
    (View.ld x8 (Rect.unit (s := S1024x1024) ![0, 0] S1024x1024.size inb_S1024x1024_S1024x1024_0_0))
    (View.ld x6 (Rect.unit (s := S1x256x1024) ![0, 0, 0] S1x256x1024.size inb_S1x256x1024_S1x256x1024_0_0_0))
    (View.ld x7 (Rect.unit (s := S1x1x6x1024) ![0, 0, 2, 0] S1x1x1x1024.size inb_S1x1x6x1024_S1x1x1x1024_0_0_2_0))

end

/-- A latent tile's output block is `block` over the weighted sums `nine` of its keys and values. -/
theorem out_A (c : Dev nD) (i : grid0.Coords) (arg2 : Memref sig .tc .vmem S1x256x768 .bf16) (harg2 : arg2.IsWhole) (arg3 : Memref sig .tc .vmem S1x1024x2304 .bf16) (harg3 : arg3.IsWhole) (arg4 : Memref sig .tc .vmem S1x2304x1024 .bf16) (harg4 : arg4.IsWhole) (arg5 : Memref sig .tc .vmem S1x256x512 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x256x1024 .f32) (harg8 : arg8.IsWhole) (arg9 : Memref sig .tc .vmem S1x1x6x1024 .f32) (harg9 : arg9.IsWhole) (arg10 : Memref sig .tc .vmem S1024x1024 .bf16) (harg10 : arg10.IsWhole) (arg11 : Memref sig .tc .vmem S8x128 .bf16) (harg11 : arg11.IsWhole) (arg12 : Memref sig .tc .vmem S8x256 .f32) (harg12 : arg12.IsWhole) (arg13 : Memref sig .tc .vmem S4x32 .f32) (harg13 : arg13.IsWhole) (arg14 : Memref sig .tc .vmem S1x256x1024 .f32) (harg14 : arg14.IsWhole) (hc0 : cond0_0 i) (hc1 : ¬cond0_1 i)
    (x0 : Vec F S1x256x768 .bf16) (x1 : Vec F S1x1024x2304 .bf16) (x2 : Vec F S1x2304x1024 .bf16) (x3 : Vec F S1x256x512 .f32) (x4 : Vec F S1x8x512 .f32) (x5 : Vec F S1x8x512 .f32) (x6 : Vec F S1x256x1024 .f32) (x7 : Vec F S1x1x6x1024 .f32) (x8 : Vec F S1024x1024 .bf16) (x9 : Vec F S8x128 .bf16) (x10 : Vec F S8x256 .f32) (x11 : Vec F S4x32 .f32) :
    out0_A_12 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 = block (nine x1 x2) (BitVec.ofNat 32 (i 1).val) x0 x3 x4 x5 x6 x7 x8 x9 x10 x11 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
  refine (View.canon_unit_zero (by funext a; fin_cases a <;> rfl) _ _).trans ?_
  rfl

/-- A context tile's output block is `block` over the weighted sums `last` of its keys and values. -/
theorem out_B (c : Dev nD) (i : grid0.Coords) (arg2 : Memref sig .tc .vmem S1x256x768 .bf16) (harg2 : arg2.IsWhole) (arg3 : Memref sig .tc .vmem S1x1024x2304 .bf16) (harg3 : arg3.IsWhole) (arg4 : Memref sig .tc .vmem S1x2304x1024 .bf16) (harg4 : arg4.IsWhole) (arg5 : Memref sig .tc .vmem S1x256x512 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x256x1024 .f32) (harg8 : arg8.IsWhole) (arg9 : Memref sig .tc .vmem S1x1x6x1024 .f32) (harg9 : arg9.IsWhole) (arg10 : Memref sig .tc .vmem S1024x1024 .bf16) (harg10 : arg10.IsWhole) (arg11 : Memref sig .tc .vmem S8x128 .bf16) (harg11 : arg11.IsWhole) (arg12 : Memref sig .tc .vmem S8x256 .f32) (harg12 : arg12.IsWhole) (arg13 : Memref sig .tc .vmem S4x32 .f32) (harg13 : arg13.IsWhole) (arg14 : Memref sig .tc .vmem S1x256x1024 .f32) (harg14 : arg14.IsWhole) (hc0 : ¬cond0_0 i) (hc1 : cond0_1 i)
    (x0 : Vec F S1x256x768 .bf16) (x1 : Vec F S1x1024x2304 .bf16) (x2 : Vec F S1x2304x1024 .bf16) (x3 : Vec F S1x256x512 .f32) (x4 : Vec F S1x8x512 .f32) (x5 : Vec F S1x8x512 .f32) (x6 : Vec F S1x256x1024 .f32) (x7 : Vec F S1x1x6x1024 .f32) (x8 : Vec F S1024x1024 .bf16) (x9 : Vec F S8x128 .bf16) (x10 : Vec F S8x256 .f32) (x11 : Vec F S4x32 .f32) :
    out0_B_12 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 = block (last x1 x2) (BitVec.ofNat 32 (i 1).val) x0 x3 x4 x5 x6 x7 x8 x9 x10 x11 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
  refine (View.canon_unit_zero (by funext a; fin_cases a <;> rfl) _ _).trans ?_
  rfl

end Cert.Attn

end
-- ==== Proof.AttnMath.lean ====
/-
  Facts about real numbers that the attention claim uses: a softmax with base-2 exponentials that adds one bound to every
  score, and jax's softmax with natural exponentials and the row maximum taken off, are the same weighted mean of the values.
-/
module

public import Idealize.ShloMosaic.PureOps.Ideal.Laws

@[expose] public section

noncomputable section

namespace Cert.Attn

open Idealize.ShloMosaic

/-- The mean of the values `v` weighted by `2 ^ s`: attention of one query with the scores `s`, in units of `log 2`. -/
def att {n : ℕ} (s v : Fin n → ℝ) : ℝ := (∑ j, (2 : ℝ) ^ s j * v j) / ∑ j, (2 : ℝ) ^ s j

/-- A finite sum of reals is the same sum of extended reals. -/
theorem coe_sum {n : ℕ} (f : Fin n → ℝ) : ((∑ j, f j : ℝ) : EReal) = ∑ j, (f j : EReal) :=
  map_sum (⟨⟨Real.toEReal, EReal.coe_zero⟩, EReal.coe_add⟩ : ℝ →+ EReal) f Finset.univ

/-- Powers of two over a nonempty index set have a positive sum. -/
theorem pow_sum_pos {n : ℕ} [NeZero n] (s : Fin n → ℝ) : 0 < ∑ j, (2 : ℝ) ^ s j :=
  Finset.sum_pos (fun j _ => Real.rpow_pos_of_pos two_pos _) ⟨0, Finset.mem_univ _⟩

/-- The quotient of the values' and the ones' sums, both weighted by base-2 exponentials of the scores with a common bound
    added, is `att`: the bound drops out. -/
theorem exp2_quot {n : ℕ} [NeZero n] (s v : Fin n → ℝ) (b : ℝ) :
    Ideal.div (∑ j, Ideal.exp2 ((s j : EReal) + (b : EReal)) * (v j : EReal))
      (∑ j, Ideal.exp2 ((s j : EReal) + (b : EReal)) * 1) = (att s v : EReal) := by
  have h1 : ∀ j, Ideal.exp2 ((s j : EReal) + (b : EReal)) = (((2 : ℝ) ^ (s j) * (2 : ℝ) ^ b : ℝ) : EReal) := fun j => by
    rw [← EReal.coe_add, ← Real.rpow_add two_pos]; rfl
  have hb : (2 : ℝ) ^ b ≠ 0 := (Real.rpow_pos_of_pos two_pos _).ne'
  have hz := (pow_sum_pos s).ne'
  simp only [h1, mul_one, ← EReal.coe_mul, ← coe_sum]
  rw [← Finset.sum_mul, Ideal.div_coe (mul_ne_zero hz hb), ← EReal.coe_mul, att]
  congr 1
  have : ∀ j, (2 : ℝ) ^ s j * (2 : ℝ) ^ b * v j = (2 : ℝ) ^ s j * v j * (2 : ℝ) ^ b := fun j => by ring
  simp only [this, ← Finset.sum_mul]
  field_simp

/-- One probability of a softmax with natural exponentials of `log 2` times the scores, some number `M` taken off each, is a
    power of two over the sum of the powers of two. -/
theorem softmax_prob {n : ℕ} [NeZero n] (s : Fin n → ℝ) (M : ℝ) (j : Fin n) :
    Ideal.div (Ideal.exp ((s j : EReal) * (Real.log 2 : EReal) - (M : EReal)))
      (∑ i, Ideal.exp ((s i : EReal) * (Real.log 2 : EReal) - (M : EReal)))
      = (((2 : ℝ) ^ s j / ∑ i, (2 : ℝ) ^ s i : ℝ) : EReal) := by
  have h1 : ∀ i, Ideal.exp ((s i : EReal) * (Real.log 2 : EReal) - (M : EReal))
      = (((2 : ℝ) ^ (s i) * Real.exp (-M) : ℝ) : EReal) := fun i => by
    rw [← EReal.coe_mul, ← EReal.coe_sub, Real.rpow_def_of_pos two_pos, ← Real.exp_add]
    show ((Real.exp _ : ℝ) : EReal) = _
    congr 2; ring
  have hb : Real.exp (-M) ≠ 0 := (Real.exp_pos _).ne'
  have hz := (pow_sum_pos s).ne'
  simp only [h1, ← coe_sum]
  rw [← Finset.sum_mul, Ideal.div_coe (mul_ne_zero hz hb), ← EReal.coe_mul]
  congr 1
  field_simp

/-- The probabilities `2 ^ s / ∑ 2 ^ s`, applied to the values, are `att`. -/
theorem probs_apply {n : ℕ} (s v : Fin n → ℝ) :
    ∑ j, (((2 : ℝ) ^ s j / ∑ i, (2 : ℝ) ^ s i : ℝ) : EReal) * (v j : EReal) = (att s v : EReal) := by
  simp only [← EReal.coe_mul, ← coe_sum]
  rw [att, Finset.sum_div]
  congr 1
  exact Finset.sum_congr rfl fun j _ => by ring

/-- The difference of two such probability rows, the second times `l`, applied to the values: the difference of the two
    attentions. -/
theorem diff_probs_apply {n : ℕ} (s s' v : Fin n → ℝ) (l : ℝ) :
    ∑ j, ((((2 : ℝ) ^ s j / ∑ i, (2 : ℝ) ^ s i : ℝ) : EReal)
        - (l : EReal) * (((2 : ℝ) ^ s' j / ∑ i, (2 : ℝ) ^ s' i : ℝ) : EReal)) * (v j : EReal)
      = (att s v : EReal) - (l : EReal) * (att s' v : EReal) := by
  simp only [← EReal.coe_mul, ← EReal.coe_sub, ← coe_sum]
  rw [att, att, Finset.sum_div, Finset.sum_div, Finset.mul_sum, ← Finset.sum_sub_distrib]
  congr 1
  exact Finset.sum_congr rfl fun j _ => by ring

/-- The greatest of finitely many reals, at least one, is a real. -/
theorem fold_max_real {n : ℕ} [NeZero n] (s : Fin n → ℝ) :
    ∃ M : ℝ, (Finset.univ : Finset (Fin n)).fold max (⊥ : EReal) (fun j => (s j : EReal)) = (M : EReal) := by
  have key : ∀ t : Finset (Fin n), t.fold max (⊥ : EReal) (fun j => (s j : EReal)) = ⊥ ∧ t = ∅
      ∨ ∃ M : ℝ, t.fold max (⊥ : EReal) (fun j => (s j : EReal)) = (M : EReal) := by
    intro t
    induction t using Finset.induction_on with
    | empty => exact .inl ⟨rfl, rfl⟩
    | insert a t ha ih =>
      refine .inr ?_
      rw [Finset.fold_insert ha]
      rcases ih with ⟨h, -⟩ | ⟨M, h⟩
      · exact ⟨s a, by rw [h]; exact max_eq_left bot_le⟩
      · exact ⟨max (s a) M, by rw [h]; exact (EReal.coe_strictMono.monotone.map_max).symm⟩
  rcases key Finset.univ with ⟨-, h⟩ | h
  · exact absurd h (Finset.univ_nonempty_iff.mpr ⟨0⟩).ne_empty
  · exact h

/-- A sum over nine stretches of 256 is the sum over all 2304. -/
theorem sum_chunks (f : Fin 2304 → EReal) (g : Fin 9 → Fin 256 → EReal)
    (h : ∀ i k, g i k = f ⟨256 * i.val + k.val, by omega⟩) :
    ∑ j, f j = (∑ k, g 0 k) + (∑ k, g 1 k) + (∑ k, g 2 k) + (∑ k, g 3 k) + (∑ k, g 4 k) + (∑ k, g 5 k) + (∑ k, g 6 k)
      + (∑ k, g 7 k) + ∑ k, g 8 k := by
  rw [← (finProdFinEquiv (m := 9) (n := 256)).sum_comp, Fintype.sum_prod_type]
  have : ∀ i : Fin 9, ∑ k : Fin 256, f (finProdFinEquiv (i, k)) = ∑ k, g i k := fun i =>
    Finset.sum_congr rfl fun k _ => by rw [h]; congr 1; ext; simp [finProdFinEquiv]; omega
  simp only [this]
  rw [Fin.sum_univ_castSucc, Fin.sum_univ_eight]
  rfl

/-- A sum over 256 that is zero past 129 terms, the last of which has factor one: the first half, and one more term. -/
theorem sum_half (f : Fin 256 → EReal) (g : Fin 128 → EReal) (b : EReal)
    (hg : ∀ k : Fin 128, f ⟨k.val, by omega⟩ = g k) (hb : f ⟨128, by omega⟩ = b)
    (h0 : ∀ k : Fin 256, 128 < k.val → f k = 0) : ∑ k, f k = (∑ k, g k) + b := by
  rw [Fin.sum_univ_add (a := 128) (b := 128) f]
  congr 1
  · exact Finset.sum_congr rfl fun k _ => hg k
  · rw [Finset.sum_eq_single (0 : Fin 128)]
    · exact hb
    · intro k _ hk
      have h1 : k.val ≠ 0 := fun h => hk (Fin.ext h)
      exact h0 _ (by show 128 < 128 + k.val; omega)
    · exact fun h => absurd (Finset.mem_univ _) h

/-- A sum over 128 that is zero outside a stretch of `m` from `o` on. -/
theorem sum_stretch (m o : ℕ) (hm : o + m ≤ 128) (f : Fin 128 → EReal)
    (h0 : ∀ k : Fin 128, ¬ (o ≤ k.val ∧ k.val < o + m) → f k = 0) :
    ∑ k, f k = ∑ k : Fin m, f ⟨o + k.val, by omega⟩ := by
  symm
  rw [← Finset.sum_subset (Finset.subset_univ (Finset.univ.map
    ⟨fun k : Fin m => (⟨o + k.val, by omega⟩ : Fin 128), fun a b h => by simpa [Fin.ext_iff] using h⟩))]
  · rw [Finset.sum_map]; rfl
  · intro k _ hk
    refine h0 k fun hk' => hk ?_
    simp only [Finset.mem_map, Finset.mem_univ, true_and, Function.Embedding.coeFn_mk]
    exact ⟨⟨k.val - o, by omega⟩, by ext; show o + (k.val - o) = k.val; omega⟩

end Cert.Attn

end
-- ==== Proof.AttnRead.lean ====
/-
  The attention block of one tile read at an index, over the exact real numbers: the masked queries, the weighted sums
  over the keys, and the heads they give, when the blocks are laid out as the layer's projection lays them out.
-/
module

public import proofs.«01_k».proof.Proof.AttnVec
public import proofs.«01_k».proof.Proof.AttnMath
public import Idealize.ShloMosaic.Lib.Pipeline.ValueKit.Tiles

@[expose] public section

noncomputable section

namespace Cert.Attn

open Cert.KernelIdeal Cert.KernelIdeal.Gen Idealize.ShloMosaic Idealize.ShloMosaic.TcCoe Idealize.SL.Sem
open Cert.KernelIdeal.Facts

set_option maxRecDepth 16384

/-! ## Selections on a lane number -/

/-- The comparison of a lane number with 64. -/
theorem slt64 (j : Fin 128) : IntOp.cmpi CmpIPredicate.slt (BitVec.ofNat 32 j.val) 64#32 = if j.val < 64 then 1#1 else 0#1 := by
  revert j; decide

/-- A selection by a one-bit word that is a condition's is the conditional. -/
theorem sel_if {α : Type} (p : Prop) [Decidable p] (a b : α) : Scalar.select (if p then 1#1 else 0#1) a b = if p then a else b := by
  by_cases h : p <;> simp [h, Scalar.select]

/-- The comparison of a lane number with 0. -/
theorem eq0 (j : Fin 128) : IntOp.cmpi CmpIPredicate.eq (BitVec.ofNat 32 j.val) 0#32 = if j.val = 0 then 1#1 else 0#1 := by
  revert j; decide

/-- A lane number shifted right by six is its half. -/
theorem shr6 (j : Fin 128) : IntOp.shrsi ArithUnit.vector (BitVec.ofNat 32 j.val) 6#32 = if j.val < 64 then 0#32 else 1#32 := by
  revert j; decide

/-- Two lanes' halves compared. -/
theorem eq_half (x j : Fin 128) : IntOp.cmpi CmpIPredicate.eq (IntOp.shrsi ArithUnit.vector (BitVec.ofNat 32 x.val) 6#32)
    (IntOp.shrsi ArithUnit.vector (BitVec.ofNat 32 j.val) 6#32) = if x.val / 64 = j.val / 64 then 1#1 else 0#1 := by
  rw [shr6, shr6]
  have := x.isLt; have := j.isLt
  by_cases hx : x.val < 64 <;> by_cases hj : j.val < 64
  · rw [if_pos hx, if_pos hj, if_pos (by omega)]; rfl
  · rw [if_pos hx, if_neg hj, if_neg (by omega)]; rfl
  · rw [if_neg hx, if_pos hj, if_neg (by omega)]; rfl
  · rw [if_neg hx, if_neg hj, if_pos (by omega)]; rfl

/-! ## The masked queries and the weighted sums -/

/-- The block beside the queries: its first column is one, the others zero. -/
theorem unit_apply (r : Fin 256) (w : Fin 128) : k0_pay2 (F := Ideal) (ix2 r w) = if w.val = 0 then (1 : EReal) else 0 := by
  pointwise [k0_pay2]
  rw [eq0, sel_if]

/-- Two blocks of 128 columns side by side. -/
theorem beside_apply (a b : FVec Ideal S256x128 .bf16) (r w : Fin 256) :
    concatenate S256x256 1 [⟨S256x128, a⟩, ⟨S256x128, b⟩] concatenates_S256x128_S256x128_S256x256_d1 (ix2 r w)
      = if h : w.val < 128 then a (ix2 r ⟨w.val, h⟩) else b (ix2 r ⟨w.val - 128, by omega⟩) := by
  pointwise []

/-- Queries times a row of masks. -/
theorem masked_apply (q : Vec Ideal S1x256x128 .bf16) (m : Vec Ideal S1x128 .bf16) (r : Fin 256) (w : Fin 128) :
    (mulf (F := Ideal) (φ := .bf16) (s := S256x128) (shapeCast S256x128 q shapeCasts_S1x256x128_S256x128) (broadcastTo S256x128 (shapeCast S1x128 m shapeCasts_S1x128_S1x128)
      broadcasts_S1x128_S256x128) (ix2 r w) : EReal) = (q (ix3 0 r w) : EReal) * (m (ix2 0 w) : EReal) := by
  pointwise []

/-- The queries of column chunk `c`. -/
theorem qrow_apply (x0 : Vec Ideal S1x256x768 .bf16) (c : Fin 6) (r : Fin 256) (w : Fin 128) :
    View.ld x0 (Rect.unit (s := S1x256x768) ![0, 0, 128 * c.val] S1x256x128.size (q_in c)) (ix3 0 r w)
      = x0 (ix3 0 r ⟨128 * c.val + w.val, by omega⟩) := by
  pointwise []

/-- Mask row `g`. -/
theorem mrow_apply (x9 : Vec Ideal S8x128 .bf16) (g : Fin 6) (w : Fin 128) :
    View.ld x9 (Rect.unit (s := S8x128) ![g.val, 0] S1x128.size (m_in g)) (ix2 0 w) = x9 (ix2 ⟨g.val, by omega⟩ w) :=
  View.ld_unit_apply_of _ _ _ _ _ _ (fun a => by fin_cases a <;> simp [ix2])

/-- The masked queries at row `r`, column `w`. -/
theorem lhs_apply (x0 : Vec Ideal S1x256x768 .bf16) (x9 : Vec Ideal S8x128 .bf16) (c g : Fin 6) (r w : Fin 256) :
    lhs x0 x9 c g (ix2 r w) = if h : w.val < 128 then
        (x0 (ix3 0 r ⟨128 * c.val + w.val, by omega⟩) : EReal) * (x9 (ix2 ⟨g.val, by omega⟩ ⟨w.val, h⟩) : EReal)
      else if w.val = 128 then (1 : EReal) else 0 := by
  unfold lhs
  rw [beside_apply]
  by_cases h : w.val < 128
  · rw [dif_pos h, dif_pos h]
    refine (masked_apply _ _ r ⟨w.val, h⟩).trans ?_
    rw [qrow_apply, mrow_apply]
  · rw [dif_neg h, dif_neg h, unit_apply]
    congr 1
    apply propext
    show w.val - 128 = 0 ↔ _
    omega

/-- One chunk's weighted sums. -/
theorem wsum_apply (L : FVec Ideal S512x256 .bf16) (k : Vec Ideal S1x256x256 .bf16) (v : Vec Ideal S1x256x128 .bf16) (r : Fin 512) (j : Fin 128) :
    wsum L k v (ix2 r j) = ∑ s : Fin 256, Ideal.exp2 (∑ w : Fin 256, (L (ix2 r w) : EReal) * (k (ix3 0 w s) : EReal)) * (v (ix3 0 s j) : EReal) := by
  pointwise [wsum]
  rfl

/-- The keys of chunk `c` at row `w`, key `s`. -/
theorem keys_apply (x1 : Vec Ideal S1x1024x2304 .bf16) (b : Fin 4) (c : Fin 9) (w s : Fin 256) :
    keys x1 b c (ix3 0 w s) = x1 (ix3 0 ⟨256 * b.val + w.val, by omega⟩ ⟨256 * c.val + s.val, by omega⟩) := by
  pointwise [keys]

/-- The values of chunk `c` at key `s`, column `j`. -/
theorem vals_apply (x2 : Vec Ideal S1x2304x1024 .bf16) (c : Fin 9) (h : Fin 8) (s : Fin 256) (j : Fin 128) :
    vals x2 c h (ix3 0 s j) = x2 (ix3 0 ⟨256 * c.val + s.val, by omega⟩ ⟨128 * h.val + j.val, by omega⟩) := by
  pointwise [vals]

/-- What a tile accumulates over the keys it sees, `pos s` for `s < n`. -/
def Sums {n : ℕ} (acc : Fin 4 → Fin 8 → FVec Ideal S512x256 .bf16 → FVec Ideal S512x128 .f32) (pos : Fin n → Fin 2304)
    (x1 : Vec Ideal S1x1024x2304 .bf16) (x2 : Vec Ideal S1x2304x1024 .bf16) : Prop :=
  ∀ (b : Fin 4) (h : Fin 8) (L : FVec Ideal S512x256 .bf16) (r : Fin 512) (j : Fin 128),
    acc b h L (ix2 r j) = ∑ s : Fin n,
      Ideal.exp2 (∑ w : Fin 256, (L (ix2 r w) : EReal) * (x1 (ix3 0 ⟨256 * b.val + w.val, by omega⟩ (pos s)) : EReal))
        * (x2 (ix3 0 (pos s) ⟨128 * h.val + j.val, by omega⟩) : EReal)

/-- A latent tile sums over all the keys. -/
theorem nine_sums (x1 : Vec Ideal S1x1024x2304 .bf16) (x2 : Vec Ideal S1x2304x1024 .bf16) : Sums (nine x1 x2) (fun s => s) x1 x2 := by
  intro b h L r j
  rw [sum_chunks _ (fun i s => Ideal.exp2 (∑ w : Fin 256, (L (ix2 r w) : EReal) * (keys x1 b i (ix3 0 w s) : EReal))
    * (vals x2 i h (ix3 0 s j) : EReal)) (fun i s => by simp only [keys_apply, vals_apply])]
  simp only [← wsum_apply]
  rfl

/-- A context tile sums over the context's keys. -/
theorem last_sums (x1 : Vec Ideal S1x1024x2304 .bf16) (x2 : Vec Ideal S1x2304x1024 .bf16) :
    Sums (last x1 x2) (fun s : Fin 256 => ⟨2048 + s.val, by omega⟩) x1 x2 := by
  intro b h L r j
  unfold last
  rw [wsum_apply]
  simp only [keys_apply, vals_apply]
  rfl

/-- The first rows of a sum over two blocks of queries are those of the first block. -/
theorem top_apply (a : FVec Ideal S512x128 .f32) (r : Fin 256) (j : Fin 128) : top a (ix2 r j) = a (ix2 ⟨r.val, by omega⟩ j) := by
  pointwise [top]

/-- The last rows are those of the second block. -/
theorem bot_apply (a : FVec Ideal S512x128 .f32) (r : Fin 256) (j : Fin 128) : bot a (ix2 r j) = a (ix2 ⟨256 + r.val, by omega⟩ j) := by
  pointwise [bot]

/-- Two blocks, one over the other, at an index. -/
theorem two_apply (a b : FVec Ideal S256x256 .bf16) (r : Fin 512) (w : Fin 256) :
    two a b (ix2 r w) = if h : r.val < 256 then a (ix2 ⟨r.val, h⟩ w) else b (ix2 ⟨r.val - 256, by omega⟩ w) := by
  pointwise [two]

/-- The normalised pair at an index. -/
theorem norm_apply (a b : FVec Ideal S256x128 .f32) (r : Fin 256) (j : Fin 128) :
    norm a b (ix2 r j) = if j.val < 64 then Ideal.div (a (ix2 r j)) (a (ix2 r ⟨(j.val + 64) % 128, by omega⟩))
      else Ideal.div (b (ix2 r j)) (b (ix2 r ⟨(j.val + 64) % 128, by omega⟩)) := by
  pointwise [norm]
  rw [slt64, sel_if, sel_if]
  have : (⟨(j.val + 128 - 64) % 128, by omega⟩ : Fin 128) = ⟨(j.val + 64) % 128, by omega⟩ := Fin.ext (by show (j.val + 128 - 64) % 128 = (j.val + 64) % 128; omega)
  by_cases h : j.val < 64
  · simp only [if_pos h, this]
  · simp only [if_neg h, this]

/-! ## The blocks laid out -/

/-- The lanes mask row `g` lets through: a half of the lanes for the grouped-query rows, a quarter for the differential rows. -/
def lo (g : Fin 6) : ℕ := if g.val < 2 then 64 * g.val else 32 * (g.val - 2)

/-- How many they are. -/
def wd (g : Fin 6) : ℕ := if g.val < 2 then 64 else 32

theorem lo_wd (g : Fin 6) : lo g + wd g ≤ 128 := by revert g; decide

/-- The blocks of a tile hold real numbers `Q`, `K`, `V`, laid out as the layer's projection lays them out, and the masks. -/
structure Laid (x0 : Vec Ideal S1x256x768 .bf16) (x1 : Vec Ideal S1x1024x2304 .bf16) (x2 : Vec Ideal S1x2304x1024 .bf16)
    (x9 : Vec Ideal S8x128 .bf16) (Q K V : ℕ → ℕ → ℝ) : Prop where
  q : ∀ (r : Fin 256) (c : Fin 768), (x0 (ix3 0 r c) : EReal) = (Q r.val c.val : EReal)
  k : ∀ (w : Fin 1024) (s : Fin 2304), (x1 (ix3 0 w s) : EReal) = (K w.val s.val : EReal)
  v : ∀ (s : Fin 2304) (c : Fin 1024), (x2 (ix3 0 s c) : EReal) = (V s.val c.val : EReal)
  mask : ∀ (g : Fin 6) (w : Fin 128), (x9 (ix2 ⟨g.val, by omega⟩ w) : EReal) = if lo g ≤ w.val ∧ w.val < lo g + wd g then 1 else 0
  ones : ∀ s c : ℕ, s < 2304 → c < 1024 → 64 ≤ c % 256 → c % 256 < 192 → V s c = 1
  vdup : ∀ s b d : ℕ, s < 2304 → b < 2 → d < 64 → V s (256 * b + 192 + d) = V s (256 * b + d)
  kdup : ∀ s b e : ℕ, s < 2304 → b < 2 → e < 64 → K (256 * b + 64 + e) s = K (256 * b + e) s
  bound : ∀ s b : ℕ, s < 2304 → b < 4 → K (256 * b + 128) s = K (256 * b + 128) 0

section
variable {x0 : Vec Ideal S1x256x768 .bf16} {x1 : Vec Ideal S1x1024x2304 .bf16} {x2 : Vec Ideal S1x2304x1024 .bf16}
  {x9 : Vec Ideal S8x128 .bf16} {Q K V : ℕ → ℕ → ℝ}

/-- A score: the masked queries' row against a key's column is the product over the lanes the mask lets through, plus the bound. -/
theorem Laid.score (H : Laid x0 x1 x2 x9 Q K V) (b : Fin 4) (c g : Fin 6) (r : Fin 256) (s : Fin 2304) :
    ∑ w : Fin 256, (lhs x0 x9 c g (ix2 r w) : EReal) * (x1 (ix3 0 ⟨256 * b.val + w.val, by omega⟩ s) : EReal)
      = ((∑ e : Fin (wd g), Q r.val (128 * c.val + lo g + e.val) * K (256 * b.val + lo g + e.val) s.val : ℝ) : EReal)
        + ((K (256 * b.val + 128) 0 : ℝ) : EReal) := by
  rw [sum_half _ (fun w : Fin 128 => (if lo g ≤ w.val ∧ w.val < lo g + wd g then
      ((Q r.val (128 * c.val + w.val) * K (256 * b.val + w.val) s.val : ℝ) : EReal) else 0)) ((K (256 * b.val + 128) 0 : ℝ) : EReal)]
  · congr 1
    rw [sum_stretch (wd g) (lo g) (lo_wd g), coe_sum]
    · refine Finset.sum_congr rfl fun e _ => ?_
      have := e.isLt
      rw [if_pos ⟨Nat.le_add_right _ _, by show lo g + e.val < _; omega⟩]
      simp only [Nat.add_assoc]
    · intro k hk
      rw [if_neg hk]
  · intro w
    rw [lhs_apply, dif_pos w.isLt, H.q, H.mask g w, H.k]
    by_cases hw : lo g ≤ w.val ∧ w.val < lo g + wd g
    · rw [if_pos hw, if_pos hw, mul_one, EReal.coe_mul]
    · rw [if_neg hw, if_neg hw, mul_zero, zero_mul]
  · rw [lhs_apply, dif_neg (by show ¬ (128 < 128); omega), if_pos rfl, one_mul, H.k]
    exact congrArg _ (H.bound _ _ s.isLt b.isLt)
  · intro w hw
    rw [lhs_apply, dif_neg (by omega), if_neg (by omega), zero_mul]

/-- The score of query row `r`, column chunk `c`, under mask row `g`, and key `s` of block `b`. -/
def sc (Q K : ℕ → ℕ → ℝ) (b : Fin 4) (c g : Fin 6) (r s : ℕ) : ℝ :=
  ∑ e : Fin (wd g), Q r (128 * c.val + lo g + e.val) * K (256 * b.val + lo g + e.val) s

variable {acc : Fin 4 → Fin 8 → FVec Ideal S512x256 .bf16 → FVec Ideal S512x128 .f32} {n : ℕ} {pos : Fin n → Fin 2304}

/-- The first block's rows of the accumulated sums. -/
theorem Laid.top (H : Laid x0 x1 x2 x9 Q K V) (S : Sums acc pos x1 x2) (b : Fin 4) (h : Fin 8) (c g : Fin 6) (B : FVec Ideal S256x256 .bf16)
    (r : Fin 256) (j : Fin 128) :
    Attn.top (acc b h (two (lhs x0 x9 c g) B)) (ix2 r j) = ∑ s : Fin n,
      Ideal.exp2 ((sc Q K b c g r.val (pos s).val : EReal) + ((K (256 * b.val + 128) 0 : ℝ) : EReal)) * (V (pos s).val (128 * h.val + j.val) : EReal) := by
  rw [top_apply, S]
  refine Finset.sum_congr rfl fun s _ => ?_
  rw [H.v]
  congr 2
  rw [sc, ← H.score b c g r (pos s)]
  refine Finset.sum_congr rfl fun w _ => ?_
  rw [two_apply, dif_pos r.isLt]

/-- The second block's rows of the accumulated sums. -/
theorem Laid.bot (H : Laid x0 x1 x2 x9 Q K V) (S : Sums acc pos x1 x2) (b : Fin 4) (h : Fin 8) (c g : Fin 6) (A : FVec Ideal S256x256 .bf16)
    (r : Fin 256) (j : Fin 128) :
    Attn.bot (acc b h (two A (lhs x0 x9 c g))) (ix2 r j) = ∑ s : Fin n,
      Ideal.exp2 ((sc Q K b c g r.val (pos s).val : EReal) + ((K (256 * b.val + 128) 0 : ℝ) : EReal)) * (V (pos s).val (128 * h.val + j.val) : EReal) := by
  rw [bot_apply, S]
  refine Finset.sum_congr rfl fun s _ => ?_
  rw [H.v]
  congr 2
  rw [sc, ← H.score b c g r (pos s)]
  refine Finset.sum_congr rfl fun w _ => ?_
  rw [two_apply, dif_neg (by show ¬ (256 + r.val < 256); omega)]
  congr 4
  exact Nat.add_sub_cancel_left _ _

/-- The quotient of a lane of values by a lane of ones is the attention. -/
theorem Laid.quot [NeZero n] (H : Laid x0 x1 x2 x9 Q K V) (f : Fin n → ℝ) (β : ℝ) (c o : ℕ) (ho : o < 1024) (h1 : 64 ≤ o % 256) (h2 : o % 256 < 192) :
    Ideal.div (∑ s : Fin n, Ideal.exp2 ((f s : EReal) + (β : EReal)) * (V (pos s).val c : EReal))
      (∑ s : Fin n, Ideal.exp2 ((f s : EReal) + (β : EReal)) * (V (pos s).val o : EReal)) = (att f (fun s => V (pos s).val c) : EReal) := by
  have : ∀ s, ((V (pos s).val o : ℝ) : EReal) = 1 := fun s => by rw [H.ones _ _ (pos s).isLt ho h1 h2]; rfl
  simp only [this]
  exact exp2_quot f (fun s => V (pos s).val c) β

/-- The two heads of the first block's rows: the low lanes are the head under mask `g`, the high lanes the head under `g'`. -/
theorem Laid.tops [NeZero n] (H : Laid x0 x1 x2 x9 Q K V) (S : Sums acc pos x1 x2) (b : Fin 4) (h h' : Fin 8) (hh : h.val = 2 * b.val) (hh' : h'.val = 2 * b.val + 1)
    (c g g' : Fin 6) (B B' : FVec Ideal S256x256 .bf16) (r : Fin 256) (j : Fin 128) :
    norm (Attn.top (acc b h (two (lhs x0 x9 c g) B))) (Attn.top (acc b h' (two (lhs x0 x9 c g') B'))) (ix2 r j)
      = (att (fun s => sc Q K b c (if j.val < 64 then g else g') r.val (pos s).val)
          (fun s => V (pos s).val (256 * b.val + (if j.val < 64 then j.val else j.val + 128))) : EReal) := by
  have hj := j.isLt
  have hb := b.isLt
  rw [norm_apply]
  by_cases h64 : j.val < 64
  · rw [if_pos h64, H.top S, H.top S, H.quot _ _ _ _ (by dsimp only; omega) (by dsimp only; omega) (by dsimp only; omega)]
    simp only [if_pos h64, hh]
    congr 3; funext s; congr 1; omega
  · rw [if_neg h64, H.top S, H.top S, H.quot _ _ _ _ (by dsimp only; omega) (by dsimp only; omega) (by dsimp only; omega)]
    simp only [if_neg h64, hh']
    congr 3; funext s; congr 1; omega

/-- The two heads of the second block's rows. -/
theorem Laid.bots [NeZero n] (H : Laid x0 x1 x2 x9 Q K V) (S : Sums acc pos x1 x2) (b : Fin 4) (h h' : Fin 8) (hh : h.val = 2 * b.val) (hh' : h'.val = 2 * b.val + 1)
    (c g g' : Fin 6) (A A' : FVec Ideal S256x256 .bf16) (r : Fin 256) (j : Fin 128) :
    norm (Attn.bot (acc b h (two A (lhs x0 x9 c g)))) (Attn.bot (acc b h' (two A' (lhs x0 x9 c g')))) (ix2 r j)
      = (att (fun s => sc Q K b c (if j.val < 64 then g else g') r.val (pos s).val)
          (fun s => V (pos s).val (256 * b.val + (if j.val < 64 then j.val else j.val + 128))) : EReal) := by
  have hj := j.isLt
  have hb := b.isLt
  rw [norm_apply]
  by_cases h64 : j.val < 64
  · rw [if_pos h64, H.bot S, H.bot S, H.quot _ _ _ _ (by dsimp only; omega) (by dsimp only; omega) (by dsimp only; omega)]
    simp only [if_pos h64, hh]
    congr 3; funext s; congr 1; omega
  · rw [if_neg h64, H.bot S, H.bot S, H.quot _ _ _ _ (by dsimp only; omega) (by dsimp only; omega) (by dsimp only; omega)]
    simp only [if_neg h64, hh']
    congr 3; funext s; congr 1; omega

end

end Cert.Attn

end
-- ==== Proof.AttnSpec.lean ====
/-
  What the attention call computes, entry by entry, over the exact real numbers: grouped-query attention, the short
  convolution and the differential attention of one row, and the projection of the three put side by side.
-/
module

public import proofs.«01_k».proof.Proof.AttnMath
public import Idealize.ShloMosaic.Lib.Pointwise

@[expose] public section

noncomputable section

namespace Cert.Attn

open Idealize.ShloMosaic

/-- The score of a row's grouped-query head `m` against key `s`: head `m` uses the keys of group `m / 4`. -/
def sG (q : ℕ → ℝ) (K : ℕ → ℕ → ℝ) (m s : ℕ) : ℝ := ∑ e : Fin 64, q (64 * m + e.val) * K (256 * (m / 4) + e.val) s

/-- The score of component `c` of a row's differential head `h` against key `s`. -/
def sD (q : ℕ → ℝ) (K : ℕ → ℕ → ℝ) (h c s : ℕ) : ℝ :=
  ∑ e : Fin 32, q (512 + 64 * h + 32 * c + e.val) * K (512 + 256 * (h / 2) + 64 * (h % 2) + 32 * c + e.val) s

section
variable {n : ℕ} (pos : Fin n → Fin 2304) (q : ℕ → ℝ) (K V : ℕ → ℕ → ℝ)

/-- Grouped-query attention, output channel `k < 512`. -/
def gqa (k : ℕ) : EReal :=
  (att (fun s => sG q K (k / 64) (pos s).val) (fun s => V (pos s).val (256 * (k / 64 / 4) + k % 64)) : ℝ)

/-- Attention with component `c` of differential head `h`, value channel `d`. -/
def dhead (h c d : ℕ) : EReal :=
  (att (fun s => sD q K h c (pos s).val) (fun s => V (pos s).val (512 + 256 * (h / 2) + 192 * (h % 2) + d)) : ℝ)

/-- The differential attention of head `h`, channel `d`. -/
def dattn (lam : EReal) (h d : ℕ) : EReal := dhead pos q K V h 0 d - lam * dhead pos q K V h 1 d

end

/-- A head's channels over the root of their mean square plus a small number, times a gain, times `1 - lam_init`. -/
def drms (D : ℕ → EReal) (gain : EReal) (d : ℕ) : EReal :=
  D d * Ideal.rsqrt ((∑ e : Fin 64, D e.val * D e.val) * ((1 / 64 : ℝ) : EReal) + Ideal.ofBits .f32 0x358637BD#32) * gain
    * Ideal.ofBits .f32 0x3F4CCCCD#32

/-- The gated short convolution at row `p`, channel `j`: zero beyond the latents (rows 0 to 2047) and the context (2048 to 2303). -/
def cnv (z : ℕ → ℕ → EReal) (w : ℕ → ℕ → EReal) (p j : ℕ) : EReal :=
  z p (256 + j) * (w 0 j * (if p = 0 ∨ p = 2048 then 0 else z (p - 1) j) + w 1 j * z p j
    + w 2 j * (if p = 2047 ∨ p = 2303 then 0 else z (p + 1) j))

/-- The number the second component of the differential attention is taken with. -/
def lamOf (l : ℕ → ℕ → EReal) : EReal :=
  Ideal.exp (∑ e : Fin 32, l 0 e.val * l 1 e.val) - Ideal.exp (∑ e : Fin 32, l 2 e.val * l 3 e.val) + Ideal.ofBits .f32 0x3E4CCCCD#32

/-- Channel `k` of the three side by side, for the row at position `p`. -/
def chan {n : ℕ} (pos : Fin n → Fin 2304) (q : ℕ → ℝ) (K V : ℕ → ℕ → ℝ) (z w : ℕ → ℕ → EReal) (gain : ℕ → EReal) (l : ℕ → ℕ → EReal)
    (p k : ℕ) : EReal :=
  if k < 512 then gqa pos q K V k
  else if k < 768 then cnv z w p (k - 512)
  else drms (dattn pos q K V (lamOf l) ((k - 768) / 64)) (gain ((k - 768) % 64)) ((k - 768) % 64)

/-! ## The whole arrays -/

/-- An entry of a vector, zero beyond its end. -/
def at1 {a : ℕ} (X : (⟨1, ![a]⟩ : Shape).Idx → EReal) (i : ℕ) : EReal := if h : i < a then X (ix1 ⟨i, h⟩) else 0

/-- An entry of a matrix, zero beyond its bounds. -/
def at2 {a b : ℕ} (X : (⟨2, ![a, b]⟩ : Shape).Idx → EReal) (i j : ℕ) : EReal :=
  if h : i < a ∧ j < b then X (ix2 ⟨i, h.1⟩ ⟨j, h.2⟩) else 0

/-- An entry of an array of three axes, zero beyond its bounds. -/
def at3 {a b c : ℕ} (X : (⟨3, ![a, b, c]⟩ : Shape).Idx → EReal) (i j k : ℕ) : EReal :=
  if h : i < a ∧ j < b ∧ k < c then X (ix3 ⟨i, h.1⟩ ⟨j, h.2.1⟩ ⟨k, h.2.2⟩) else 0

/-- An entry of an array of four axes, zero beyond its bounds. -/
def at4 {a b c d : ℕ} (X : (⟨4, ![a, b, c, d]⟩ : Shape).Idx → EReal) (i j k l : ℕ) : EReal :=
  if h : i < a ∧ j < b ∧ k < c ∧ l < d then X (ix4 ⟨i, h.1⟩ ⟨j, h.2.1⟩ ⟨k, h.2.2.1⟩ ⟨l, h.2.2.2⟩) else 0

section
variable {a b c d : ℕ}

theorem at1_of (X : (⟨1, ![a]⟩ : Shape).Idx → EReal) (i : ℕ) (hi : i < a) : at1 X i = X (ix1 ⟨i, hi⟩) := dif_pos hi

theorem at2_of (X : (⟨2, ![a, b]⟩ : Shape).Idx → EReal) (i j : ℕ) (hi : i < a) (hj : j < b) : at2 X i j = X (ix2 ⟨i, hi⟩ ⟨j, hj⟩) := dif_pos ⟨hi, hj⟩

theorem at3_of (X : (⟨3, ![a, b, c]⟩ : Shape).Idx → EReal) (i j k : ℕ) (hi : i < a) (hj : j < b) (hk : k < c) :
    at3 X i j k = X (ix3 ⟨i, hi⟩ ⟨j, hj⟩ ⟨k, hk⟩) := dif_pos ⟨hi, hj, hk⟩

theorem at4_of (X : (⟨4, ![a, b, c, d]⟩ : Shape).Idx → EReal) (i j k l : ℕ) (hi : i < a) (hj : j < b) (hk : k < c) (hl : l < d) :
    at4 X i j k l = X (ix4 ⟨i, hi⟩ ⟨j, hj⟩ ⟨k, hk⟩ ⟨l, hl⟩) := dif_pos ⟨hi, hj, hk, hl⟩

end

/-- The context's key positions. -/
def ctx (s : Fin 256) : Fin 2304 := ⟨2048 + s.val, by omega⟩

section
variable (q : (⟨3, ![16, 2304, 768]⟩ : Shape).Idx → EReal) (kt : (⟨3, ![16, 1024, 2304]⟩ : Shape).Idx → EReal)
  (v : (⟨3, ![16, 2304, 1024]⟩ : Shape).Idx → EReal) (cv : (⟨3, ![16, 2304, 512]⟩ : Shape).Idx → EReal)
  (xa : (⟨3, ![16, 2304, 1024]⟩ : Shape).Idx → EReal) (mo : (⟨4, ![16, 2, 6, 1024]⟩ : Shape).Idx → EReal)
  (wo : (⟨2, ![1024, 1024]⟩ : Shape).Idx → EReal) (cw : (⟨2, ![3, 256]⟩ : Shape).Idx → EReal)
  (sub : (⟨1, ![64]⟩ : Shape).Idx → EReal) (dl : (⟨2, ![4, 32]⟩ : Shape).Idx → EReal)

/-- A row of queries, as real numbers. -/
def qr (b p : ℕ) : ℕ → ℝ := fun c => (at3 q b p c).toReal

/-- A batch's keys, as real numbers. -/
def kr (b : ℕ) : ℕ → ℕ → ℝ := fun w s => (at3 kt b w s).toReal

/-- A batch's values, as real numbers. -/
def vr (b : ℕ) : ℕ → ℕ → ℝ := fun s c => (at3 v b s c).toReal

/-- Channel `k` of row `p` of batch `b`: the latents' rows attend to every key, the context's rows to the context's keys. -/
def row (b p k : ℕ) : EReal :=
  if p < 2048 then chan (fun s => s) (qr q b p) (kr kt b) (vr v b) (at3 cv b) (at2 cw) (at1 sub) (at2 dl) p k
  else chan ctx (qr q b p) (kr kt b) (vr v b) (at3 cv b) (at2 cw) (at1 sub) (at2 dl) p k

/-- The result at row `p` of batch `b`, column `o`: the residual plus the gate times the projected channels. -/
def entry (b p o : ℕ) : EReal :=
  at3 xa b p o + at4 mo b (if p < 2048 then 0 else 1) 2 o * ∑ k : Fin 1024, row q kt v cv cw sub dl b p k.val * at2 wo k.val o

/-- What the attention call leaves in its result array. -/
def layer : (⟨3, ![16, 2304, 1024]⟩ : Shape).Idx → EReal := fun i => entry q kt v cv xa mo wo cw sub dl (i 0).val (i 1).val (i 2).val

/-- Arguments laid out as the layer's projection lays them out, and real. -/
structure Ready : Prop where
  rq : ∀ i, q i ≠ ⊤ ∧ q i ≠ ⊥
  rk : ∀ i, kt i ≠ ⊤ ∧ kt i ≠ ⊥
  rv : ∀ i, v i ≠ ⊤ ∧ v i ≠ ⊥
  rdl : ∀ i, dl i ≠ ⊤ ∧ dl i ≠ ⊥
  ones : ∀ b s c : ℕ, b < 16 → s < 2304 → c < 1024 → 64 ≤ c % 256 → c % 256 < 192 → at3 v b s c = 1
  vdup : ∀ b s h d : ℕ, b < 16 → s < 2304 → h < 2 → d < 64 → at3 v b s (256 * h + 192 + d) = at3 v b s (256 * h + d)
  kdup : ∀ b s h e : ℕ, b < 16 → s < 2304 → h < 2 → e < 64 → at3 kt b (256 * h + 64 + e) s = at3 kt b (256 * h + e) s
  bound : ∀ b s h : ℕ, b < 16 → s < 2304 → h < 4 → at3 kt b (256 * h + 128) s = at3 kt b (256 * h + 128) 0

end

end Cert.Attn

end
-- ==== Proof.AttnTile.lean ====
/-
  One tile of the attention call computes the channels of its rows and their projection.
-/
module

public import proofs.«01_k».proof.Proof.AttnRead
public import proofs.«01_k».proof.Proof.AttnSpec

@[expose] public section

noncomputable section

namespace Cert.Attn

open Cert.KernelIdeal Cert.KernelIdeal.Gen Idealize.ShloMosaic Idealize.ShloMosaic.TcCoe Idealize.SL.Sem
open Cert.KernelIdeal.Facts

set_option maxRecDepth 16384

section
variable {x0 : Vec Ideal S1x256x768 .bf16} {x1 : Vec Ideal S1x1024x2304 .bf16} {x2 : Vec Ideal S1x2304x1024 .bf16}
  {x9 : Vec Ideal S8x128 .bf16} {Q K V : ℕ → ℕ → ℝ}
  {acc : Fin 4 → Fin 8 → FVec Ideal S512x256 .bf16 → FVec Ideal S512x128 .f32} {n : ℕ} {pos : Fin n → Fin 2304}

/-- A grouped-query score under either half mask is the head's score: the keys are there twice. -/
theorem Laid.sc_gq (H : Laid x0 x1 x2 x9 Q K V) (b : Fin 4) (c : Fin 6) (hb : c.val / 2 = b.val) (hc : c.val < 4) (r s : ℕ) (hs : s < 2304) (j : Fin 128) :
    sc Q K b c (if j.val < 64 then 0 else 1) r s = sG (Q r) K ((128 * c.val + j.val) / 64) s := by
  have hj := j.isLt
  by_cases h : j.val < 64
  · rw [if_pos h]
    show ∑ e : Fin 64, _ = ∑ e : Fin 64, _
    refine Finset.sum_congr rfl fun e _ => ?_
    show Q r (128 * c.val + 0 + e.val) * K (256 * b.val + 0 + e.val) s = _
    congr 2 <;> omega
  · rw [if_neg h]
    show ∑ e : Fin 64, _ = ∑ e : Fin 64, _
    refine Finset.sum_congr rfl fun e _ => ?_
    show Q r (128 * c.val + 64 + e.val) * K (256 * b.val + 64 + e.val) s = _
    rw [H.kdup s b.val e.val hs (by omega) e.isLt]
    congr 2 <;> omega

/-- A differential score is the component's score. -/
theorem Laid.sc_df (H : Laid x0 x1 x2 x9 Q K V) (b : Fin 4) (c : Fin 6) (hb : c.val = b.val + 2) (hc : 4 ≤ c.val) (k : ℕ) (hk : k < 2) (g : Fin 6) (r s : ℕ) (j : Fin 128)
    (hg : g.val = 2 + k + (if j.val < 64 then 0 else 2)) :
    sc Q K b c g r s = sD (Q r) K (2 * (c.val - 4) + j.val / 64) k s := by
  have hj := j.isLt
  have hw : wd g = 32 := by unfold wd; rw [if_neg (by omega)]
  have hl : lo g = 32 * (g.val - 2) := by unfold lo; rw [if_neg (by omega)]
  unfold sc sD
  rw [hl]
  have key : ∀ m : ℕ, m = 32 → (∑ e : Fin m, Q r (128 * c.val + 32 * (g.val - 2) + e.val) * K (256 * b.val + 32 * (g.val - 2) + e.val) s)
      = ∑ e : Fin 32, Q r (128 * c.val + 32 * (g.val - 2) + e.val) * K (256 * b.val + 32 * (g.val - 2) + e.val) s := by
    rintro m rfl; rfl
  rw [key _ hw]
  refine Finset.sum_congr rfl fun e _ => ?_
  by_cases h : j.val < 64
  · rw [if_pos h] at hg
    congr 2 <;> omega
  · rw [if_neg h] at hg
    congr 2 <;> omega

/-- A chunk of 128 grouped-query channels. -/
theorem Laid.gq_top [NeZero n] (H : Laid x0 x1 x2 x9 Q K V) (S : Sums acc pos x1 x2) (b : Fin 4) (h h' : Fin 8) (hh : h.val = 2 * b.val) (hh' : h'.val = 2 * b.val + 1)
    (c c' : Fin 6) (hb : c.val / 2 = b.val) (hc : c.val < 4) (r : Fin 256) (j : Fin 128) :
    norm (Attn.top (gq acc x0 x9 b h c c' 0)) (Attn.top (gq acc x0 x9 b h' c c' 1)) (ix2 r j) = gqa pos (Q r.val) K V (128 * c.val + j.val) := by
  have hj := j.isLt
  unfold gq gqa
  rw [H.tops S b h h' hh hh']
  congr 2
  · funext s; exact H.sc_gq b c hb hc _ _ (pos s).isLt j
  · funext s
    by_cases h : j.val < 64
    · rw [if_pos h]; congr 1; omega
    · rw [if_neg h, show 256 * b.val + (j.val + 128) = 256 * b.val + 192 + (j.val - 64) by omega,
        H.vdup _ _ _ (pos s).isLt (by omega) (by omega)]
      congr 1; omega

/-- The other chunk of the same key group. -/
theorem Laid.gq_bot [NeZero n] (H : Laid x0 x1 x2 x9 Q K V) (S : Sums acc pos x1 x2) (b : Fin 4) (h h' : Fin 8) (hh : h.val = 2 * b.val) (hh' : h'.val = 2 * b.val + 1)
    (c c' : Fin 6) (hb : c'.val / 2 = b.val) (hc : c'.val < 4) (r : Fin 256) (j : Fin 128) :
    norm (Attn.bot (gq acc x0 x9 b h c c' 0)) (Attn.bot (gq acc x0 x9 b h' c c' 1)) (ix2 r j) = gqa pos (Q r.val) K V (128 * c'.val + j.val) := by
  have hj := j.isLt
  unfold gq gqa
  rw [H.bots S b h h' hh hh']
  congr 2
  · funext s; exact H.sc_gq b c' hb hc _ _ (pos s).isLt j
  · funext s
    by_cases h : j.val < 64
    · rw [if_pos h]; congr 1; omega
    · rw [if_neg h, show 256 * b.val + (j.val + 128) = 256 * b.val + 192 + (j.val - 64) by omega,
        H.vdup _ _ _ (pos s).isLt (by omega) (by omega)]
      congr 1; omega

/-- The first components of a chunk of differential heads. -/
theorem Laid.df_top [NeZero n] (H : Laid x0 x1 x2 x9 Q K V) (S : Sums acc pos x1 x2) (b : Fin 4) (h h' : Fin 8) (hh : h.val = 2 * b.val) (hh' : h'.val = 2 * b.val + 1)
    (c : Fin 6) (hb : c.val = b.val + 2) (hc : 4 ≤ c.val) (r : Fin 256) (j : Fin 128) :
    norm (Attn.top (df acc x0 x9 b h c 2 3)) (Attn.top (df acc x0 x9 b h' c 4 5)) (ix2 r j)
      = dhead pos (Q r.val) K V (2 * (c.val - 4) + j.val / 64) 0 (j.val % 64) := by
  have hj := j.isLt
  unfold df dhead
  rw [H.tops S b h h' hh hh']
  congr 2
  · funext s
    exact H.sc_df b c hb hc 0 (by omega) _ _ _ j (by by_cases h : j.val < 64 <;> simp [h])
  · funext s
    by_cases h : j.val < 64
    · rw [if_pos h]; congr 1; omega
    · rw [if_neg h]; congr 1; omega

/-- Their second components. -/
theorem Laid.df_bot [NeZero n] (H : Laid x0 x1 x2 x9 Q K V) (S : Sums acc pos x1 x2) (b : Fin 4) (h h' : Fin 8) (hh : h.val = 2 * b.val) (hh' : h'.val = 2 * b.val + 1)
    (c : Fin 6) (hb : c.val = b.val + 2) (hc : 4 ≤ c.val) (r : Fin 256) (j : Fin 128) :
    norm (Attn.bot (df acc x0 x9 b h c 2 3)) (Attn.bot (df acc x0 x9 b h' c 4 5)) (ix2 r j)
      = dhead pos (Q r.val) K V (2 * (c.val - 4) + j.val / 64) 1 (j.val % 64) := by
  have hj := j.isLt
  unfold df dhead
  rw [H.bots S b h h' hh hh']
  congr 2
  · funext s
    exact H.sc_df b c hb hc 1 (by omega) _ _ _ j (by by_cases h : j.val < 64 <;> simp [h])
  · funext s
    by_cases h : j.val < 64
    · rw [if_pos h]; congr 1; omega
    · rw [if_neg h]; congr 1; omega

end

/-! ## The other pieces of a tile -/

/-- The bit pattern 0x3C800000 is one sixty-fourth. -/
theorem word_64 : Ideal.ofBits .f32 0x3C800000#32 = ((1 / 64 : ℝ) : EReal) := by
  simp [Ideal.ofBits, Ideal.ieee, -EReal.coe_mul]
  norm_num

/-- The root-mean-square normalisation at an index: over the 64 lanes of the same half. -/
theorem rms_apply (d : FVec Ideal S256x128 .f32) (x10 : Vec Ideal S8x256 .f32) (r : Fin 256) (j : Fin 128) (D : ℕ → EReal)
    (hD : ∀ e : Fin 128, e.val / 64 = j.val / 64 → d (ix2 r e) = D (e.val % 64)) :
    rms d x10 (ix2 r j) = drms D (x10 (ix2 3 ⟨j.val, by omega⟩)) (j.val % 64) := by
  have hj := j.isLt
  have key : (∑ x : Fin 128, (Scalar.select (IntOp.cmpi CmpIPredicate.eq (IntOp.shrsi ArithUnit.vector (BitVec.ofNat 32 x.val) 6#32)
      (IntOp.shrsi ArithUnit.vector (BitVec.ofNat 32 j.val) 6#32)) ((d (ix2 r x) : EReal) * (d (ix2 r x) : EReal)) 0 : EReal))
      = ∑ e : Fin 64, D e.val * D e.val := by
    rw [sum_stretch 64 (64 * (j.val / 64)) (by omega)]
    · refine Finset.sum_congr rfl fun e _ => ?_
      have he := e.isLt
      have h1 : (64 * (j.val / 64) + e.val) / 64 = j.val / 64 := by omega
      rw [eq_half, sel_if, if_pos h1, hD _ h1, show (64 * (j.val / 64) + e.val) % 64 = e.val by omega]
    · intro k hk
      rw [eq_half, sel_if, if_neg (by intro hh; apply hk; omega)]
  pointwise [rms, k0_pay67, k0_pay51]
  unfold drms
  rw [hD j rfl, ← word_64, ← key]

/-- The difference at an index. -/
theorem diff_apply (x11 : Vec Ideal S4x32 .f32) (a b : FVec Ideal S256x128 .f32) (r : Fin 256) (j : Fin 128) :
    diff (lam x11) a b (ix2 r j) = a (ix2 r j) - lamOf (fun i e => if h : i < 4 ∧ e < 32 then x11 (ix2 ⟨i, h.1⟩ ⟨e, h.2⟩) else 0) * b (ix2 r j) := by
  pointwise [diff, lam, k0_pay1]
  simp [lamOf]

/-- A row number compared with the first row. -/
theorem row_eq0 (r : Fin 256) : IntOp.cmpi CmpIPredicate.eq (BitVec.ofNat 32 r.val) 0#32 = if r.val = 0 then 1#1 else 0#1 := by
  revert r; decide

/-- A row number compared with the last row. -/
theorem row_eq255 (r : Fin 256) : IntOp.cmpi CmpIPredicate.eq (BitVec.ofNat 32 r.val) 255#32 = if r.val = 255 then 1#1 else 0#1 := by
  revert r; decide

/-- The tiles with no row before them: the first of the latents and the context's. -/
theorem tile_first (i : Fin 9) : Scalar.ori (Scalar.cmpi CmpIPredicate.eq (BitVec.ofNat 32 i.val) 0#32) (Scalar.cmpi CmpIPredicate.eq (BitVec.ofNat 32 i.val) 8#32)
    = if i.val = 0 ∨ i.val = 8 then 1#1 else 0#1 := by
  revert i; decide

/-- The tiles with no row after them: the last of the latents and the context's. -/
theorem tile_last (i : Fin 9) : Scalar.cmpi CmpIPredicate.sge (BitVec.ofNat 32 i.val) 7#32 = if 7 ≤ i.val then 1#1 else 0#1 := by
  revert i; decide

/-- The convolution at an index of tile `i`. -/
theorem conv_apply (i : ℕ) (hi : i < 9) (x3 : Vec Ideal S1x256x512 .f32) (x4 x5 : Vec Ideal S1x8x512 .f32) (x10 : Vec Ideal S8x256 .f32)
    (z w : ℕ → ℕ → EReal) (h3 : ∀ (r : Fin 256) (c : Fin 512), x3 (ix3 0 r c) = z (256 * i + r.val) c.val)
    (h4 : 0 < i → ∀ c : Fin 512, x4 (ix3 0 7 c) = z (256 * i - 1) c.val)
    (h5 : i < 8 → ∀ c : Fin 512, x5 (ix3 0 0 c) = z (256 * i + 256) c.val)
    (hw : ∀ (a : Fin 3) (c : Fin 256), x10 (ix2 ⟨a.val, by omega⟩ c) = w a.val c.val) (r : Fin 256) (j : Fin 256) :
    conv (BitVec.ofNat 32 i) x3 x4 x5 x10 (ix2 r j) = cnv z w (256 * i + r.val) j.val := by
  have hr := r.isLt
  have hj := j.isLt
  pointwise [conv, k0_pay48, k0_pay47, k0_pay46]
  rw [row_eq0, row_eq255, tile_first ⟨i, hi⟩, tile_last ⟨i, hi⟩]
  simp only [sel_if, h3]
  unfold cnv
  have e0 : x10 (ix2 0 j) = w 0 j.val := hw 0 j
  have e1 : x10 (ix2 1 j) = w 1 j.val := hw 1 j
  have e2 : x10 (ix2 2 j) = w 2 j.val := hw 2 j
  rw [e0, e1, e2]
  have ha : (if r.val = 0 then if i = 0 ∨ i = 8 then (0 : EReal) else x4 (ix3 0 7 ⟨j.val, by omega⟩) else z (256 * i + (r.val + 256 - 1) % 256) j.val)
      = if 256 * i + r.val = 0 ∨ 256 * i + r.val = 2048 then 0 else z (256 * i + r.val - 1) j.val := by
    by_cases h : r.val = 0
    · rw [if_pos h]
      by_cases h' : i = 0 ∨ i = 8
      · rw [if_pos h', if_pos (by omega)]
      · rw [if_neg h', if_neg (by omega), h4 (by omega)]
        congr 1; omega
    · rw [if_neg h, if_neg (by omega)]
      congr 1; omega
  have hb : (if r.val = 255 then if 7 ≤ i then (0 : EReal) else x5 (ix3 0 0 ⟨j.val, by omega⟩) else z (256 * i + (r.val + 256 - 255) % 256) j.val)
      = if 256 * i + r.val = 2047 ∨ 256 * i + r.val = 2303 then 0 else z (256 * i + r.val + 1) j.val := by
    by_cases h : r.val = 255
    · rw [if_pos h]
      by_cases h' : 7 ≤ i
      · rw [if_pos h', if_pos (by omega)]
      · rw [if_neg h', if_neg (by omega), h5 (by omega)]
        congr 1; omega
    · rw [if_neg h, if_neg (by omega)]
      congr 1; omega
  rw [ha, hb]

/-- The first half of the columns. -/
theorem slice_low (X : FVec Ideal S256x256 .f32) (r : Fin 256) (j : Fin 128) :
    extractStridedSlice S256x128 ![0, 0] X slices_S256x256_o0_0_S256x128 (ix2 r j) = X (ix2 r ⟨j.val, by omega⟩) := by
  pointwise []

/-- The second half of the columns. -/
theorem slice_high (X : FVec Ideal S256x256 .f32) (r : Fin 256) (j : Fin 128) :
    extractStridedSlice S256x128 ![0, 128] X slices_S256x256_o0_128_S256x128 (ix2 r j) = X (ix2 r ⟨128 + j.val, by omega⟩) := by
  pointwise []

/-- Eight chunks side by side at an index. -/
theorem eight_apply (A : Fin 8 → FVec Ideal S256x128 .f32) (r : Fin 256) (g : Fin 8) (j : Fin 128) :
    (truncf .bf16 (concatenate S256x1024 1 [⟨S256x128, A 0⟩, ⟨S256x128, A 1⟩, ⟨S256x128, A 2⟩, ⟨S256x128, A 3⟩, ⟨S256x128, A 4⟩, ⟨S256x128, A 5⟩, ⟨S256x128, A 6⟩, ⟨S256x128, A 7⟩]
      concatenates_S256x128_S256x128_S256x128_S256x128_S256x128_S256x128_S256x128_S256x128_S256x1024_d1) bitsLt_bf16_f32 : FVec Ideal S256x1024 .bf16)
      (ix2 r ⟨128 * g.val + j.val, by omega⟩) = A g (ix2 r j) := by
  have hj := j.isLt
  fin_cases g
  · pointwise []
  · pointwise []
  · pointwise []
    rw [dif_neg (by omega), dif_neg (by omega), dif_pos (by omega)]
    exact congrArg (A 2) (congrArg (ix2 r) (Fin.ext (by dsimp only; omega)))
  · pointwise []
    rw [dif_neg (by omega), dif_neg (by omega), dif_neg (by omega), dif_pos (by omega)]
    exact congrArg (A 3) (congrArg (ix2 r) (Fin.ext (by dsimp only; omega)))
  · pointwise []
    rw [dif_neg (by omega), dif_neg (by omega), dif_neg (by omega), dif_neg (by omega), dif_pos (by omega)]
    exact congrArg (A 4) (congrArg (ix2 r) (Fin.ext (by dsimp only; omega)))
  · pointwise []
    rw [dif_neg (by omega), dif_neg (by omega), dif_neg (by omega), dif_neg (by omega), dif_neg (by omega), dif_pos (by omega)]
    exact congrArg (A 5) (congrArg (ix2 r) (Fin.ext (by dsimp only; omega)))
  · pointwise []
    rw [dif_neg (by omega), dif_neg (by omega), dif_neg (by omega), dif_neg (by omega), dif_neg (by omega), dif_neg (by omega), dif_pos (by omega)]
    exact congrArg (A 6) (congrArg (ix2 r) (Fin.ext (by dsimp only; omega)))
  · pointwise []
    rw [dif_neg (by omega), dif_neg (by omega), dif_neg (by omega), dif_neg (by omega), dif_neg (by omega), dif_neg (by omega), dif_neg (by omega)]
    exact congrArg (A 7) (congrArg (ix2 r) (Fin.ext (by dsimp only; omega)))

/-- The projection, its gate and the residual at an index. -/
theorem out_apply (y : FVec Ideal S256x1024 .bf16) (x6 : Vec Ideal S1x256x1024 .f32) (x7 : Vec Ideal S1x1x6x1024 .f32) (x8 : Vec Ideal S1024x1024 .bf16)
    (r : Fin 256) (n : Fin 1024) :
    k0_pay3 y (View.ld x8 (Rect.unit (s := S1024x1024) ![0, 0] S1024x1024.size inb_S1024x1024_S1024x1024_0_0))
      (View.ld x6 (Rect.unit (s := S1x256x1024) ![0, 0, 0] S1x256x1024.size inb_S1x256x1024_S1x256x1024_0_0_0))
      (View.ld x7 (Rect.unit (s := S1x1x6x1024) ![0, 0, 2, 0] S1x1x1x1024.size inb_S1x1x6x1024_S1x1x1x1024_0_0_2_0)) (ix3 0 r n)
      = (x6 (ix3 0 r n) + x7 (ix4 0 0 2 n) * ∑ k : Fin 1024, (y (ix2 r k) : EReal) * (x8 (ix2 k n) : EReal) : EReal) := by
  pointwise [k0_pay3]

/-! ## A tile's block -/

section
variable {x0 : Vec Ideal S1x256x768 .bf16} {x1 : Vec Ideal S1x1024x2304 .bf16} {x2 : Vec Ideal S1x2304x1024 .bf16}
  {x3 : Vec Ideal S1x256x512 .f32} {x4 x5 : Vec Ideal S1x8x512 .f32} {x6 : Vec Ideal S1x256x1024 .f32} {x7 : Vec Ideal S1x1x6x1024 .f32}
  {x8 : Vec Ideal S1024x1024 .bf16} {x9 : Vec Ideal S8x128 .bf16} {x10 : Vec Ideal S8x256 .f32} {x11 : Vec Ideal S4x32 .f32} {Q K V : ℕ → ℕ → ℝ}
  {acc : Fin 4 → Fin 8 → FVec Ideal S512x256 .bf16 → FVec Ideal S512x128 .f32} {n : ℕ} {pos : Fin n → Fin 2304}

/-- A chunk of two differential heads. -/
theorem Laid.dchunk_apply [NeZero n] (H : Laid x0 x1 x2 x9 Q K V) (S : Sums acc pos x1 x2) (gain : ℕ → EReal) (l : ℕ → ℕ → EReal)
    (hg : ∀ j : Fin 128, x10 (ix2 3 ⟨j.val, by omega⟩) = gain (j.val % 64)) (hl : ∀ (a : Fin 4) (e : Fin 32), x11 (ix2 a e) = l a.val e.val)
    (b : Fin 4) (h h' : Fin 8) (hh : h.val = 2 * b.val) (hh' : h'.val = 2 * b.val + 1) (c : Fin 6) (hb : c.val = b.val + 2) (hc : 4 ≤ c.val) (r : Fin 256) (j : Fin 128) :
    dchunk acc x0 x9 x10 x11 b h h' c (ix2 r j)
      = drms (dattn pos (Q r.val) K V (lamOf l) (2 * (c.val - 4) + j.val / 64)) (gain (j.val % 64)) (j.val % 64) := by
  unfold dchunk
  rw [rms_apply _ _ _ _ (dattn pos (Q r.val) K V (lamOf l) (2 * (c.val - 4) + j.val / 64)), hg]
  intro e he
  rw [diff_apply, H.df_top S b h h' hh hh' c hb hc, H.df_bot S b h h' hh hh' c hb hc, he]
  unfold dattn
  congr 2
  unfold lamOf
  have key : ∀ (a : ℕ) (ha : a < 4) (e : Fin 32), (if h : a < 4 ∧ e.val < 32 then x11 (ix2 ⟨a, h.1⟩ ⟨e.val, h.2⟩) else (0 : EReal)) = l a e.val :=
    fun a ha e => by rw [dif_pos ⟨ha, e.isLt⟩]; exact hl ⟨a, ha⟩ e
  simp only [key 0 (by omega), key 1 (by omega), key 2 (by omega), key 3 (by omega)]

/-- The channels of a row of tile `i`. -/
theorem Laid.ycat_apply [NeZero n] (H : Laid x0 x1 x2 x9 Q K V) (S : Sums acc pos x1 x2) (gain : ℕ → EReal) (l z w : ℕ → ℕ → EReal)
    (hg : ∀ j : Fin 128, x10 (ix2 3 ⟨j.val, by omega⟩) = gain (j.val % 64)) (hl : ∀ (a : Fin 4) (e : Fin 32), x11 (ix2 a e) = l a.val e.val)
    (i : ℕ) (hi : i < 9) (h3 : ∀ (r : Fin 256) (c : Fin 512), x3 (ix3 0 r c) = z (256 * i + r.val) c.val)
    (h4 : 0 < i → ∀ c : Fin 512, x4 (ix3 0 7 c) = z (256 * i - 1) c.val)
    (h5 : i < 8 → ∀ c : Fin 512, x5 (ix3 0 0 c) = z (256 * i + 256) c.val)
    (hw : ∀ (a : Fin 3) (c : Fin 256), x10 (ix2 ⟨a.val, by omega⟩ c) = w a.val c.val) (r : Fin 256) (k : Fin 1024) :
    ycat acc (BitVec.ofNat 32 i) x0 x3 x4 x5 x9 x10 x11 (ix2 r k) = chan pos (Q r.val) K V z w gain l (256 * i + r.val) k.val := by
  obtain ⟨k, hk⟩ := k
  obtain ⟨g, j, rfl⟩ : ∃ (g : Fin 8) (j : Fin 128), k = 128 * g.val + j.val := ⟨⟨k / 128, by omega⟩, ⟨k % 128, by omega⟩, by simp only []; omega⟩
  have hj := j.isLt
  have gq' : ∀ k : ℕ, k < 512 → chan pos (Q r.val) K V z w gain l (256 * i + r.val) k = gqa pos (Q r.val) K V k := fun k hk => by
    unfold chan; rw [if_pos hk]
  have cv : ∀ k : ℕ, 512 ≤ k → k < 768 → chan pos (Q r.val) K V z w gain l (256 * i + r.val) k = cnv z w (256 * i + r.val) (k - 512) := fun k hk hk' => by
    unfold chan; rw [if_neg (by omega), if_pos hk']
  have dc : ∀ a j : ℕ, j < 128 → chan pos (Q r.val) K V z w gain l (256 * i + r.val) (768 + 128 * a + j)
      = drms (dattn pos (Q r.val) K V (lamOf l) (2 * a + j / 64)) (gain (j % 64)) (j % 64) := fun a j hj => by
    unfold chan
    rw [if_neg (by omega), if_neg (by omega), show (768 + 128 * a + j - 768) / 64 = 2 * a + j / 64 by omega,
      show (768 + 128 * a + j - 768) % 64 = j % 64 by omega]
  have e0 := (H.gq_top S 0 0 1 rfl rfl 0 1 rfl (by decide) r j).trans (gq' (128 * 0 + j.val) (by omega)).symm
  have e1 := (H.gq_bot S 0 0 1 rfl rfl 0 1 rfl (by decide) r j).trans (gq' (128 * 1 + j.val) (by omega)).symm
  have e2 := (H.gq_top S 1 2 3 rfl rfl 2 3 rfl (by decide) r j).trans (gq' (128 * 2 + j.val) (by omega)).symm
  have e3 := (H.gq_bot S 1 2 3 rfl rfl 2 3 rfl (by decide) r j).trans (gq' (128 * 3 + j.val) (by omega)).symm
  have e4 := (conv_apply i hi x3 x4 x5 x10 z w h3 h4 h5 hw r ⟨j.val, by omega⟩).trans
    ((congrArg (cnv z w (256 * i + r.val)) (by dsimp only; omega)).trans (cv (128 * 4 + j.val) (by omega) (by omega)).symm)
  have e5 := (conv_apply i hi x3 x4 x5 x10 z w h3 h4 h5 hw r ⟨128 + j.val, by omega⟩).trans
    ((congrArg (cnv z w (256 * i + r.val)) (by dsimp only; omega)).trans (cv (128 * 5 + j.val) (by omega) (by omega)).symm)
  have e6 := (H.dchunk_apply S gain l hg hl 2 4 5 rfl rfl 4 rfl (by decide) r j).trans (dc 0 j.val hj).symm
  have e7 := (H.dchunk_apply S gain l hg hl 3 6 7 rfl rfl 5 rfl (by decide) r j).trans (dc 1 j.val hj).symm
  unfold ycat
  generalize norm (Attn.top (gq acc x0 x9 0 0 0 1 0)) (Attn.top (gq acc x0 x9 0 1 0 1 1)) = A0 at e0 ⊢
  generalize norm (Attn.bot (gq acc x0 x9 0 0 0 1 0)) (Attn.bot (gq acc x0 x9 0 1 0 1 1)) = A1 at e1 ⊢
  generalize norm (Attn.top (gq acc x0 x9 1 2 2 3 0)) (Attn.top (gq acc x0 x9 1 3 2 3 1)) = A2 at e2 ⊢
  generalize norm (Attn.bot (gq acc x0 x9 1 2 2 3 0)) (Attn.bot (gq acc x0 x9 1 3 2 3 1)) = A3 at e3 ⊢
  generalize conv (BitVec.ofNat 32 i) x3 x4 x5 x10 = X at e4 e5 ⊢
  generalize dchunk acc x0 x9 x10 x11 2 4 5 4 = A6 at e6 ⊢
  generalize dchunk acc x0 x9 x10 x11 3 6 7 5 = A7 at e7 ⊢
  have f4 : extractStridedSlice S256x128 ![0, 0] X slices_S256x256_o0_0_S256x128 (ix2 r j) = X (ix2 r ⟨j.val, by omega⟩) := slice_low X r j
  have f5 : extractStridedSlice S256x128 ![0, 128] X slices_S256x256_o0_128_S256x128 (ix2 r j) = X (ix2 r ⟨128 + j.val, by omega⟩) := slice_high X r j
  generalize extractStridedSlice S256x128 ![0, 0] X slices_S256x256_o0_0_S256x128 = A4 at f4 ⊢
  generalize extractStridedSlice S256x128 ![0, 128] X slices_S256x256_o0_128_S256x128 = A5 at f5 ⊢
  refine (eight_apply ![A0, A1, A2, A3, A4, A5, A6, A7] r g j).trans ?_
  generalize chan pos (Q r.val) K V z w gain l (256 * i + r.val) = f at *
  clear gq' cv dc H S h3 h4 h5 hw hg hl
  fin_cases g
  · exact e0
  · exact e1
  · exact e2
  · exact e3
  · exact f4.trans e4
  · exact f5.trans e5
  · exact e6
  · exact e7

/-- A tile's block: the residual plus the gate times the projected channels. -/
theorem Laid.block_apply [NeZero n] (H : Laid x0 x1 x2 x9 Q K V) (S : Sums acc pos x1 x2) (gain : ℕ → EReal) (l z w : ℕ → ℕ → EReal)
    (hg : ∀ j : Fin 128, x10 (ix2 3 ⟨j.val, by omega⟩) = gain (j.val % 64)) (hl : ∀ (a : Fin 4) (e : Fin 32), x11 (ix2 a e) = l a.val e.val)
    (i : ℕ) (hi : i < 9) (h3 : ∀ (r : Fin 256) (c : Fin 512), x3 (ix3 0 r c) = z (256 * i + r.val) c.val)
    (h4 : 0 < i → ∀ c : Fin 512, x4 (ix3 0 7 c) = z (256 * i - 1) c.val)
    (h5 : i < 8 → ∀ c : Fin 512, x5 (ix3 0 0 c) = z (256 * i + 256) c.val)
    (hw : ∀ (a : Fin 3) (c : Fin 256), x10 (ix2 ⟨a.val, by omega⟩ c) = w a.val c.val) (r : Fin 256) (o : Fin 1024) :
    block acc (BitVec.ofNat 32 i) x0 x3 x4 x5 x6 x7 x8 x9 x10 x11 (ix3 0 r o)
      = (x6 (ix3 0 r o) + x7 (ix4 0 0 2 o) * ∑ k : Fin 1024, chan pos (Q r.val) K V z w gain l (256 * i + r.val) k.val * (x8 (ix2 k o) : EReal) : EReal) := by
  unfold block
  rw [out_apply]
  congr 2
  exact Finset.sum_congr rfl fun k _ => congrArg (· * _) (H.ycat_apply S gain l z w hg hl i hi h3 h4 h5 hw r k)

end

end Cert.Attn

end
-- ==== Proof.AttnHost.lean ====
/-
  What the attention call's host code prepares: the masks of the queries, the table of the convolution's weights and the
  normalisation's gain, and the projection's weights. And the blocks of the call's operands at a grid point.
-/
module

public import proofs.«01_k».proof.Proof.IdealValue
public import proofs.«01_k».proof.Proof.AttnTile
public import Idealize.ShloMosaic.Lib.Pipeline.ValueKit
public import Idealize.ShloMosaic.Lib.Claim
public import Idealize.ShloMosaic.Lib.StableHlo.RunRead

@[expose] public section

noncomputable section

namespace Cert.Attn

open Cert.KernelIdeal Cert.KernelIdeal.Gen Idealize.ShloMosaic Idealize.ShloMosaic.TcCoe Idealize.SL.Sem
open Cert.KernelIdeal.Facts

set_option maxRecDepth 16384

variable (m : (ℓ : Loc nD τ sig) → Buf (Elt Ideal) ℓ)

/-! ## The prepared operands -/

/-- A bit as a number. -/
theorem bit_value (p : Prop) [Decidable p] : (FloatOps.uitofp (F := Ideal) FTy.bf16 (if p then 1#1 else 0#1 : BitVec 1) : EReal) = if p then 1 else 0 := by
  by_cases h : p
  · rw [if_pos h, if_pos h]; show (((1#1 : BitVec 1).toNat : ℝ) : EReal) = 1; simp
  · rw [if_neg h, if_neg h]; show (((0#1 : BitVec 1).toNat : ℝ) : EReal) = 0; simp

/-- Row `g` of the masks is one on the lanes of its half or quarter and zero elsewhere. -/
theorem mask_entry (c : Dev nD) (g : Fin 6) (w : Fin 128) :
    V m c main_v30 (ix2 ⟨g.val, by omega⟩ w) = (if lo g ≤ w.val ∧ w.val < lo g + wd g then 1 else 0 : EReal) := by
  rw [← bit_value]
  entry_read
  simp only [List.flatten_cons, List.flatten_nil, List.append_nil]
  after_reads_simp
  fin_cases g
  · pointwise []
    after_reads_simp
    pointwise []
    refine congrArg _ ?_
    revert w; decide
  · pointwise []
    after_reads_simp
    pointwise []
    refine congrArg _ ?_
    revert w; decide
  all_goals
    pointwise []
    after_reads_simp
    simp only [StableHlo.TRef.ofBuf_toBuf, StableHlo.TRef.ofBuf, StableHlo.TRef.toBuf, StableHlo.TRef.of, cast_eq, id]
    pointwise []
    refine congrArg _ ?_
    revert w; decide

/-- The first three rows of the table are the convolution's weights. -/
theorem table_conv (c : Dev nD) (g : Fin 3) (w : Fin 256) :
    V m c main_v49 (ix2 ⟨g.val, by omega⟩ w) = (m ((c : Thread nD τ).loc main_arg7) (ix2 g w) : EReal) := by
  entry_read
  simp only [List.flatten_cons, List.flatten_nil, List.append_nil]
  after_reads_simp
  fin_cases g
  all_goals
    pointwise []
    after_reads_simp
    pointwise []

/-- The fourth row is the normalisation's gain, four times. -/
theorem table_gain (c : Dev nD) (w : Fin 256) :
    V m c main_v49 (ix2 3 w) = (m ((c : Thread nD τ).loc main_arg8) (ix1 ⟨w.val % 64, by omega⟩) : EReal) := by
  entry_read
  simp only [List.flatten_cons, List.flatten_nil, List.append_nil]
  after_reads_simp
  pointwise []
  after_reads_simp
  pointwise []

/-- The projection's weights, cast. -/
theorem weight_entry (c : Dev nD) (g w : Fin 1024) :
    V m c main_v50 (ix2 g w) = (m ((c : Thread nD τ).loc main_arg6) (ix2 g w) : EReal) := by
  entry_read
  simp only [List.flatten_cons, List.flatten_nil, List.append_nil]
  after_reads_simp
  pointwise []

/-! ## The blocks at a grid point -/

/-- Where each operand's block lies at grid point `t`: batch `t / 9`, tile `t % 9`. -/
theorem idx : ∀ t : Fin cfg0.N,
    win0_0.index t = ![t.val / 9, t.val % 9, 0] ∧ win0_1.index t = ![t.val / 9, 0, 0] ∧ win0_2.index t = ![t.val / 9, 0, 0]
    ∧ win0_3.index t = ![t.val / 9, t.val % 9, 0] ∧ win0_4.index t = ![t.val / 9, 32 * (t.val % 9) - 1, 0]
    ∧ win0_5.index t = ![t.val / 9, min (32 * (t.val % 9) + 32) 287, 0] ∧ win0_6.index t = ![t.val / 9, t.val % 9, 0]
    ∧ win0_7.index t = ![t.val / 9, t.val % 9 / 8, 0, 0] ∧ win0_8.index t = ![0, 0] ∧ win0_9.index t = ![0, 0] ∧ win0_10.index t = ![0, 0]
    ∧ win0_11.index t = ![0, 0] ∧ win0_12.index t = ![t.val / 9, t.val % 9, 0] :=
  (by decide +kernel : ∀ t : Fin grid0.N, _)

/-- The tile number of grid point `t`. -/
theorem tile_of : ∀ t : Fin cfg0.N, (grid0.coords t 1).val = t.val % 9 :=
  (by decide +kernel : ∀ t : Fin grid0.N, _)

theorem batch_lt (t : Fin cfg0.N) : t.val / 9 < 16 := by
  have h := t.isLt
  have : cfg0.N = 144 := N_0
  omega

theorem blk0 (c : Dev nD) (t : Fin cfg0.N) (r : Fin 256) (k : Fin 768) :
    iblk m c 0 t (ix3 0 r k) = at3 (m ((c : Thread nD τ).loc main_arg0)) (t.val / 9) (256 * (t.val % 9) + r.val) k.val := by
  rw [at3_of _ _ _ _ (batch_lt t) (by omega) k.isLt]
  blk_ext [iblk, V_main_arg0, idx t]

theorem blk1 (c : Dev nD) (t : Fin cfg0.N) (w : Fin 1024) (s : Fin 2304) :
    iblk m c 1 t (ix3 0 w s) = at3 (m ((c : Thread nD τ).loc main_arg1)) (t.val / 9) w.val s.val := by
  rw [at3_of _ _ _ _ (batch_lt t) w.isLt s.isLt]
  blk_ext [iblk, V_main_arg1, idx t]

theorem blk2 (c : Dev nD) (t : Fin cfg0.N) (s : Fin 2304) (w : Fin 1024) :
    iblk m c 2 t (ix3 0 s w) = at3 (m ((c : Thread nD τ).loc main_arg2)) (t.val / 9) s.val w.val := by
  rw [at3_of _ _ _ _ (batch_lt t) s.isLt w.isLt]
  blk_ext [iblk, V_main_arg2, idx t]

theorem blk3 (c : Dev nD) (t : Fin cfg0.N) (r : Fin 256) (k : Fin 512) :
    iblk m c 3 t (ix3 0 r k) = at3 (m ((c : Thread nD τ).loc main_arg3)) (t.val / 9) (256 * (t.val % 9) + r.val) k.val := by
  rw [at3_of _ _ _ _ (batch_lt t) (by omega) k.isLt]
  blk_ext [iblk, V_main_arg3, idx t]

/-- The row before the tile. -/
theorem blk4 (c : Dev nD) (t : Fin cfg0.N) (ht : 0 < t.val % 9) (k : Fin 512) :
    iblk m c 4 t (ix3 0 7 k) = at3 (m ((c : Thread nD τ).loc main_arg3)) (t.val / 9) (256 * (t.val % 9) - 1) k.val := by
  rw [at3_of _ _ _ _ (batch_lt t) (by omega) k.isLt]
  blk_ext [iblk, V_main_arg3, idx t]

/-- The row after the tile. -/
theorem blk5 (c : Dev nD) (t : Fin cfg0.N) (ht : t.val % 9 < 8) (k : Fin 512) :
    iblk m c 5 t (ix3 0 0 k) = at3 (m ((c : Thread nD τ).loc main_arg3)) (t.val / 9) (256 * (t.val % 9) + 256) k.val := by
  rw [at3_of _ _ _ _ (batch_lt t) (by omega) k.isLt]
  blk_ext [iblk, V_main_arg3, idx t]

theorem blk6 (c : Dev nD) (t : Fin cfg0.N) (r : Fin 256) (k : Fin 1024) :
    iblk m c 6 t (ix3 0 r k) = at3 (m ((c : Thread nD τ).loc main_arg4)) (t.val / 9) (256 * (t.val % 9) + r.val) k.val := by
  rw [at3_of _ _ _ _ (batch_lt t) (by omega) k.isLt]
  blk_ext [iblk, V_main_arg4, idx t]

theorem blk7 (c : Dev nD) (t : Fin cfg0.N) (k : Fin 1024) :
    iblk m c 7 t (ix4 0 0 2 k) = at4 (m ((c : Thread nD τ).loc main_arg5)) (t.val / 9) (t.val % 9 / 8) 2 k.val := by
  rw [at4_of _ _ _ _ _ (batch_lt t) (by omega) (by omega) k.isLt]
  blk_ext [iblk, V_main_arg5, idx t]

theorem blk8 (c : Dev nD) (t : Fin cfg0.N) (k o : Fin 1024) :
    iblk m c 8 t (ix2 k o) = at2 (m ((c : Thread nD τ).loc main_arg6)) k.val o.val := by
  rw [at2_of _ _ _ k.isLt o.isLt]
  refine Eq.trans ?_ (weight_entry m c k o)
  blk_ext [iblk, idx t]

theorem blk9 (c : Dev nD) (t : Fin cfg0.N) (g : Fin 6) (w : Fin 128) :
    iblk m c 9 t (ix2 ⟨g.val, by omega⟩ w) = (if lo g ≤ w.val ∧ w.val < lo g + wd g then 1 else 0 : EReal) := by
  refine Eq.trans ?_ (mask_entry m c g w)
  blk_ext [iblk, idx t]

theorem blk10_conv (c : Dev nD) (t : Fin cfg0.N) (g : Fin 3) (w : Fin 256) :
    iblk m c 10 t (ix2 ⟨g.val, by omega⟩ w) = at2 (m ((c : Thread nD τ).loc main_arg7)) g.val w.val := by
  rw [at2_of _ _ _ g.isLt w.isLt]
  refine Eq.trans ?_ (table_conv m c g w)
  blk_ext [iblk, idx t]

theorem blk10_gain (c : Dev nD) (t : Fin cfg0.N) (j : Fin 128) :
    iblk m c 10 t (ix2 3 ⟨j.val, by omega⟩) = at1 (m ((c : Thread nD τ).loc main_arg8)) (j.val % 64) := by
  rw [at1_of _ _ (by omega)]
  refine Eq.trans ?_ (table_gain m c ⟨j.val, by omega⟩)
  blk_ext [iblk, idx t]

theorem blk11 (c : Dev nD) (t : Fin cfg0.N) (a : Fin 4) (e : Fin 32) :
    iblk m c 11 t (ix2 a e) = at2 (m ((c : Thread nD τ).loc main_arg9)) a.val e.val := by
  rw [at2_of _ _ _ a.isLt e.isLt]
  blk_ext [iblk, V_main_arg9, idx t]

end Cert.Attn

end
-- ==== Proof.AttnWhole.lean ====
/-
  The attention call leaves in its result array what `layer` states.
-/
module

public import proofs.«01_k».proof.Proof.AttnHost

@[expose] public section

noncomputable section

namespace Cert.Attn

open Cert.KernelIdeal Cert.KernelIdeal.Gen Idealize.ShloMosaic Idealize.ShloMosaic.TcCoe Idealize.SL.Sem
open Cert.KernelIdeal.Facts

set_option maxRecDepth 16384

variable (m : (ℓ : Loc nD τ sig) → Buf (Elt Ideal) ℓ)

/-- The arguments at device `c` are laid out and real. -/
abbrev ReadyAt (c : Dev nD) : Prop :=
  Ready (m ((c : Thread nD τ).loc main_arg0)) (m ((c : Thread nD τ).loc main_arg1)) (m ((c : Thread nD τ).loc main_arg2)) (m ((c : Thread nD τ).loc main_arg9))

/-- The result the call leaves at device `c`. -/
abbrev layerAt (c : Dev nD) : (⟨3, ![16, 2304, 1024]⟩ : Shape).Idx → EReal :=
  layer (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

/-- A real entry is the number it is. -/
theorem at3_real {a b c : ℕ} (X : (⟨3, ![a, b, c]⟩ : Shape).Idx → EReal) (h : ∀ i, X i ≠ ⊤ ∧ X i ≠ ⊥) (i j k : ℕ) :
    at3 X i j k = ((at3 X i j k).toReal : EReal) := by
  by_cases hh : i < a ∧ j < b ∧ k < c
  · rw [at3_of X i j k hh.1 hh.2.1 hh.2.2, EReal.coe_toReal (h _).1 (h _).2]
  · unfold at3
    rw [dif_neg hh]; rfl

/-- The blocks of a grid point are laid out and real. -/
theorem laid_at (c : Dev nD) (H : ReadyAt m c) (t : Fin cfg0.N) :
    Laid (iblk m c 0 t) (iblk m c 1 t) (iblk m c 2 t) (iblk m c 9 t)
      (fun r => qr (m ((c : Thread nD τ).loc main_arg0)) (t.val / 9) (256 * (t.val % 9) + r))
      (kr (m ((c : Thread nD τ).loc main_arg1)) (t.val / 9)) (vr (m ((c : Thread nD τ).loc main_arg2)) (t.val / 9)) where
  q r k := (blk0 m c t r k).trans (at3_real _ H.rq _ _ _)
  k w s := (blk1 m c t w s).trans (at3_real _ H.rk _ _ _)
  v s w := (blk2 m c t s w).trans (at3_real _ H.rv _ _ _)
  mask g w := blk9 m c t g w
  ones s k hs hk h h' := by unfold vr; rw [H.ones _ _ _ (batch_lt t) hs hk h h']; rfl
  vdup s b d hs hb hd := by unfold vr; rw [H.vdup _ _ _ _ (batch_lt t) hs hb hd]
  kdup s b e hs hb he := by unfold kr; rw [H.kdup _ _ _ _ (batch_lt t) hs hb he]
  bound s b hs hb := by unfold kr; rw [H.bound _ _ _ (batch_lt t) hs hb]

/-- The block a grid point computes, at an index, over either run of keys. -/
theorem block_at (c : Dev nD) (H : ReadyAt m c) (t : Fin cfg0.N) {n : ℕ} [NeZero n] {pos : Fin n → Fin 2304}
    {acc : Fin 4 → Fin 8 → FVec Ideal S512x256 .bf16 → FVec Ideal S512x128 .f32} (S : Sums acc pos (iblk m c 1 t) (iblk m c 2 t))
    (r : Fin 256) (o : Fin 1024) :
    block acc (BitVec.ofNat 32 (t.val % 9)) (iblk m c 0 t) (iblk m c 3 t) (iblk m c 4 t) (iblk m c 5 t) (iblk m c 6 t) (iblk m c 7 t)
        (iblk m c 8 t) (iblk m c 9 t) (iblk m c 10 t) (iblk m c 11 t) (ix3 0 r o)
      = at3 (m ((c : Thread nD τ).loc main_arg4)) (t.val / 9) (256 * (t.val % 9) + r.val) o.val
        + at4 (m ((c : Thread nD τ).loc main_arg5)) (t.val / 9) (t.val % 9 / 8) 2 o.val
          * ∑ k : Fin 1024, chan pos (qr (m ((c : Thread nD τ).loc main_arg0)) (t.val / 9) (256 * (t.val % 9) + r.val))
              (kr (m ((c : Thread nD τ).loc main_arg1)) (t.val / 9)) (vr (m ((c : Thread nD τ).loc main_arg2)) (t.val / 9))
              (at3 (m ((c : Thread nD τ).loc main_arg3)) (t.val / 9)) (at2 (m ((c : Thread nD τ).loc main_arg7)))
              (at1 (m ((c : Thread nD τ).loc main_arg8))) (at2 (m ((c : Thread nD τ).loc main_arg9))) (256 * (t.val % 9) + r.val) k.val
            * at2 (m ((c : Thread nD τ).loc main_arg6)) k.val o.val := by
  rw [(laid_at m c H t).block_apply S (at1 (m ((c : Thread nD τ).loc main_arg8))) (at2 (m ((c : Thread nD τ).loc main_arg9)))
    (at3 (m ((c : Thread nD τ).loc main_arg3)) (t.val / 9)) (at2 (m ((c : Thread nD τ).loc main_arg7)))
    (blk10_gain m c t) (blk11 m c t) (t.val % 9) (by omega) (blk3 m c t) (blk4 m c t) (blk5 m c t) (blk10_conv m c t) r o,
    blk6, blk7]
  simp only [blk8]

/-- The call's result array. -/
theorem result_eq (c : Dev nD) (H : ReadyAt m c) : (dats m 0 c).arrAt 12 cfg0.N = layerAt m c := by
  refine (dats m 0 c).arrAt_eq_of_covers 12 _ (by decide +kernel) fun t hf y => ?_
  blk_simp
  rw [after0_12]
  obtain ⟨r, o, rfl⟩ : ∃ (r : Fin 256) (o : Fin 1024), y = ix3 0 r o :=
    ⟨y 1, y 2, (eq_ix3 y).trans (congrArg (fun a : Fin 1 => (ix3 a (y 1) (y 2) : S1x256x1024.Idx)) (Fin.fin_one_eq_zero (y 0)))⟩
  have e : (win0_12.blk t).view.emb (ix3 0 r o)
      = (ix3 ⟨t.val / 9, batch_lt t⟩ ⟨256 * (t.val % 9) + r.val, by omega⟩ o : S16x2304x1024.Idx) := by
    blk_ext [idx t]
  rw [e]
  show _ = entry _ _ _ _ _ _ _ _ _ _ (t.val / 9) (256 * (t.val % 9) + r.val) o.val
  unfold entry
  by_cases h : t.val % 9 ≤ 7
  · have h1 : ¬ t.val % 9 = 8 := by omega
    rw [outsAt0_A m c t h h1, out_A, tile_of, block_at m c H t (nine_sums _ _)]
    have e8 : t.val % 9 / 8 = 0 := by omega
    have el : 256 * (t.val % 9) + r.val < 2048 := by omega
    unfold row
    simp only [if_pos el, e8]
  · have h1 : t.val % 9 = 8 := by omega
    rw [outsAt0_B m c t h h1, out_B, tile_of, block_at m c H t (last_sums _ _)]
    have e8 : t.val % 9 / 8 = 1 := by omega
    have el : ¬ 256 * (t.val % 9) + r.val < 2048 := by omega
    unfold row
    simp only [if_neg el, e8]
    rfl

end Cert.Attn

end
-- ==== Proof.AttnPre.lean ====
/-
  What the precondition says of the arguments: they are real, and laid out as the layer's projection lays them out.
-/
module

public import proofs.«01_k».proof.Pre_laid_out
public import proofs.«01_k».proof.Proof.AttnSpec
public import Idealize.ShloMosaic.Lib.Decide

@[expose] public section

set_option maxRecDepth 16384

noncomputable section

namespace Cert.Attn

open Idealize.ShloMosaic

/-- The shape relations the precondition's operations take. -/
instance preFacts : Cert.Pre_laid_out.Facts where
  shapeCasts_S16x2304x1024_S16x2304x4x256 := by decide
  shapeCasts_S16x1024x2304_S16x4x256x2304 := by decide
  bcast_S_S16x2304x768 := by decide
  bcast_S_S16x1024x2304 := by decide
  bcast_S_S16x2304x1024 := by decide
  bcast_S_S4x32 := by decide
  slices_S16x2304x4x256_S16x2304x4x128_0_0_0_64 := by decide
  bcast_S_S16x2304x4x128 := by decide
  slices_S16x2304x4x256_S16x2304x2x64_0_0_0_0 := by decide
  slices_S16x2304x4x256_S16x2304x2x64_0_0_0_192 := by decide
  slices_S16x4x256x2304_S16x2x64x2304_0_0_0_0 := by decide
  slices_S16x4x256x2304_S16x2x64x2304_0_0_64_0 := by decide
  slices_S16x4x256x2304_S16x4x1x2304_0_0_128_0 := by decide
  shapeCasts_S16x4x1x2304_S16x4x2304 := by decide
  slices_S16x4x256x2304_S16x4x1x1_0_0_128_0 := by decide
  shapeCasts_S16x4x1x1_S16x4x1 := by decide
  bcast_S16x4x1_S16x4x2304_0_1_2 := by decide

open Cert.Pre_laid_out

/-- An extended real is one the comparison calls below infinity in magnitude only if it is real. -/
theorem real_of_lt {φ : FTy} (x y : Ideal φ) (hy : (y : EReal) = ⊤) (h : FloatOps.cmpf (F := Ideal) .olt (FloatOps.absf x) y = 1#1) :
    (x : EReal) ≠ ⊤ ∧ (x : EReal) ≠ ⊥ := by
  have h' : BitVec.ofBool (decide (max (x : EReal) (-x) < (y : EReal))) = 1#1 := h
  rw [hy] at h'
  have hx : max (x : EReal) (-x) < ⊤ := by
    by_contra hn
    rw [decide_eq_false hn] at h'
    exact absurd h' (by decide)
  obtain ⟨h1, h2⟩ := max_lt_iff.mp hx
  refine ⟨h1.ne, fun e => ?_⟩
  rw [e] at h2
  exact absurd h2 (by simp)

theorem eq_of_oeq {φ : FTy} (x y : Ideal φ) (h : FloatOps.cmpf (F := Ideal) .oeq x y = 1#1) : (x : EReal) = y := by
  have h' : BitVec.ofBool (decide ((x : EReal) = (y : EReal))) = 1#1 := h
  by_contra hn
  rw [decide_eq_false hn] at h'
  exact absurd h' (by decide)

theorem top_bf16 : Ideal.ofBits .bf16 0x7F80#16 = ⊤ := by simp [Ideal.ofBits, Ideal.ieee]

theorem top_f32 : Ideal.ofBits .f32 0x7F800000#32 = ⊤ := by simp [Ideal.ofBits, Ideal.ieee]

theorem one_bf16 : Ideal.ofBits .bf16 0x3F80#16 = 1 := by
  have : Ideal.ofBits .bf16 0x3F80#16 = ((1 : ℝ) : EReal) := by
    simp [Ideal.ofBits, Ideal.ieee, -EReal.coe_mul]
    norm_num
  exact this

section
variable (x0 : FVec Ideal S16x2304x768 .bf16) (x1 : FVec Ideal S16x1024x2304 .bf16) (x2 : FVec Ideal S16x2304x1024 .bf16)
  (x3 : FVec Ideal S16x2304x512 .f32) (x4 : FVec Ideal S16x2304x1024 .f32) (x5 : FVec Ideal S16x2x6x1024 .f32)
  (x6 : FVec Ideal S1024x1024 .f32) (x7 : FVec Ideal S3x256 .f32) (x8 : FVec Ideal S64 .f32) (x9 : FVec Ideal S4x32 .f32)

/-- The precondition's eight answers. -/
abbrev answers := Cert.Pre_laid_out.fn (F := Ideal) x0 x1 x2 x3 x4 x5 x6 x7 x8 x9

theorem pre_q (h : (answers x0 x1 x2 x3 x4 x5 x6 x7 x8 x9).1 = fun _ => 1#1) (i : S16x2304x768.Idx) : (x0 i : EReal) ≠ ⊤ ∧ (x0 i : EReal) ≠ ⊥ :=
  real_of_lt (x0 i) _ top_bf16 (congrFun h i)

theorem pre_k (h : (answers x0 x1 x2 x3 x4 x5 x6 x7 x8 x9).2.1 = fun _ => 1#1) (i : S16x1024x2304.Idx) : (x1 i : EReal) ≠ ⊤ ∧ (x1 i : EReal) ≠ ⊥ :=
  real_of_lt (x1 i) _ top_bf16 (congrFun h i)

theorem pre_v (h : (answers x0 x1 x2 x3 x4 x5 x6 x7 x8 x9).2.2.1 = fun _ => 1#1) (i : S16x2304x1024.Idx) : (x2 i : EReal) ≠ ⊤ ∧ (x2 i : EReal) ≠ ⊥ :=
  real_of_lt (x2 i) _ top_bf16 (congrFun h i)

theorem pre_l (h : (answers x0 x1 x2 x3 x4 x5 x6 x7 x8 x9).2.2.2.1 = fun _ => 1#1) (i : S4x32.Idx) : (x9 i : EReal) ≠ ⊤ ∧ (x9 i : EReal) ≠ ⊥ :=
  real_of_lt (x9 i) _ top_f32 (congrFun h i)

theorem at3_idx {a b c : ℕ} (X : (⟨3, ![a, b, c]⟩ : Shape).Idx → EReal) (i : (⟨3, ![a, b, c]⟩ : Shape).Idx) (u v w : ℕ)
    (h0 : (i 0).val = u) (h1 : (i 1).val = v) (h2 : (i 2).val = w) : X i = at3 X u v w := by
  subst h0 h1 h2
  rw [at3_of X _ _ _ (i 0).isLt (i 1).isLt (i 2).isLt]
  exact congrArg X (eq_ix3 i)

theorem pre_ones (h : (answers x0 x1 x2 x3 x4 x5 x6 x7 x8 x9).2.2.2.2.1 = fun _ => 1#1) (b s c : ℕ) (hb : b < 16) (hs : s < 2304) (hc : c < 1024)
    (h1 : 64 ≤ c % 256) (h2 : c % 256 < 192) : at3 x2 b s c = 1 := by
  refine Eq.trans ?_ ((eq_of_oeq _ _ (congrFun h (ix4 ⟨b, hb⟩ ⟨s, hs⟩ ⟨c / 256, by omega⟩ ⟨c % 256 - 64, by omega⟩))).trans one_bf16)
  pointwise []
  refine (at3_idx _ _ _ _ _ ?_ ?_ ?_).symm
  all_goals first | rfl | (dsimp; omega)

theorem pre_vdup (h : (answers x0 x1 x2 x3 x4 x5 x6 x7 x8 x9).2.2.2.2.2.1 = fun _ => 1#1) (b s g d : ℕ) (hb : b < 16) (hs : s < 2304) (hg : g < 2)
    (hd : d < 64) : at3 x2 b s (256 * g + 192 + d) = at3 x2 b s (256 * g + d) := by
  have e := (eq_of_oeq _ _ (congrFun h (ix4 ⟨b, hb⟩ ⟨s, hs⟩ ⟨g, hg⟩ ⟨d, hd⟩))).symm
  refine Eq.trans (Eq.trans ?_ e) ?_
  · pointwise []
    refine (at3_idx _ _ _ _ _ ?_ ?_ ?_).symm
    all_goals first | rfl | (dsimp; omega)
  · pointwise []
    refine (at3_idx _ _ _ _ _ ?_ ?_ ?_)
    all_goals first | rfl | (dsimp; omega)

theorem pre_kdup (h : (answers x0 x1 x2 x3 x4 x5 x6 x7 x8 x9).2.2.2.2.2.2.1 = fun _ => 1#1) (b s g e : ℕ) (hb : b < 16) (hs : s < 2304) (hg : g < 2)
    (he : e < 64) : at3 x1 b (256 * g + 64 + e) s = at3 x1 b (256 * g + e) s := by
  have e := (eq_of_oeq _ _ (congrFun h (ix4 ⟨b, hb⟩ ⟨g, hg⟩ ⟨e, he⟩ ⟨s, hs⟩))).symm
  refine Eq.trans (Eq.trans ?_ e) ?_
  · pointwise []
    refine (at3_idx _ _ _ _ _ ?_ ?_ ?_).symm
    all_goals first | rfl | (dsimp; omega)
  · pointwise []
    refine (at3_idx _ _ _ _ _ ?_ ?_ ?_)
    all_goals first | rfl | (dsimp; omega)

theorem pre_bound (h : (answers x0 x1 x2 x3 x4 x5 x6 x7 x8 x9).2.2.2.2.2.2.2 = fun _ => 1#1) (b s g : ℕ) (hb : b < 16) (hs : s < 2304) (hg : g < 4) :
    at3 x1 b (256 * g + 128) s = at3 x1 b (256 * g + 128) 0 := by
  have e := eq_of_oeq _ _ (congrFun h (ix3 ⟨b, hb⟩ ⟨g, hg⟩ ⟨s, hs⟩))
  refine Eq.trans (Eq.trans ?_ e) ?_
  · pointwise []
    refine (at3_idx _ _ _ _ _ ?_ ?_ ?_).symm
    all_goals first | rfl | (dsimp; omega)
  · pointwise []
    refine (at3_idx _ _ _ _ _ ?_ ?_ ?_)
    all_goals first | rfl | (dsimp; omega)

/-- The precondition's eight answers give a laid out, real call. -/
theorem ready_of (h : (answers x0 x1 x2 x3 x4 x5 x6 x7 x8 x9).1 = (fun _ => 1#1) ∧ (answers x0 x1 x2 x3 x4 x5 x6 x7 x8 x9).2.1 = (fun _ => 1#1)
    ∧ (answers x0 x1 x2 x3 x4 x5 x6 x7 x8 x9).2.2.1 = (fun _ => 1#1) ∧ (answers x0 x1 x2 x3 x4 x5 x6 x7 x8 x9).2.2.2.1 = (fun _ => 1#1)
    ∧ (answers x0 x1 x2 x3 x4 x5 x6 x7 x8 x9).2.2.2.2.1 = (fun _ => 1#1) ∧ (answers x0 x1 x2 x3 x4 x5 x6 x7 x8 x9).2.2.2.2.2.1 = (fun _ => 1#1)
    ∧ (answers x0 x1 x2 x3 x4 x5 x6 x7 x8 x9).2.2.2.2.2.2.1 = (fun _ => 1#1) ∧ (answers x0 x1 x2 x3 x4 x5 x6 x7 x8 x9).2.2.2.2.2.2.2 = (fun _ => 1#1)) :
    Ready x0 x1 x2 x9 where
  rq := pre_q x0 x1 x2 x3 x4 x5 x6 x7 x8 x9 h.1
  rk := pre_k x0 x1 x2 x3 x4 x5 x6 x7 x8 x9 h.2.1
  rv := pre_v x0 x1 x2 x3 x4 x5 x6 x7 x8 x9 h.2.2.1
  rdl := pre_l x0 x1 x2 x3 x4 x5 x6 x7 x8 x9 h.2.2.2.1
  ones := pre_ones x0 x1 x2 x3 x4 x5 x6 x7 x8 x9 h.2.2.2.2.1
  vdup := pre_vdup x0 x1 x2 x3 x4 x5 x6 x7 x8 x9 h.2.2.2.2.2.1
  kdup := pre_kdup x0 x1 x2 x3 x4 x5 x6 x7 x8 x9 h.2.2.2.2.2.2.1
  bound := pre_bound x0 x1 x2 x3 x4 x5 x6 x7 x8 x9 h.2.2.2.2.2.2.2

end

end Cert.Attn

end
-- ==== Proof.AttnRef.lean ====
/-
  The reference, entry by entry: the queries, keys and values its two attentions read, and the number the second component
  of the differential attention is taken with.
-/
module

public import proofs.«01_k».proof.Proof.Gen.ReferenceIdeal.Read
public import proofs.«01_k».proof.Proof.AttnSpec

@[expose] public section

set_option maxRecDepth 16384

noncomputable section

namespace Cert.Attn

open Cert.ReferenceIdeal Cert.ReferenceIdeal.Gen Cert.ReferenceIdeal.Read Idealize.ShloMosaic

theorem at3_mk {a b c : ℕ} (X : (⟨3, ![a, b, c]⟩ : Shape).Idx → EReal) (i : (⟨3, ![a, b, c]⟩ : Shape).Idx) (u v w : ℕ)
    (h0 : (i 0).val = u) (h1 : (i 1).val = v) (h2 : (i 2).val = w) : X i = at3 X u v w := by
  subst h0 h1 h2
  rw [at3_of X _ _ _ (i 0).isLt (i 1).isLt (i 2).isLt]
  exact congrArg X (eq_ix3 i)

theorem at2_mk {a b : ℕ} (X : (⟨2, ![a, b]⟩ : Shape).Idx → EReal) (i : (⟨2, ![a, b]⟩ : Shape).Idx) (u v : ℕ)
    (h0 : (i 0).val = u) (h1 : (i 1).val = v) : X i = at2 X u v := by
  subst h0 h1
  rw [at2_of X _ _ (i 0).isLt (i 1).isLt]
  exact congrArg X (eq_ix2 i)

theorem at3_toReal {a b c : ℕ} (X : (⟨3, ![a, b, c]⟩ : Shape).Idx → EReal) (h : ∀ i, X i ≠ ⊤ ∧ X i ≠ ⊥) (i j k : ℕ) :
    at3 X i j k = ((at3 X i j k).toReal : EReal) := by
  by_cases hh : i < a ∧ j < b ∧ k < c
  · rw [at3_of X i j k hh.1 hh.2.1 hh.2.2, EReal.coe_toReal (h _).1 (h _).2]
  · unfold at3
    rw [dif_neg hh]; rfl

section
variable (x0 : (⟨S16x2304x768, .bf16⟩ : BufTy).Contents (Elt Ideal)) (x1 : (⟨S16x1024x2304, .bf16⟩ : BufTy).Contents (Elt Ideal))
  (x2 : (⟨S16x2304x1024, .bf16⟩ : BufTy).Contents (Elt Ideal)) (x9 : (⟨S4x32, .f32⟩ : BufTy).Contents (Elt Ideal))
  (H : Ready x0 x1 x2 x9)
include H

/-- The queries of the grouped-query heads. -/
theorem gq_query (b : Fin 16) (p : Fin 2304) (g : Fin 2) (r : Fin 4) (e : Fin 64) :
    val_main_v7 (F := Ideal) x0 (ix5 b p g r e) = ((qr x0 b.val p.val (64 * (4 * g.val + r.val) + e.val) : ℝ) : EReal) := by
  refine Eq.trans ?_ (at3_toReal x0 H.rq b.val p.val (64 * (4 * g.val + r.val) + e.val))
  pointwise [val_main_v7, val_main_v6, val_main_v0]
  refine at3_mk x0 _ _ _ _ ?_ ?_ ?_
  all_goals first | rfl | (dsimp; omega)

/-- Their keys. -/
theorem gq_key (b : Fin 16) (s : Fin 2304) (g : Fin 2) (e : Fin 64) :
    val_main_v8 (F := Ideal) x1 (ix4 b s g e) = ((kr x1 b.val (256 * g.val + e.val) s.val : ℝ) : EReal) := by
  refine Eq.trans ?_ (at3_toReal x1 H.rk b.val (256 * g.val + e.val) s.val)
  pointwise [val_main_v8, val_main_v4, val_main_v2, val_main_v1]
  refine at3_mk x1 _ _ _ _ ?_ ?_ ?_
  all_goals first | rfl | (dsimp; omega)

/-- Their values. -/
theorem gq_value (b : Fin 16) (s : Fin 2304) (g : Fin 2) (d : Fin 64) :
    val_main_v9 (F := Ideal) x2 (ix4 b s g d) = ((vr x2 b.val s.val (256 * g.val + d.val) : ℝ) : EReal) := by
  refine Eq.trans ?_ (at3_toReal x2 H.rv b.val s.val (256 * g.val + d.val))
  pointwise [val_main_v9, val_main_v5, val_main_v3]
  refine at3_mk x2 _ _ _ _ ?_ ?_ ?_
  all_goals first | rfl | (dsimp; omega)

/-- The queries of the differential heads. -/
theorem df_query (b : Fin 16) (p : Fin 2304) (h : Fin 4) (c : Fin 2) (e : Fin 32) :
    val_main_v11 (F := Ideal) x0 (ix5 b p h c e) = ((qr x0 b.val p.val (512 + 64 * h.val + 32 * c.val + e.val) : ℝ) : EReal) := by
  refine Eq.trans ?_ (at3_toReal x0 H.rq b.val p.val (512 + 64 * h.val + 32 * c.val + e.val))
  pointwise [val_main_v11, val_main_v10, val_main_v0]
  refine at3_mk x0 _ _ _ _ ?_ ?_ ?_
  all_goals first | rfl | (dsimp; omega)

/-- Their keys. -/
theorem df_key (b : Fin 16) (s : Fin 2304) (h : Fin 4) (c : Fin 2) (e : Fin 32) :
    val_main_v13 (F := Ideal) x1 (ix5 b s h c e)
      = ((kr x1 b.val (512 + 256 * (h.val / 2) + 64 * (h.val % 2) + 32 * c.val + e.val) s.val : ℝ) : EReal) := by
  refine Eq.trans ?_ (at3_toReal x1 H.rk b.val (512 + 256 * (h.val / 2) + 64 * (h.val % 2) + 32 * c.val + e.val) s.val)
  pointwise [val_main_v13, val_main_v12, val_main_v4, val_main_v2, val_main_v1]
  refine at3_mk x1 _ _ _ _ ?_ ?_ ?_
  all_goals first | rfl | (dsimp; omega)

/-- Their values. -/
theorem df_value (b : Fin 16) (s : Fin 2304) (h : Fin 4) (d : Fin 64) :
    val_main_v19 (F := Ideal) x2 (ix4 b s h d)
      = ((vr x2 b.val s.val (512 + 256 * (h.val / 2) + 192 * (h.val % 2) + d.val) : ℝ) : EReal) := by
  refine Eq.trans ?_ (at3_toReal x2 H.rv b.val s.val (512 + 256 * (h.val / 2) + 192 * (h.val % 2) + d.val))
  fin_cases h
  all_goals
    pointwise [val_main_v19, val_main_v18, val_main_v17, val_main_v16, val_main_v15, val_main_v14, val_main_v5, val_main_v3]
    refine at3_mk x2 _ _ _ _ ?_ ?_ ?_
    all_goals first | rfl | (dsimp; omega)

end

section
variable (x9 : (⟨S4x32, .f32⟩ : BufTy).Contents (Elt Ideal))

theorem log_two : Ideal.log (Ideal.ofBits .f32 0x40000000#32) = ((Real.log 2 : ℝ) : EReal) := by
  have : Ideal.ofBits .f32 0x40000000#32 = ((2 : ℝ) : EReal) := by
    simp [Ideal.ofBits, Ideal.ieee, -EReal.coe_mul]
    norm_num
  rw [this, Ideal.log_coe, if_neg (by norm_num)]

theorem minus_inf : Ideal.ofBits .f32 0xFF800000#32 = ⊥ := by simp [Ideal.ofBits, Ideal.ieee]

theorem sixty_four : Ideal.ofBits .f32 0x42800000#32 = ((64 : ℝ) : EReal) := by
  simp [Ideal.ofBits, Ideal.ieee, -EReal.coe_mul]
  norm_num

/-- The integer zero, as a number. -/
theorem zero_conv : (FloatOps.sitofp (F := Ideal) FTy.f32 (0#32 : BitVec 32) : EReal) = 0 := by
  show (((0#32 : BitVec 32).toInt : ℝ) : EReal) = 0
  simp

/-- Dropping an axis of length one. -/
theorem drop_unit {a b c d : ℕ} (y : FVec Ideal ⟨5, ![a, b, 1, c, d]⟩ .f32) (hc : Shape.ShapeCasts ⟨5, ![a, b, 1, c, d]⟩ ⟨4, ![a, b, c, d]⟩)
    (i : Fin a) (j : Fin b) (k : Fin c) (l : Fin d) : shapeCast _ y hc (ix4 i j k l) = y (ix5 i j 0 k l) :=
  shapeCast_apply y hc (ix4 i j k l) (ix5 i j 0 k l) (by
    rw [Shape.rowMajor_val_five, Shape.rowMajor_val_four]
    show (((i.val * b + j.val) * 1 + 0) * c + k.val) * d + l.val = ((i.val * b + j.val) * c + k.val) * d + l.val
    rw [mul_one, add_zero])

/-- The eight heads of 64 channels, two groups of four, side by side. -/
theorem join_groups {a b : ℕ} (y : FVec Ideal ⟨5, ![a, b, 2, 4, 64]⟩ .f32) (hc : Shape.ShapeCasts ⟨5, ![a, b, 2, 4, 64]⟩ ⟨3, ![a, b, 512]⟩)
    (i : Fin a) (j : Fin b) (k : Fin 512) :
    shapeCast _ y hc (ix3 i j k) = y (ix5 i j ⟨k.val / 256, by omega⟩ ⟨k.val / 64 % 4, by omega⟩ ⟨k.val % 64, by omega⟩) :=
  shapeCast_apply y hc (ix3 i j k) (ix5 i j ⟨k.val / 256, by omega⟩ ⟨k.val / 64 % 4, by omega⟩ ⟨k.val % 64, by omega⟩) (by
    rw [Shape.rowMajor_val_five, Shape.rowMajor_val_three]
    show (((i.val * b + j.val) * 2 + k.val / 256) * 4 + k.val / 64 % 4) * 64 + k.val % 64 = (i.val * b + j.val) * 512 + k.val
    generalize i.val * b + j.val = t
    omega)

/-- The four heads of 64 channels side by side. -/
theorem join_heads {a b : ℕ} (y : FVec Ideal ⟨4, ![a, b, 4, 64]⟩ .f32) (hc : Shape.ShapeCasts ⟨4, ![a, b, 4, 64]⟩ ⟨3, ![a, b, 256]⟩)
    (i : Fin a) (j : Fin b) (k : Fin 256) :
    shapeCast _ y hc (ix3 i j k) = y (ix4 i j ⟨k.val / 64, by omega⟩ ⟨k.val % 64, by omega⟩) :=
  shapeCast_apply y hc (ix3 i j k) (ix4 i j ⟨k.val / 64, by omega⟩ ⟨k.val % 64, by omega⟩) (by
    rw [Shape.rowMajor_val_four, Shape.rowMajor_val_three]
    show ((i.val * b + j.val) * 4 + k.val / 64) * 64 + k.val % 64 = (i.val * b + j.val) * 256 + k.val
    generalize i.val * b + j.val = t
    omega)

/-- The largest of finitely many real numbers, from minus infinity, is a real number. -/
theorem row_max {s t u : Shape} {a : Fin s.rank} (hn : s.size a ≠ 0) (x : FVec Ideal s .f32) (init : FVec Ideal u .f32)
    (h' : s.ReducesTo [a] t) (h : s.Reduces [a] t) (hu : 0 < u.numel) (j : t.Idx) (hi : ∀ i, (init i : EReal) = ⊥)
    (hx : ∀ i, ∃ r : ℝ, (x i : EReal) = (r : EReal)) : ∃ M : ℝ, Host.reduce (FloatOps.maximumf (F := Ideal) (φ := .f32)) x init h' hu j = ((M : ℝ) : EReal) := by
  haveI : NeZero (s.size a) := ⟨hn⟩
  choose r hr using hx
  obtain ⟨M, hM⟩ := fold_max_real fun k : Fin (s.size a) => r (h.lift j k)
  refine ⟨M, ?_⟩
  rw [Host.reduce_eq_fold_single (FloatOps.maximumf (F := Ideal) (φ := .f32)) x init h' h hu, ← hM]
  have e : x ∘ h.lift j = fun k => ((r (h.lift j k) : ℝ) : EReal) := funext fun k => hr _
  rw [e, hi]
  rfl

/-- The number the second component is taken with. -/
theorem lam_apply (i : S_.Idx) : val_main_v37 (F := Ideal) x9 i = lamOf (at2 x9) := by
  unfold lamOf
  pointwise [val_main_v37, val_main_v36, val_main_v35, val_main_v34, val_main_v33, val_main_v32, val_main_v31, val_main_v30, val_main_v29,
    val_main_v28, val_main_v27, val_main_v26, val_main_v25, val_main_v24, val_main_v23, val_main_v22, val_main_cst, val_main_cst_0, val_main_cst_1]
  have h0 : ∀ e : Fin 32, at2 x9 0 e.val = x9 (ix2 0 e) := fun e => at2_of x9 0 e.val (by omega) e.isLt
  have h1 : ∀ e : Fin 32, at2 x9 1 e.val = x9 (ix2 1 e) := fun e => at2_of x9 1 e.val (by omega) e.isLt
  have h2 : ∀ e : Fin 32, at2 x9 2 e.val = x9 (ix2 2 e) := fun e => at2_of x9 2 e.val (by omega) e.isLt
  have h3 : ∀ e : Fin 32, at2 x9 3 e.val = x9 (ix2 3 e) := fun e => at2_of x9 3 e.val (by omega) e.isLt
  simp only [h0, h1, h2, h3]

/-- It is real. -/
theorem lam_real (h : ∀ i, (x9 i : EReal) ≠ ⊤ ∧ (x9 i : EReal) ≠ ⊥) : ∃ l : ℝ, lamOf (at2 x9) = (l : EReal) := by
  have hr : ∀ a e : ℕ, at2 x9 a e = ((at2 x9 a e).toReal : EReal) := fun a e => by
    by_cases hh : a < 4 ∧ e < 32
    · rw [at2_of _ a e hh.1 hh.2, EReal.coe_toReal (h _).1 (h _).2]
    · unfold at2
      rw [dif_neg hh]; rfl
  have hs : ∀ a a' : ℕ, ∑ e : Fin 32, at2 x9 a e.val * at2 x9 a' e.val
      = ((∑ e : Fin 32, (at2 x9 a e.val).toReal * (at2 x9 a' e.val).toReal : ℝ) : EReal) := fun a a' => by
    rw [coe_sum]
    refine Finset.sum_congr rfl fun e _ => ?_
    rw [hr a e.val, hr a' e.val, ← EReal.coe_mul]
    rfl
  have hc : ∃ u : ℝ, Ideal.ofBits .f32 0x3E4CCCCD#32 = (u : EReal) := ⟨_, by
    simp [Ideal.ofBits, Ideal.ieee, -EReal.coe_mul]
    rfl⟩
  obtain ⟨u, hu⟩ := hc
  unfold lamOf
  rw [hs, hs, hu]
  exact ⟨_, rfl⟩

end

end Cert.Attn

end
-- ==== Proof.AttnLat.lean ====
/-
  The reference on the latents' rows, entry by entry.
-/
module

public import proofs.«01_k».proof.Proof.AttnRef

@[expose] public section

set_option maxRecDepth 16384

noncomputable section

namespace Cert.Attn

open Cert.ReferenceIdeal Cert.ReferenceIdeal.Gen Cert.ReferenceIdeal.Read Idealize.ShloMosaic

section
variable (x0 : (⟨S16x2304x768, .bf16⟩ : BufTy).Contents (Elt Ideal)) (x1 : (⟨S16x1024x2304, .bf16⟩ : BufTy).Contents (Elt Ideal))
  (x2 : (⟨S16x2304x1024, .bf16⟩ : BufTy).Contents (Elt Ideal)) (x9 : (⟨S4x32, .f32⟩ : BufTy).Contents (Elt Ideal))
  (H : Ready x0 x1 x2 x9)
include H

/-- The scores of the grouped-query heads. -/
theorem lat_score (b : Fin 16) (g : Fin 2) (r : Fin 4) (p : Fin 2048) (s : Fin 2304) :
    val_main_v42 (F := Ideal) x0 x1 (ix5 b g r p s)
      = ((sG (qr x0 b.val p.val) (kr x1 b.val) (4 * g.val + r.val) (((fun s => s) s : Fin 2304).val) : ℝ) : EReal) := by
  have hg : (4 * g.val + r.val) / 4 = g.val := by omega
  unfold sG
  rw [coe_sum, hg]
  pointwise [val_main_v42, val_main_v41, val_main_v40]
  refine Finset.sum_congr rfl fun e _ => ?_
  rw [gq_key x0 x1 x2 x9 H, gq_query x0 x1 x2 x9 H, ← EReal.coe_mul, mul_comm]
  all_goals rfl

/-- Each score times the logarithm of two. -/
theorem lat_scaled (b : Fin 16) (g : Fin 2) (r : Fin 4) (p : Fin 2048) (s : Fin 2304) :
    val_main_v45 (F := Ideal) x0 x1 (ix5 b g r p s)
      = ((sG (qr x0 b.val p.val) (kr x1 b.val) (4 * g.val + r.val) (((fun s => s) s : Fin 2304).val) : ℝ) : EReal) * ((Real.log 2 : ℝ) : EReal) := by
  pointwise [val_main_v45, val_main_v44, val_main_v43, val_main_cst_2]
  rw [lat_score x0 x1 x2 x9 H, log_two]

/-- The largest of a row is a real number. -/
theorem lat_max (b : Fin 16) (g : Fin 2) (r : Fin 4) (p : Fin 2048) :
    ∃ M : ℝ, val_main_v48 (F := Ideal) x0 x1 (ix4 b g r p) = (M : EReal) := by
  have hx : ∀ i, ∃ t : ℝ, (val_main_v45 (F := Ideal) x0 x1 i : EReal) = (t : EReal) := fun i =>
    ⟨_, ((congrArg (val_main_v45 (F := Ideal) x0 x1) (eq_ix5 i)).trans
      (lat_scaled x0 x1 x2 x9 H (i 0) (i 1) (i 2) (i 3) (i 4))).trans (EReal.coe_mul _ _).symm⟩
  obtain ⟨M, hM⟩ := row_max (by decide) (val_main_v45 (F := Ideal) x0 x1) (val_main_cst_3 (F := Ideal)) reducesTo_S16x2x4x2048x2304_S16x2x4x2048_d4 (by decide) h_S_ (ix4 b g r p)
    (fun _ => minus_inf) hx
  refine ⟨M, ?_⟩
  have e : val_main_v47 (F := Ideal) (ix4 b g r p) = (⊥ : EReal) := by
    pointwise [val_main_v47, val_main_cst_4]
    exact minus_inf
  rw [val_main_v48_apply, e]
  refine Eq.trans ?_ hM
  exact max_eq_right bot_le

/-- The softmax of a row. -/
theorem lat_prob (b : Fin 16) (g : Fin 2) (r : Fin 4) (p : Fin 2048) (s : Fin 2304) :
    val_main_v56 (F := Ideal) x0 x1 (ix5 b g r p s)
      = (((2 : ℝ) ^ sG (qr x0 b.val p.val) (kr x1 b.val) (4 * g.val + r.val) (((fun s => s) s : Fin 2304).val)
          / ∑ i : Fin 2304, (2 : ℝ) ^ sG (qr x0 b.val p.val) (kr x1 b.val) (4 * g.val + r.val) (((fun s => s) i : Fin 2304).val) : ℝ) : EReal) := by
  obtain ⟨M, hM⟩ := lat_max x0 x1 x2 x9 H b g r p
  have hy := fun i => lat_scaled x0 x1 x2 x9 H b g r p i
  unfold val_main_v56 val_main_v55 val_main_v54 val_main_v53 val_main_v52 val_main_v51 val_main_v50 val_main_v49
  revert hM hy
  generalize val_main_v48 (F := Ideal) x0 x1 = m
  generalize val_main_v45 (F := Ideal) x0 x1 = y
  intro hM hy
  pointwise [val_main_cst_5]
  simp only [hy, hM]
  exact softmax_prob (fun i : Fin 2304 => sG (qr x0 b.val p.val) (kr x1 b.val) (4 * g.val + r.val) (((fun s => s) i : Fin 2304).val)) M s

/-- Grouped-query attention. -/
theorem lat_gqa (b : Fin 16) (p : Fin 2048) (g : Fin 2) (r : Fin 4) (d : Fin 64) :
    val_main_v58 (F := Ideal) x0 x1 x2 (ix5 b p g r d)
      = gqa (n := 2304) (fun s => s) (qr x0 b.val p.val) (kr x1 b.val) (vr x2 b.val) (64 * (4 * g.val + r.val) + d.val) := by
  have h1 : (64 * (4 * g.val + r.val) + d.val) / 64 = 4 * g.val + r.val := by omega
  have h2 : (64 * (4 * g.val + r.val) + d.val) % 64 = d.val := by omega
  have h3 : (4 * g.val + r.val) / 4 = g.val := by omega
  unfold gqa
  rw [h1, h2, h3, ← probs_apply]
  pointwise [val_main_v58, val_main_v57]
  refine Finset.sum_congr rfl fun s _ => ?_
  rw [lat_prob x0 x1 x2 x9 H, gq_value x0 x1 x2 x9 H, mul_comm]
  all_goals rfl

/-- The scores of the differential heads. -/
theorem lat_dscore (b : Fin 16) (h : Fin 4) (c : Fin 2) (p : Fin 2048) (s : Fin 2304) :
    val_main_v60 (F := Ideal) x0 x1 (ix5 b h c p s)
      = ((sD (qr x0 b.val p.val) (kr x1 b.val) h.val c.val (((fun s => s) s : Fin 2304).val) : ℝ) : EReal) := by
  unfold sD
  rw [coe_sum]
  pointwise [val_main_v60, val_main_v59]
  refine Finset.sum_congr rfl fun e _ => ?_
  rw [df_key x0 x1 x2 x9 H, df_query x0 x1 x2 x9 H, ← EReal.coe_mul]
  all_goals rfl

theorem lat_dscaled (b : Fin 16) (h : Fin 4) (c : Fin 2) (p : Fin 2048) (s : Fin 2304) :
    val_main_v63 (F := Ideal) x0 x1 (ix5 b h c p s)
      = ((sD (qr x0 b.val p.val) (kr x1 b.val) h.val c.val (((fun s => s) s : Fin 2304).val) : ℝ) : EReal) * ((Real.log 2 : ℝ) : EReal) := by
  pointwise [val_main_v63, val_main_v62, val_main_v61, val_main_cst_6]
  rw [lat_dscore x0 x1 x2 x9 H, log_two]

theorem lat_dmax (b : Fin 16) (h : Fin 4) (c : Fin 2) (p : Fin 2048) :
    ∃ M : ℝ, val_main_v66 (F := Ideal) x0 x1 (ix4 b h c p) = (M : EReal) := by
  have hx : ∀ i, ∃ t : ℝ, (val_main_v63 (F := Ideal) x0 x1 i : EReal) = (t : EReal) := fun i =>
    ⟨_, ((congrArg (val_main_v63 (F := Ideal) x0 x1) (eq_ix5 i)).trans
      (lat_dscaled x0 x1 x2 x9 H (i 0) (i 1) (i 2) (i 3) (i 4))).trans (EReal.coe_mul _ _).symm⟩
  obtain ⟨M, hM⟩ := row_max (by decide) (val_main_v63 (F := Ideal) x0 x1) (val_main_cst_7 (F := Ideal)) reducesTo_S16x4x2x2048x2304_S16x4x2x2048_d4 (by decide) h_S_ (ix4 b h c p)
    (fun _ => minus_inf) hx
  refine ⟨M, ?_⟩
  have e : val_main_v65 (F := Ideal) (ix4 b h c p) = (⊥ : EReal) := by
    pointwise [val_main_v65, val_main_cst_8]
    exact minus_inf
  rw [val_main_v66_apply, e]
  refine Eq.trans ?_ hM
  exact max_eq_right bot_le

theorem lat_dprob (b : Fin 16) (h : Fin 4) (c : Fin 2) (p : Fin 2048) (s : Fin 2304) :
    val_main_v74 (F := Ideal) x0 x1 (ix5 b h c p s)
      = (((2 : ℝ) ^ sD (qr x0 b.val p.val) (kr x1 b.val) h.val c.val (((fun s => s) s : Fin 2304).val)
          / ∑ i : Fin 2304, (2 : ℝ) ^ sD (qr x0 b.val p.val) (kr x1 b.val) h.val c.val (((fun s => s) i : Fin 2304).val) : ℝ) : EReal) := by
  obtain ⟨M, hM⟩ := lat_dmax x0 x1 x2 x9 H b h c p
  have hy := fun i => lat_dscaled x0 x1 x2 x9 H b h c p i
  unfold val_main_v74 val_main_v73 val_main_v72 val_main_v71 val_main_v70 val_main_v69 val_main_v68 val_main_v67
  revert hM hy
  generalize val_main_v66 (F := Ideal) x0 x1 = m
  generalize val_main_v63 (F := Ideal) x0 x1 = y
  intro hM hy
  pointwise [val_main_cst_9]
  simp only [hy, hM]
  exact softmax_prob (fun i : Fin 2304 => sD (qr x0 b.val p.val) (kr x1 b.val) h.val c.val (((fun s => s) i : Fin 2304).val)) M s

/-- The difference of the two softmaxes. -/
theorem lat_diff (b : Fin 16) (h : Fin 4) (p : Fin 2048) (s : Fin 2304) :
    val_main_v81 (F := Ideal) x0 x1 x9 (ix4 b h p s)
      = val_main_v74 (F := Ideal) x0 x1 (ix5 b h 0 p s) - val_main_v37 (F := Ideal) x9 ix0 * val_main_v74 (F := Ideal) x0 x1 (ix5 b h 1 p s) := by
  rw [val_main_v81_apply, val_main_v80_apply]
  have e0 : val_main_v76 (F := Ideal) x0 x1 (ix4 b h p s) = val_main_v74 (F := Ideal) x0 x1 (ix5 b h 0 p s) := by
    unfold val_main_v76
    refine (drop_unit _ _ b h p s).trans ?_
    unfold val_main_v75
    generalize val_main_v74 (F := Ideal) x0 x1 = y
    pointwise []
  have e1 : val_main_v78 (F := Ideal) x0 x1 (ix4 b h p s) = val_main_v74 (F := Ideal) x0 x1 (ix5 b h 1 p s) := by
    unfold val_main_v78
    refine (drop_unit _ _ b h p s).trans ?_
    unfold val_main_v77
    generalize val_main_v74 (F := Ideal) x0 x1 = y
    pointwise []
  have el : val_main_v79 (F := Ideal) x9 (ix4 b h p s) = val_main_v37 (F := Ideal) x9 ix0 := by
    unfold val_main_v79
    generalize val_main_v37 (F := Ideal) x9 = y
    pointwise []
  rw [e0, e1, el]
  rfl

/-- The differential heads' sum over the keys. -/
theorem lat_dsum (b : Fin 16) (p : Fin 2048) (h : Fin 4) (d : Fin 64) :
    val_main_v83 (F := Ideal) x0 x1 x2 x9 (ix4 b p h d)
      = ∑ s : Fin 2304, val_main_v19 (F := Ideal) x2 (ix4 b ((fun s => s) s) h d) * val_main_v81 (F := Ideal) x0 x1 x9 (ix4 b h p s) := by
  unfold val_main_v83 val_main_v82
  generalize val_main_v81 (F := Ideal) x0 x1 x9 = y
  generalize val_main_v19 (F := Ideal) x2 = z
  pointwise []
  all_goals rfl

/-- Differential attention. -/
theorem lat_dattn (b : Fin 16) (p : Fin 2048) (h : Fin 4) (d : Fin 64) :
    val_main_v83 (F := Ideal) x0 x1 x2 x9 (ix4 b p h d)
      = dattn (n := 2304) (fun s => s) (qr x0 b.val p.val) (kr x1 b.val) (vr x2 b.val) (lamOf (at2 x9)) h.val d.val := by
  obtain ⟨l, hl⟩ := lam_real x9 H.rdl
  unfold dattn dhead
  rw [hl, ← diff_probs_apply, lat_dsum x0 x1 x2 x9 H]
  refine Finset.sum_congr rfl fun s _ => ?_
  have h0 := lat_dprob x0 x1 x2 x9 H b h 0 p s
  have h1 := lat_dprob x0 x1 x2 x9 H b h 1 p s
  rw [lat_diff x0 x1 x2 x9 H, h0, h1, df_value x0 x1 x2 x9 H, lam_apply, hl, mul_comm]
  rfl

/-- The differential heads, normalised. -/
theorem lat_rms (x8 : (⟨S64, .f32⟩ : BufTy).Contents (Elt Ideal)) (b : Fin 16) (p : Fin 2048) (h : Fin 4) (d : Fin 64) :
    val_main_v122 (F := Ideal) x0 x1 x2 x8 x9 (ix4 b p h d)
      = drms (dattn (n := 2304) (fun s => s) (qr x0 b.val p.val) (kr x1 b.val) (vr x2 b.val) (lamOf (at2 x9)) h.val) (at1 x8 d.val) d.val := by
  unfold drms
  rw [at1_of x8 d.val d.isLt]
  have hy := fun e => lat_dattn x0 x1 x2 x9 H b p h e
  unfold val_main_v122 val_main_v121 val_main_v120 val_main_v119 val_main_v118 val_main_v117 val_main_v116 val_main_v115 val_main_v114 val_main_v113 val_main_v112 val_main_v111 val_main_v110 val_main_v109 val_main_v108
  revert hy
  generalize val_main_v83 (F := Ideal) x0 x1 x2 x9 = y
  intro hy
  pointwise [val_main_cst_10, val_main_cst_11, val_main_cst_12, val_main_cst_13]
  simp only [hy, sixty_four, Ideal.div_coe (by norm_num : (64 : ℝ) ≠ 0)]

end

section
variable (x3 : (⟨S16x2304x512, .f32⟩ : BufTy).Contents (Elt Ideal)) (x7 : (⟨S3x256, .f32⟩ : BufTy).Contents (Elt Ideal))

/-- The gated short convolution. -/
theorem lat_conv (b : Fin 16) (p : Fin 2048) (j : Fin 256) :
    val_main_v107 (F := Ideal) x3 x7 (ix3 b p j) = cnv (at3 x3 b.val) (at2 x7) p.val j.val := by
  have hp : (p.val : ℕ) < 2304 := by omega
  have hj : j.val < 512 := by omega
  unfold cnv
  rw [at2_of x7 0 j.val (by omega) j.isLt, at2_of x7 1 j.val (by omega) j.isLt, at2_of x7 2 j.val (by omega) j.isLt,
    at3_of x3 b.val (p.val) (256 + j.val) b.isLt hp (by omega), at3_of x3 b.val (p.val) j.val b.isLt hp hj]
  pointwise [val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_c, val_main_call0_v0, val_main_v20, val_main_v21]
  refine congrArg₂ (· * ·) rfl (congrArg₂ (· + ·) (congrArg₂ (· + ·) (congrArg₂ (· * ·) rfl ?_) rfl) (congrArg₂ (· * ·) rfl ?_))
  all_goals
    split <;> split
    · exfalso; omega
    · refine at3_mk x3 _ _ _ _ ?_ ?_ ?_
      all_goals first | rfl | (dsimp; omega)
    · exact zero_conv
    · exfalso; omega

end

section
variable (x0 : (⟨S16x2304x768, .bf16⟩ : BufTy).Contents (Elt Ideal)) (x1 : (⟨S16x1024x2304, .bf16⟩ : BufTy).Contents (Elt Ideal))
  (x2 : (⟨S16x2304x1024, .bf16⟩ : BufTy).Contents (Elt Ideal)) (x9 : (⟨S4x32, .f32⟩ : BufTy).Contents (Elt Ideal))
  (H : Ready x0 x1 x2 x9)
  (x3 : (⟨S16x2304x512, .f32⟩ : BufTy).Contents (Elt Ideal)) (x4 : (⟨S16x2304x1024, .f32⟩ : BufTy).Contents (Elt Ideal)) (x5 : (⟨S16x2x6x1024, .f32⟩ : BufTy).Contents (Elt Ideal))
  (x6 : (⟨S1024x1024, .f32⟩ : BufTy).Contents (Elt Ideal)) (x7 : (⟨S3x256, .f32⟩ : BufTy).Contents (Elt Ideal)) (x8 : (⟨S64, .f32⟩ : BufTy).Contents (Elt Ideal))
include H

/-- The three parts side by side. -/
theorem lat_chan (b : Fin 16) (p : Fin 2048) (k : Fin 1024) :
    val_main_v125 (F := Ideal) x0 x1 x2 x3 x7 x8 x9 (ix3 b p k)
      = chan (n := 2304) (fun s => s) (qr x0 b.val p.val) (kr x1 b.val) (vr x2 b.val) (at3 x3 b.val) (at2 x7) (at1 x8) (at2 x9) p.val k.val := by
  have h1 : ∀ j : Fin 512, val_main_v123 (F := Ideal) x0 x1 x2 (ix3 b p j) = gqa (n := 2304) (fun s => s) (qr x0 b.val p.val) (kr x1 b.val) (vr x2 b.val) j.val := fun j => by
    unfold val_main_v123
    refine (join_groups _ _ b p j).trans ?_
    rw [lat_gqa x0 x1 x2 x9 H]
    refine congrArg _ ?_
    dsimp
    omega
  have h2 := lat_conv x3 x7 b p
  have h3 : ∀ j : Fin 256, val_main_v124 (F := Ideal) x0 x1 x2 x8 x9 (ix3 b p j)
      = drms (dattn (n := 2304) (fun s => s) (qr x0 b.val p.val) (kr x1 b.val) (vr x2 b.val) (lamOf (at2 x9)) (j.val / 64)) (at1 x8 (j.val % 64)) (j.val % 64) := fun j => by
    unfold val_main_v124
    refine (join_heads _ _ b p j).trans ?_
    rw [lat_rms x0 x1 x2 x9 H]
  unfold val_main_v125
  revert h1 h2 h3
  generalize val_main_v123 (F := Ideal) x0 x1 x2 = y1
  generalize val_main_v107 (F := Ideal) x3 x7 = y2
  generalize val_main_v124 (F := Ideal) x0 x1 x2 x8 x9 = y3
  intro h1 h2 h3
  unfold chan
  pointwise []
  have e1 : ∀ hk : k.val - 512 - 256 < 256, y3 (ix3 b p ⟨k.val - 512 - 256, hk⟩)
      = drms (dattn (n := 2304) (fun s => s) (qr x0 b.val p.val) (kr x1 b.val) (vr x2 b.val) (lamOf (at2 x9)) ((k.val - 768) / 64))
        (at1 x8 ((k.val - 768) % 64)) ((k.val - 768) % 64) := fun hk => by
    refine (h3 ⟨_, hk⟩).trans ?_
    show drms (dattn (n := 2304) (fun s => s) (qr x0 b.val p.val) (kr x1 b.val) (vr x2 b.val) (lamOf (at2 x9)) ((k.val - 512 - 256) / 64))
      (at1 x8 ((k.val - 512 - 256) % 64)) ((k.val - 512 - 256) % 64) = _
    rw [show k.val - 512 - 256 = k.val - 768 by omega]
  split
  · exact h1 _
  · split <;> split
    · exact h2 _
    · exfalso; omega
    · exfalso; omega
    · exact e1 _

/-- The gate. -/
theorem lat_gate (b : Fin 16) (o : Fin 1024) : val_main_v39 (F := Ideal) x5 (ix3 b 0 o) = at4 x5 b.val 0 2 o.val := by
  rw [at4_of x5 b.val 0 2 o.val b.isLt (by omega) (by omega) o.isLt]
  pointwise [val_main_v39, val_main_v38]

/-- The result on the latents' rows. -/
theorem lat_out (b : Fin 16) (p : Fin 2048) (o : Fin 1024) :
    val_main_v130 (F := Ideal) x0 x1 x2 x3 x4 x5 x6 x7 x8 x9 (ix3 b p o)
      = at3 x4 b.val p.val o.val + at4 x5 b.val 0 2 o.val * ∑ k : Fin 1024, chan (n := 2304) (fun s => s) (qr x0 b.val p.val) (kr x1 b.val) (vr x2 b.val) (at3 x3 b.val) (at2 x7) (at1 x8) (at2 x9) p.val k.val * at2 x6 k.val o.val := by
  have hy := lat_chan x0 x1 x2 x9 H x3 x7 x8 b p
  have hg := lat_gate x0 x1 x2 x9 H x5 b o
  have hw : ∀ k : Fin 1024, x6 (ix2 k o) = at2 x6 k.val o.val := fun k => (at2_of x6 k.val o.val k.isLt o.isLt).symm
  rw [at3_of x4 b.val (p.val) o.val b.isLt (by omega) o.isLt]
  unfold val_main_v130 val_main_v129 val_main_v128 val_main_v127 val_main_v126
  revert hy hg
  generalize val_main_v125 (F := Ideal) x0 x1 x2 x3 x7 x8 x9 = y
  generalize val_main_v39 (F := Ideal) x5 = g
  intro hy hg
  pointwise []
  rw [hg]
  simp only [hy, hw]

end

end Cert.Attn

end
-- ==== Proof.AttnCon.lean ====
/-
  The reference on the context's rows, entry by entry.
-/
module

public import proofs.«01_k».proof.Proof.AttnRef

@[expose] public section

set_option maxRecDepth 16384

noncomputable section

namespace Cert.Attn

open Cert.ReferenceIdeal Cert.ReferenceIdeal.Gen Cert.ReferenceIdeal.Read Idealize.ShloMosaic

section
variable (x0 : (⟨S16x2304x768, .bf16⟩ : BufTy).Contents (Elt Ideal)) (x1 : (⟨S16x1024x2304, .bf16⟩ : BufTy).Contents (Elt Ideal))
  (x2 : (⟨S16x2304x1024, .bf16⟩ : BufTy).Contents (Elt Ideal)) (x9 : (⟨S4x32, .f32⟩ : BufTy).Contents (Elt Ideal))
  (H : Ready x0 x1 x2 x9)
include H

/-- The scores of the grouped-query heads. -/
theorem con_score (b : Fin 16) (g : Fin 2) (r : Fin 4) (p : Fin 256) (s : Fin 256) :
    val_main_v137 (F := Ideal) x0 x1 (ix5 b g r p s)
      = ((sG (qr x0 b.val (2048 + p.val)) (kr x1 b.val) (4 * g.val + r.val) ((ctx s : Fin 2304).val) : ℝ) : EReal) := by
  have hg : (4 * g.val + r.val) / 4 = g.val := by omega
  unfold sG
  rw [coe_sum, hg]
  pointwise [val_main_v137, val_main_v136, val_main_v133, val_main_v134]
  refine Finset.sum_congr rfl fun e _ => ?_
  rw [gq_key x0 x1 x2 x9 H, gq_query x0 x1 x2 x9 H, ← EReal.coe_mul, mul_comm]
  all_goals rfl

/-- Each score times the logarithm of two. -/
theorem con_scaled (b : Fin 16) (g : Fin 2) (r : Fin 4) (p : Fin 256) (s : Fin 256) :
    val_main_v140 (F := Ideal) x0 x1 (ix5 b g r p s)
      = ((sG (qr x0 b.val (2048 + p.val)) (kr x1 b.val) (4 * g.val + r.val) ((ctx s : Fin 2304).val) : ℝ) : EReal) * ((Real.log 2 : ℝ) : EReal) := by
  pointwise [val_main_v140, val_main_v139, val_main_v138, val_main_cst_14]
  rw [con_score x0 x1 x2 x9 H, log_two]

/-- The largest of a row is a real number. -/
theorem con_max (b : Fin 16) (g : Fin 2) (r : Fin 4) (p : Fin 256) :
    ∃ M : ℝ, val_main_v143 (F := Ideal) x0 x1 (ix4 b g r p) = (M : EReal) := by
  have hx : ∀ i, ∃ t : ℝ, (val_main_v140 (F := Ideal) x0 x1 i : EReal) = (t : EReal) := fun i =>
    ⟨_, ((congrArg (val_main_v140 (F := Ideal) x0 x1) (eq_ix5 i)).trans
      (con_scaled x0 x1 x2 x9 H (i 0) (i 1) (i 2) (i 3) (i 4))).trans (EReal.coe_mul _ _).symm⟩
  obtain ⟨M, hM⟩ := row_max (by decide) (val_main_v140 (F := Ideal) x0 x1) (val_main_cst_15 (F := Ideal)) reducesTo_S16x2x4x256x256_S16x2x4x256_d4 (by decide) h_S_ (ix4 b g r p)
    (fun _ => minus_inf) hx
  refine ⟨M, ?_⟩
  have e : val_main_v142 (F := Ideal) (ix4 b g r p) = (⊥ : EReal) := by
    pointwise [val_main_v142, val_main_cst_16]
    exact minus_inf
  rw [val_main_v143_apply, e]
  refine Eq.trans ?_ hM
  exact max_eq_right bot_le

/-- The softmax of a row. -/
theorem con_prob (b : Fin 16) (g : Fin 2) (r : Fin 4) (p : Fin 256) (s : Fin 256) :
    val_main_v151 (F := Ideal) x0 x1 (ix5 b g r p s)
      = (((2 : ℝ) ^ sG (qr x0 b.val (2048 + p.val)) (kr x1 b.val) (4 * g.val + r.val) ((ctx s : Fin 2304).val)
          / ∑ i : Fin 256, (2 : ℝ) ^ sG (qr x0 b.val (2048 + p.val)) (kr x1 b.val) (4 * g.val + r.val) ((ctx i : Fin 2304).val) : ℝ) : EReal) := by
  obtain ⟨M, hM⟩ := con_max x0 x1 x2 x9 H b g r p
  have hy := fun i => con_scaled x0 x1 x2 x9 H b g r p i
  unfold val_main_v151 val_main_v150 val_main_v149 val_main_v148 val_main_v147 val_main_v146 val_main_v145 val_main_v144
  revert hM hy
  generalize val_main_v143 (F := Ideal) x0 x1 = m
  generalize val_main_v140 (F := Ideal) x0 x1 = y
  intro hM hy
  pointwise [val_main_cst_17]
  simp only [hy, hM]
  exact softmax_prob (fun i : Fin 256 => sG (qr x0 b.val (2048 + p.val)) (kr x1 b.val) (4 * g.val + r.val) ((ctx i : Fin 2304).val)) M s

/-- Grouped-query attention. -/
theorem con_gqa (b : Fin 16) (p : Fin 256) (g : Fin 2) (r : Fin 4) (d : Fin 64) :
    val_main_v153 (F := Ideal) x0 x1 x2 (ix5 b p g r d)
      = gqa (n := 256) ctx (qr x0 b.val (2048 + p.val)) (kr x1 b.val) (vr x2 b.val) (64 * (4 * g.val + r.val) + d.val) := by
  have h1 : (64 * (4 * g.val + r.val) + d.val) / 64 = 4 * g.val + r.val := by omega
  have h2 : (64 * (4 * g.val + r.val) + d.val) % 64 = d.val := by omega
  have h3 : (4 * g.val + r.val) / 4 = g.val := by omega
  unfold gqa
  rw [h1, h2, h3, ← probs_apply]
  pointwise [val_main_v153, val_main_v152, val_main_v135]
  refine Finset.sum_congr rfl fun s _ => ?_
  rw [con_prob x0 x1 x2 x9 H, gq_value x0 x1 x2 x9 H, mul_comm]
  all_goals rfl

/-- The scores of the differential heads. -/
theorem con_dscore (b : Fin 16) (h : Fin 4) (c : Fin 2) (p : Fin 256) (s : Fin 256) :
    val_main_v157 (F := Ideal) x0 x1 (ix5 b h c p s)
      = ((sD (qr x0 b.val (2048 + p.val)) (kr x1 b.val) h.val c.val ((ctx s : Fin 2304).val) : ℝ) : EReal) := by
  unfold sD
  rw [coe_sum]
  pointwise [val_main_v157, val_main_v154, val_main_v155]
  refine Finset.sum_congr rfl fun e _ => ?_
  rw [df_key x0 x1 x2 x9 H, df_query x0 x1 x2 x9 H, ← EReal.coe_mul]
  all_goals rfl

theorem con_dscaled (b : Fin 16) (h : Fin 4) (c : Fin 2) (p : Fin 256) (s : Fin 256) :
    val_main_v160 (F := Ideal) x0 x1 (ix5 b h c p s)
      = ((sD (qr x0 b.val (2048 + p.val)) (kr x1 b.val) h.val c.val ((ctx s : Fin 2304).val) : ℝ) : EReal) * ((Real.log 2 : ℝ) : EReal) := by
  pointwise [val_main_v160, val_main_v159, val_main_v158, val_main_cst_18]
  rw [con_dscore x0 x1 x2 x9 H, log_two]

theorem con_dmax (b : Fin 16) (h : Fin 4) (c : Fin 2) (p : Fin 256) :
    ∃ M : ℝ, val_main_v163 (F := Ideal) x0 x1 (ix4 b h c p) = (M : EReal) := by
  have hx : ∀ i, ∃ t : ℝ, (val_main_v160 (F := Ideal) x0 x1 i : EReal) = (t : EReal) := fun i =>
    ⟨_, ((congrArg (val_main_v160 (F := Ideal) x0 x1) (eq_ix5 i)).trans
      (con_dscaled x0 x1 x2 x9 H (i 0) (i 1) (i 2) (i 3) (i 4))).trans (EReal.coe_mul _ _).symm⟩
  obtain ⟨M, hM⟩ := row_max (by decide) (val_main_v160 (F := Ideal) x0 x1) (val_main_cst_19 (F := Ideal)) reducesTo_S16x4x2x256x256_S16x4x2x256_d4 (by decide) h_S_ (ix4 b h c p)
    (fun _ => minus_inf) hx
  refine ⟨M, ?_⟩
  have e : val_main_v162 (F := Ideal) (ix4 b h c p) = (⊥ : EReal) := by
    pointwise [val_main_v162, val_main_cst_20]
    exact minus_inf
  rw [val_main_v163_apply, e]
  refine Eq.trans ?_ hM
  exact max_eq_right bot_le

theorem con_dprob (b : Fin 16) (h : Fin 4) (c : Fin 2) (p : Fin 256) (s : Fin 256) :
    val_main_v171 (F := Ideal) x0 x1 (ix5 b h c p s)
      = (((2 : ℝ) ^ sD (qr x0 b.val (2048 + p.val)) (kr x1 b.val) h.val c.val ((ctx s : Fin 2304).val)
          / ∑ i : Fin 256, (2 : ℝ) ^ sD (qr x0 b.val (2048 + p.val)) (kr x1 b.val) h.val c.val ((ctx i : Fin 2304).val) : ℝ) : EReal) := by
  obtain ⟨M, hM⟩ := con_dmax x0 x1 x2 x9 H b h c p
  have hy := fun i => con_dscaled x0 x1 x2 x9 H b h c p i
  unfold val_main_v171 val_main_v170 val_main_v169 val_main_v168 val_main_v167 val_main_v166 val_main_v165 val_main_v164
  revert hM hy
  generalize val_main_v163 (F := Ideal) x0 x1 = m
  generalize val_main_v160 (F := Ideal) x0 x1 = y
  intro hM hy
  pointwise [val_main_cst_21]
  simp only [hy, hM]
  exact softmax_prob (fun i : Fin 256 => sD (qr x0 b.val (2048 + p.val)) (kr x1 b.val) h.val c.val ((ctx i : Fin 2304).val)) M s

/-- The difference of the two softmaxes. -/
theorem con_diff (b : Fin 16) (h : Fin 4) (p : Fin 256) (s : Fin 256) :
    val_main_v178 (F := Ideal) x0 x1 x9 (ix4 b h p s)
      = val_main_v171 (F := Ideal) x0 x1 (ix5 b h 0 p s) - val_main_v37 (F := Ideal) x9 ix0 * val_main_v171 (F := Ideal) x0 x1 (ix5 b h 1 p s) := by
  rw [val_main_v178_apply, val_main_v177_apply]
  have e0 : val_main_v173 (F := Ideal) x0 x1 (ix4 b h p s) = val_main_v171 (F := Ideal) x0 x1 (ix5 b h 0 p s) := by
    unfold val_main_v173
    refine (drop_unit _ _ b h p s).trans ?_
    unfold val_main_v172
    generalize val_main_v171 (F := Ideal) x0 x1 = y
    pointwise []
  have e1 : val_main_v175 (F := Ideal) x0 x1 (ix4 b h p s) = val_main_v171 (F := Ideal) x0 x1 (ix5 b h 1 p s) := by
    unfold val_main_v175
    refine (drop_unit _ _ b h p s).trans ?_
    unfold val_main_v174
    generalize val_main_v171 (F := Ideal) x0 x1 = y
    pointwise []
  have el : val_main_v176 (F := Ideal) x9 (ix4 b h p s) = val_main_v37 (F := Ideal) x9 ix0 := by
    unfold val_main_v176
    generalize val_main_v37 (F := Ideal) x9 = y
    pointwise []
  rw [e0, e1, el]
  rfl

/-- The differential heads' sum over the keys. -/
theorem con_dsum (b : Fin 16) (p : Fin 256) (h : Fin 4) (d : Fin 64) :
    val_main_v180 (F := Ideal) x0 x1 x2 x9 (ix4 b p h d)
      = ∑ s : Fin 256, val_main_v19 (F := Ideal) x2 (ix4 b (ctx s) h d) * val_main_v178 (F := Ideal) x0 x1 x9 (ix4 b h p s) := by
  unfold val_main_v180 val_main_v179 val_main_v156
  generalize val_main_v178 (F := Ideal) x0 x1 x9 = y
  generalize val_main_v19 (F := Ideal) x2 = z
  pointwise []
  all_goals rfl

/-- Differential attention. -/
theorem con_dattn (b : Fin 16) (p : Fin 256) (h : Fin 4) (d : Fin 64) :
    val_main_v180 (F := Ideal) x0 x1 x2 x9 (ix4 b p h d)
      = dattn (n := 256) ctx (qr x0 b.val (2048 + p.val)) (kr x1 b.val) (vr x2 b.val) (lamOf (at2 x9)) h.val d.val := by
  obtain ⟨l, hl⟩ := lam_real x9 H.rdl
  unfold dattn dhead
  rw [hl, ← diff_probs_apply, con_dsum x0 x1 x2 x9 H]
  refine Finset.sum_congr rfl fun s _ => ?_
  have h0 := con_dprob x0 x1 x2 x9 H b h 0 p s
  have h1 := con_dprob x0 x1 x2 x9 H b h 1 p s
  rw [con_diff x0 x1 x2 x9 H, h0, h1, df_value x0 x1 x2 x9 H, lam_apply, hl, mul_comm]
  rfl

/-- The differential heads, normalised. -/
theorem con_rms (x8 : (⟨S64, .f32⟩ : BufTy).Contents (Elt Ideal)) (b : Fin 16) (p : Fin 256) (h : Fin 4) (d : Fin 64) :
    val_main_v219 (F := Ideal) x0 x1 x2 x8 x9 (ix4 b p h d)
      = drms (dattn (n := 256) ctx (qr x0 b.val (2048 + p.val)) (kr x1 b.val) (vr x2 b.val) (lamOf (at2 x9)) h.val) (at1 x8 d.val) d.val := by
  unfold drms
  rw [at1_of x8 d.val d.isLt]
  have hy := fun e => con_dattn x0 x1 x2 x9 H b p h e
  unfold val_main_v219 val_main_v218 val_main_v217 val_main_v216 val_main_v215 val_main_v214 val_main_v213 val_main_v212 val_main_v211 val_main_v210 val_main_v209 val_main_v208 val_main_v207 val_main_v206 val_main_v205
  revert hy
  generalize val_main_v180 (F := Ideal) x0 x1 x2 x9 = y
  intro hy
  pointwise [val_main_cst_23, val_main_cst_24, val_main_cst_25, val_main_cst_26]
  simp only [hy, sixty_four, Ideal.div_coe (by norm_num : (64 : ℝ) ≠ 0)]

end

section
variable (x3 : (⟨S16x2304x512, .f32⟩ : BufTy).Contents (Elt Ideal)) (x7 : (⟨S3x256, .f32⟩ : BufTy).Contents (Elt Ideal))

/-- The gated short convolution. -/
theorem con_conv (b : Fin 16) (p : Fin 256) (j : Fin 256) :
    val_main_v204 (F := Ideal) x3 x7 (ix3 b p j) = cnv (at3 x3 b.val) (at2 x7) (2048 + p.val) j.val := by
  have hp : ((2048 + p.val) : ℕ) < 2304 := by omega
  have hj : j.val < 512 := by omega
  unfold cnv
  rw [at2_of x7 0 j.val (by omega) j.isLt, at2_of x7 1 j.val (by omega) j.isLt, at2_of x7 2 j.val (by omega) j.isLt,
    at3_of x3 b.val ((2048 + p.val)) (256 + j.val) b.isLt hp (by omega), at3_of x3 b.val ((2048 + p.val)) j.val b.isLt hp hj]
  pointwise [val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_c_22, val_main_call1_v0, val_main_v20, val_main_v21]
  refine congrArg₂ (· * ·) rfl (congrArg₂ (· + ·) (congrArg₂ (· + ·) (congrArg₂ (· * ·) rfl ?_) rfl) (congrArg₂ (· * ·) rfl ?_))
  all_goals
    split <;> split
    · exfalso; omega
    · refine at3_mk x3 _ _ _ _ ?_ ?_ ?_
      all_goals first | rfl | (dsimp; omega)
    · exact zero_conv
    · exfalso; omega

end

section
variable (x0 : (⟨S16x2304x768, .bf16⟩ : BufTy).Contents (Elt Ideal)) (x1 : (⟨S16x1024x2304, .bf16⟩ : BufTy).Contents (Elt Ideal))
  (x2 : (⟨S16x2304x1024, .bf16⟩ : BufTy).Contents (Elt Ideal)) (x9 : (⟨S4x32, .f32⟩ : BufTy).Contents (Elt Ideal))
  (H : Ready x0 x1 x2 x9)
  (x3 : (⟨S16x2304x512, .f32⟩ : BufTy).Contents (Elt Ideal)) (x4 : (⟨S16x2304x1024, .f32⟩ : BufTy).Contents (Elt Ideal)) (x5 : (⟨S16x2x6x1024, .f32⟩ : BufTy).Contents (Elt Ideal))
  (x6 : (⟨S1024x1024, .f32⟩ : BufTy).Contents (Elt Ideal)) (x7 : (⟨S3x256, .f32⟩ : BufTy).Contents (Elt Ideal)) (x8 : (⟨S64, .f32⟩ : BufTy).Contents (Elt Ideal))
include H

/-- The three parts side by side. -/
theorem con_chan (b : Fin 16) (p : Fin 256) (k : Fin 1024) :
    val_main_v222 (F := Ideal) x0 x1 x2 x3 x7 x8 x9 (ix3 b p k)
      = chan (n := 256) ctx (qr x0 b.val (2048 + p.val)) (kr x1 b.val) (vr x2 b.val) (at3 x3 b.val) (at2 x7) (at1 x8) (at2 x9) (2048 + p.val) k.val := by
  have h1 : ∀ j : Fin 512, val_main_v220 (F := Ideal) x0 x1 x2 (ix3 b p j) = gqa (n := 256) ctx (qr x0 b.val (2048 + p.val)) (kr x1 b.val) (vr x2 b.val) j.val := fun j => by
    unfold val_main_v220
    refine (join_groups _ _ b p j).trans ?_
    rw [con_gqa x0 x1 x2 x9 H]
    refine congrArg _ ?_
    dsimp
    omega
  have h2 := con_conv x3 x7 b p
  have h3 : ∀ j : Fin 256, val_main_v221 (F := Ideal) x0 x1 x2 x8 x9 (ix3 b p j)
      = drms (dattn (n := 256) ctx (qr x0 b.val (2048 + p.val)) (kr x1 b.val) (vr x2 b.val) (lamOf (at2 x9)) (j.val / 64)) (at1 x8 (j.val % 64)) (j.val % 64) := fun j => by
    unfold val_main_v221
    refine (join_heads _ _ b p j).trans ?_
    rw [con_rms x0 x1 x2 x9 H]
  unfold val_main_v222
  revert h1 h2 h3
  generalize val_main_v220 (F := Ideal) x0 x1 x2 = y1
  generalize val_main_v204 (F := Ideal) x3 x7 = y2
  generalize val_main_v221 (F := Ideal) x0 x1 x2 x8 x9 = y3
  intro h1 h2 h3
  unfold chan
  pointwise []
  have e1 : ∀ hk : k.val - 512 - 256 < 256, y3 (ix3 b p ⟨k.val - 512 - 256, hk⟩)
      = drms (dattn (n := 256) ctx (qr x0 b.val (2048 + p.val)) (kr x1 b.val) (vr x2 b.val) (lamOf (at2 x9)) ((k.val - 768) / 64))
        (at1 x8 ((k.val - 768) % 64)) ((k.val - 768) % 64) := fun hk => by
    refine (h3 ⟨_, hk⟩).trans ?_
    show drms (dattn (n := 256) ctx (qr x0 b.val (2048 + p.val)) (kr x1 b.val) (vr x2 b.val) (lamOf (at2 x9)) ((k.val - 512 - 256) / 64))
      (at1 x8 ((k.val - 512 - 256) % 64)) ((k.val - 512 - 256) % 64) = _
    rw [show k.val - 512 - 256 = k.val - 768 by omega]
  split
  · exact h1 _
  · split <;> split
    · exact h2 _
    · exfalso; omega
    · exfalso; omega
    · exact e1 _

/-- The gate. -/
theorem con_gate (b : Fin 16) (o : Fin 1024) : val_main_v132 (F := Ideal) x5 (ix3 b 0 o) = at4 x5 b.val 1 2 o.val := by
  rw [at4_of x5 b.val 1 2 o.val b.isLt (by omega) (by omega) o.isLt]
  pointwise [val_main_v132, val_main_v131]

/-- The result on the context's rows. -/
theorem con_out (b : Fin 16) (p : Fin 256) (o : Fin 1024) :
    val_main_v227 (F := Ideal) x0 x1 x2 x3 x4 x5 x6 x7 x8 x9 (ix3 b p o)
      = at3 x4 b.val (2048 + p.val) o.val + at4 x5 b.val 1 2 o.val * ∑ k : Fin 1024, chan (n := 256) ctx (qr x0 b.val (2048 + p.val)) (kr x1 b.val) (vr x2 b.val) (at3 x3 b.val) (at2 x7) (at1 x8) (at2 x9) (2048 + p.val) k.val * at2 x6 k.val o.val := by
  have hy := con_chan x0 x1 x2 x9 H x3 x7 x8 b p
  have hg := con_gate x0 x1 x2 x9 H x5 b o
  have hw : ∀ k : Fin 1024, x6 (ix2 k o) = at2 x6 k.val o.val := fun k => (at2_of x6 k.val o.val k.isLt o.isLt).symm
  rw [at3_of x4 b.val ((2048 + p.val)) o.val b.isLt (by omega) o.isLt]
  unfold val_main_v227 val_main_v226 val_main_v225 val_main_v224 val_main_v223
  revert hy hg
  generalize val_main_v222 (F := Ideal) x0 x1 x2 x3 x7 x8 x9 = y
  generalize val_main_v132 (F := Ideal) x5 = g
  intro hy hg
  pointwise []
  rw [hg]
  simp only [hy, hw]

end

end Cert.Attn

end
-- ==== Proof.AttnResult.lean ====
/-
  The reference's result: every entry of it, on the latents' rows and on the context's, is the layer's.
-/
module

public import proofs.«01_k».proof.Proof.AttnLat
public import proofs.«01_k».proof.Proof.AttnCon

@[expose] public section

set_option maxRecDepth 16384

noncomputable section

namespace Cert.Attn

open Cert.ReferenceIdeal Cert.ReferenceIdeal.Gen Cert.ReferenceIdeal.Read Idealize.ShloMosaic

section
variable (x0 : (⟨S16x2304x768, .bf16⟩ : BufTy).Contents (Elt Ideal)) (x1 : (⟨S16x1024x2304, .bf16⟩ : BufTy).Contents (Elt Ideal))
  (x2 : (⟨S16x2304x1024, .bf16⟩ : BufTy).Contents (Elt Ideal)) (x3 : (⟨S16x2304x512, .f32⟩ : BufTy).Contents (Elt Ideal))
  (x4 : (⟨S16x2304x1024, .f32⟩ : BufTy).Contents (Elt Ideal)) (x5 : (⟨S16x2x6x1024, .f32⟩ : BufTy).Contents (Elt Ideal))
  (x6 : (⟨S1024x1024, .f32⟩ : BufTy).Contents (Elt Ideal)) (x7 : (⟨S3x256, .f32⟩ : BufTy).Contents (Elt Ideal))
  (x8 : (⟨S64, .f32⟩ : BufTy).Contents (Elt Ideal)) (x9 : (⟨S4x32, .f32⟩ : BufTy).Contents (Elt Ideal))

/-- The latents' rows and the context's, one above the other. -/
theorem rows_apply (b : Fin 16) (p : Fin 2304) (o : Fin 1024) :
    val_main_v228 (F := Ideal) x0 x1 x2 x3 x4 x5 x6 x7 x8 x9 (ix3 b p o)
      = if h : p.val < 2048 then val_main_v130 (F := Ideal) x0 x1 x2 x3 x4 x5 x6 x7 x8 x9 (ix3 b ⟨p.val, h⟩ o)
        else val_main_v227 (F := Ideal) x0 x1 x2 x3 x4 x5 x6 x7 x8 x9 (ix3 b ⟨p.val - 2048, by omega⟩ o) := by
  unfold val_main_v228
  generalize val_main_v130 (F := Ideal) x0 x1 x2 x3 x4 x5 x6 x7 x8 x9 = y
  generalize val_main_v227 (F := Ideal) x0 x1 x2 x3 x4 x5 x6 x7 x8 x9 = z
  pointwise []

/-- The reference's result is the layer. -/
theorem reference_eq (H : Ready x0 x1 x2 x9) :
    val_main_v228 (F := Ideal) x0 x1 x2 x3 x4 x5 x6 x7 x8 x9 = layer x0 x1 x2 x3 x4 x5 x6 x7 x8 x9 := by
  funext i
  obtain ⟨b, p, o, rfl⟩ : ∃ (b : Fin 16) (p : Fin 2304) (o : Fin 1024), i = ix3 b p o := ⟨i 0, i 1, i 2, eq_ix3 i⟩
  rw [rows_apply]
  show _ = entry _ _ _ _ _ _ _ _ _ _ b.val p.val o.val
  unfold entry row
  by_cases h : p.val < 2048
  · rw [dif_pos h, lat_out x0 x1 x2 x9 H]
    simp only [if_pos h]
  · have e : 2048 + (p.val - 2048) = p.val := by omega
    rw [dif_neg h, con_out x0 x1 x2 x9 H]
    simp only [if_neg h, e]

end

end Cert.Attn

end
-- ==== Proof.ExpertsPre.lean ====
/-
  What the precondition says of the experts' tables, and the words computed from them.
-/
module

public import proofs.«01_k».proof.Pre_routed
public import Idealize.ShloMosaic.Lib.Decide

@[expose] public section

set_option maxRecDepth 16384

noncomputable section

namespace Cert.Experts

open Idealize.ShloMosaic

/-- The shape relations the precondition's operations take. -/
instance preFacts : Cert.Pre_routed.Facts where
  bcast_S_S296 := by decide
  bcast_S_S1 := by decide

/-- Every tile's expert is one of the sixteen, and of the tiles at least one is in use. -/
structure Routed (t : Cert.Pre_routed.S296.Idx → BitVec 32) (n : Cert.Pre_routed.S1.Idx → BitVec 32) : Prop where
  expert : ∀ j, (t j).toNat < 16
  pos : ∀ j, 1 ≤ (n j).toNat
  le : ∀ j, (n j).toNat ≤ 296

theorem of_ofBool {b : Bool} (h : BitVec.ofBool b = 1#1) : b = true := by
  cases b
  · exact absurd h (by decide)
  · rfl

/-- A word at least zero and below a small bound is a small number. -/
theorem small_of (x : BitVec 32) (k : ℕ) (hk : k < 2 ^ 31) (h0 : (0#32).sle x = true) (h1 : x.slt (BitVec.ofNat 32 k) = true) : x.toNat < k := by
  rw [BitVec.sle_iff_toInt_le] at h0
  rw [BitVec.slt_iff_toInt_lt] at h1
  rw [BitVec.toInt_eq_toNat_cond, BitVec.toInt_eq_toNat_cond] at h0 h1
  have := x.isLt
  simp only [BitVec.toNat_ofNat] at h0 h1
  rw [Nat.mod_eq_of_lt (by omega)] at h1
  split at h0 <;> split at h0 <;> split at h1 <;> split at h1 <;> omega

theorem range_of (x : BitVec 32) (k : ℕ) (hk : k < 2 ^ 31) (h0 : (1#32).sle x = true) (h1 : x.sle (BitVec.ofNat 32 k) = true) :
    1 ≤ x.toNat ∧ x.toNat ≤ k := by
  rw [BitVec.sle_iff_toInt_le] at h0 h1
  rw [BitVec.toInt_eq_toNat_cond, BitVec.toInt_eq_toNat_cond] at h0 h1
  have := x.isLt
  simp only [BitVec.toNat_ofNat] at h0 h1
  rw [Nat.mod_eq_of_lt (by omega)] at h1
  split at h0 <;> split at h0 <;> split at h1 <;> split at h1 <;> omega

section
variable {F : FTy → Type} [FloatOps F]
open Cert.Pre_routed

/-- The precondition's four answers. -/
theorem routed_of (x0 : IVec S296 32) (x1 : IVec S1 32) (x2 : FVec F S75776x1024 .f32) (x3 x4 : FVec F S16x1024x2816 .bf16) (x5 : FVec F S16x2816x1024 .bf16)
    (h : (fn (F := F) x0 x1 x2 x3 x4 x5).1 = (fun _ => 1#1) ∧ (fn (F := F) x0 x1 x2 x3 x4 x5).2.1 = (fun _ => 1#1)
      ∧ (fn (F := F) x0 x1 x2 x3 x4 x5).2.2.1 = (fun _ => 1#1) ∧ (fn (F := F) x0 x1 x2 x3 x4 x5).2.2.2 = (fun _ => 1#1)) :
    Routed x0 x1 where
  expert j := small_of (x0 j) 16 (by decide) (of_ofBool (congrFun h.1 j)) (of_ofBool (congrFun h.2.1 j))
  pos j := (range_of (x1 j) 296 (by decide) (of_ofBool (congrFun h.2.2.1 j)) (of_ofBool (congrFun h.2.2.2 j))).1
  le j := (range_of (x1 j) 296 (by decide) (of_ofBool (congrFun h.2.2.1 j)) (of_ofBool (congrFun h.2.2.2 j))).2

end

/-- A tile's number compared with the number of tiles in use. -/
theorem slt_iff (i : ℕ) (hi : i < 296) (w : BitVec 32) (h1 : 1 ≤ w.toNat) (h2 : w.toNat ≤ 296) :
    Iff ((BitVec.ofNat 32 i).slt w = true) (i < w.toNat) := by
  rw [BitVec.slt_iff_toInt_lt, BitVec.toInt_eq_toNat_cond, BitVec.toInt_eq_toNat_cond]
  simp only [BitVec.toNat_ofNat]
  rw [Nat.mod_eq_of_lt (by omega)]
  split <;> split <;> omega

/-- The block of rows a tile reads: its own, or the last in use. -/
theorem row_word (i : ℕ) (hi : i < 296) (w : BitVec 32) (h1 : 1 ≤ w.toNat) (h2 : w.toNat ≤ 296) :
    (Scalar.minsi (BitVec.ofNat 32 i) (Scalar.subi w 1#32)).toNat = min i (w.toNat - 1) := by
  have e : (w - 1#32).toNat = w.toNat - 1 := by
    rw [BitVec.toNat_sub]
    simp only [BitVec.toNat_ofNat]
    omega
  show (if (BitVec.ofNat 32 i).slt (w - 1#32) then BitVec.ofNat 32 i else w - 1#32).toNat = _
  have key : Iff ((BitVec.ofNat 32 i).slt (w - 1#32) = true) (i < w.toNat - 1) := by
    rw [BitVec.slt_iff_toInt_lt, BitVec.toInt_eq_toNat_cond, BitVec.toInt_eq_toNat_cond, e]
    simp only [BitVec.toNat_ofNat]
    rw [Nat.mod_eq_of_lt (by omega)]
    split <;> split <;> omega
  by_cases h : i < w.toNat - 1
  · rw [if_pos (key.mpr h), BitVec.toNat_ofNat, Nat.mod_eq_of_lt (by omega)]; omega
  · rw [if_neg (fun hh => h (key.mp hh)), e]; omega

end Cert.Experts

end
-- ==== Proof.ExpertsIdealRuns.lean ====
/-
  The experts' call over the real numbers, run for every pair of tables whose blocks lie in the arrays. A tile in use is computed, one past
  them is filled with zeros; which of the two is decided by the word the body reads, so there are two runs.
-/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.Kit
public import Idealize.ShloMosaic.Lib.Pipeline.Quiescent
public import Idealize.ShloMosaic.Lib.Ring
public import Idealize.ShloMosaic.Lib.Tactic
public import Idealize.ShloMosaic.Lib.WordCmp

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the call finds them: the program is the call alone. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-- The two tables: the expert of each tile, and the number of tiles in use. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- What the tables must satisfy: every block they point at lies in its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S296 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- The contents of a table, and the half of it the body may read. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w` at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input's buffer holds its block at every point, fetched there or kept from before. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- A run to the pipeline's post leaves the arguments as they were. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-- A buffer of the output, through which its contents are stated. -/
abbrev VO0_4 : View sig .tc .vmem S256x1024 .f32 := (Memref.whole cc0_stg4_0 : Memref sig .tc .vmem S256x1024 .f32).view
/-- The current buffers. -/
abbrev ms0_0 (hO : Ok m) (t : Fin (cfgM m hO).N) : Memref sig .tc .vmem S256x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2816 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x2816 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2816x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x1024 .f32 := spec0_4.stage ((cfgM m hO).slots t 4)
abbrev hs0_4 (hO : Ok m) (t : Fin (cfgM m hO).N) : (ms0_4 m hO t).IsWhole := hstage0_4 (((cfgM m hO).slots t 4).cast nbuf0_4)

/-- The result's block is written back at every point. -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The body at point `t`. -/
abbrev bodyAt0 (a : (pcfg0 (F := F)).Adm) (t : Fin (cfg0 a).N) : Prog (TpuEff nD τ sig (Elt F) Λ₀ .tc) PUnit :=
  cc0_grouped_ffn (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- The word the body reads: the number of tiles in use. -/
abbrev usedWord (c : Dev nD) (xt1 : TbBuf0 (F := F) c tbM0_1) : BitVec 32 :=
  View.readAt (Elt F) (tbM0_1).view (Rect.unit (s := S1) ![0] S1.size inb_S1_S1_0).toLoadRect xt1 (Shape.Idx.first (numel1_S1.symm ▸ Nat.one_pos))

/-- The two branches exclude each other, and one is always taken. -/
theorem cond2_iff (i : grid0.Coords) (v : BitVec 32) : Iff (k0_cond2 i v = 1#1) (¬ (k0_cond1 i v = 1#1)) := by
  have key : ∀ b : BitVec 1, Iff (Scalar.cmpi .ne (Scalar.extui (Scalar.xori b 1#1) : BitVec 32) 0#32 = 1#1)
      (¬ (Scalar.cmpi .ne (Scalar.extui b : BitVec 32) 0#32 = 1#1)) := by decide
  exact key _

set_option backward.proofsInPublic true in
set_option maxHeartbeats 8000000 in
/-- The run of a tile in use: the piece the result's buffer ends with, and that the body gives it. -/
noncomputable def kernelRun0_A (c : Dev nD) (i : grid0.Coords) (arg3 : Memref sig .tc .vmem S256x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S256x1024 .f32) (harg7 : arg7.IsWhole)
    (x0 : Vec F S256x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1) (k0_h1 : k0_cond1 i (View.readAt (Elt F) (tbM0_1).view (Rect.unit (s := S1) ![0] S1.size inb_S1_S1_0).toLoadRect xt1 (Shape.Idx.first (numel1_S1.symm ▸ Nat.one_pos))) = 1#1) (k0_h2 : ¬(k0_cond2 i (View.readAt (Elt F) (tbM0_1).view (Rect.unit (s := S1) ![0] S1.size inb_S1_S1_0).toLoadRect xt1 (Shape.Idx.first (numel1_S1.symm ▸ Nat.one_pos))) = 1#1)) :
    { L4 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_grouped_ffn i tbM0_0 htbM0_0 tbM0_1 htbM0_1 arg3 harg3 arg4 harg4 arg5 harg5 arg6 harg6 arg7 harg7) K } := by
  refine ⟨?_, fun E K => ?run⟩
  case run =>
    simp only [cc0_grouped_ffn_eq_skeleton]; unfold cc0_grouped_ffn_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ _ = _); exact k0_h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

set_option backward.proofsInPublic true in
set_option maxHeartbeats 8000000 in
/-- The run of a tile past those in use. -/
noncomputable def kernelRun0_B (c : Dev nD) (i : grid0.Coords) (arg3 : Memref sig .tc .vmem S256x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S256x1024 .f32) (harg7 : arg7.IsWhole)
    (x0 : Vec F S256x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1) (k0_h1 : ¬(k0_cond1 i (View.readAt (Elt F) (tbM0_1).view (Rect.unit (s := S1) ![0] S1.size inb_S1_S1_0).toLoadRect xt1 (Shape.Idx.first (numel1_S1.symm ▸ Nat.one_pos))) = 1#1)) (k0_h2 : k0_cond2 i (View.readAt (Elt F) (tbM0_1).view (Rect.unit (s := S1) ![0] S1.size inb_S1_S1_0).toLoadRect xt1 (Shape.Idx.first (numel1_S1.symm ▸ Nat.one_pos))) = 1#1) :
    { L4 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_grouped_ffn i tbM0_0 htbM0_0 tbM0_1 htbM0_1 arg3 harg3 arg4 harg4 arg5 harg5 arg6 harg6 arg7 harg7) K } := by
  refine ⟨?_, fun E K => ?run⟩
  case run =>
    simp only [cc0_grouped_ffn_eq_skeleton]; unfold cc0_grouped_ffn_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    have hT0 : tbM0_0.IsWhole := Memref.isWhole_whole _
    have hT1 : tbM0_1.IsWhole := Memref.isWhole_whole _
    sl_exec! (disch := first | (guard_target = ¬(k0_cond1 _ _ = _); exact k0_h1) | (guard_target = k0_cond2 _ _ = _; exact k0_h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.ExpertsIdeal.Gen

end
-- ==== Proof.ExpertsIdealFrame.lean ====
/-
  What the runs leave in the result's buffer at every tile, and from it that the whole call over the real numbers
  terminates and leaves its arguments and its semaphores.
-/
module

public import proofs.«01_k».proof.Proof.ExpertsIdealRuns
public import Idealize.ShloMosaic.Lib.Claim
public import Idealize.ShloMosaic.Lib.Writes
public import Idealize.ShloMosaic.Lib.Pipeline.Frame

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_4 (c : Dev nD) (i : grid0.Coords) (arg3 : Memref sig .tc .vmem S256x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S256x1024 .f32) (harg7 : arg7.IsWhole)
    (x0 : Vec F S256x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1) (k0_h1 : k0_cond1 i (View.readAt (Elt F) (tbM0_1).view (Rect.unit (s := S1) ![0] S1.size inb_S1_S1_0).toLoadRect xt1 (Shape.Idx.first (numel1_S1.symm ▸ Nat.one_pos))) = 1#1) (k0_h2 : ¬(k0_cond2 i (View.readAt (Elt F) (tbM0_1).view (Rect.unit (s := S1) ![0] S1.size inb_S1_S1_0).toLoadRect xt1 (Shape.Idx.first (numel1_S1.symm ▸ Nat.one_pos))) = 1#1)) (y : S256x1024.Idx) :
    ∃ pc ∈ (kernelRun0_A c i arg3 harg3 arg4 harg4 arg5 harg5 arg6 harg6 arg7 harg7 x0 x1 x2 x3 xt0 xt1 k0_h1 k0_h2).1, y ∈ pc.1.set :=
  View.cover_of_tiledL (kernelRun0_A c i arg3 harg3 arg4 harg4 arg5 harg5 arg6 harg6 arg7 harg7 x0 x1 x2 x3 xt0 xt1 k0_h1 k0_h2).1 S256x1024.size (by sl_kernel_rfl) y

def out0_A_4 (c : Dev nD) (i : grid0.Coords) (arg3 : Memref sig .tc .vmem S256x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S256x1024 .f32) (harg7 : arg7.IsWhole)
    (x0 : Vec F S256x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1) (k0_h1 : k0_cond1 i (View.readAt (Elt F) (tbM0_1).view (Rect.unit (s := S1) ![0] S1.size inb_S1_S1_0).toLoadRect xt1 (Shape.Idx.first (numel1_S1.symm ▸ Nat.one_pos))) = 1#1) (k0_h2 : ¬(k0_cond2 i (View.readAt (Elt F) (tbM0_1).view (Rect.unit (s := S1) ![0] S1.size inb_S1_S1_0).toLoadRect xt1 (Shape.Idx.first (numel1_S1.symm ▸ Nat.one_pos))) = 1#1)) : Vec F S256x1024 .f32 :=
  VO0_4.read (Elt F) (VO0_4.writes (Elt F) VO0_4.junk (kernelRun0_A c i arg3 harg3 arg4 harg4 arg5 harg5 arg6 harg6 arg7 harg7 x0 x1 x2 x3 xt0 xt1 k0_h1 k0_h2).1)

theorem cover0_B_4 (c : Dev nD) (i : grid0.Coords) (arg3 : Memref sig .tc .vmem S256x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S256x1024 .f32) (harg7 : arg7.IsWhole)
    (x0 : Vec F S256x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1) (k0_h1 : ¬(k0_cond1 i (View.readAt (Elt F) (tbM0_1).view (Rect.unit (s := S1) ![0] S1.size inb_S1_S1_0).toLoadRect xt1 (Shape.Idx.first (numel1_S1.symm ▸ Nat.one_pos))) = 1#1)) (k0_h2 : k0_cond2 i (View.readAt (Elt F) (tbM0_1).view (Rect.unit (s := S1) ![0] S1.size inb_S1_S1_0).toLoadRect xt1 (Shape.Idx.first (numel1_S1.symm ▸ Nat.one_pos))) = 1#1) (y : S256x1024.Idx) :
    ∃ pc ∈ (kernelRun0_B c i arg3 harg3 arg4 harg4 arg5 harg5 arg6 harg6 arg7 harg7 x0 x1 x2 x3 xt0 xt1 k0_h1 k0_h2).1, y ∈ pc.1.set :=
  View.cover_of_tiledL (kernelRun0_B c i arg3 harg3 arg4 harg4 arg5 harg5 arg6 harg6 arg7 harg7 x0 x1 x2 x3 xt0 xt1 k0_h1 k0_h2).1 S256x1024.size (by sl_kernel_rfl) y

def out0_B_4 (c : Dev nD) (i : grid0.Coords) (arg3 : Memref sig .tc .vmem S256x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S256x1024 .f32) (harg7 : arg7.IsWhole)
    (x0 : Vec F S256x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1) (k0_h1 : ¬(k0_cond1 i (View.readAt (Elt F) (tbM0_1).view (Rect.unit (s := S1) ![0] S1.size inb_S1_S1_0).toLoadRect xt1 (Shape.Idx.first (numel1_S1.symm ▸ Nat.one_pos))) = 1#1)) (k0_h2 : k0_cond2 i (View.readAt (Elt F) (tbM0_1).view (Rect.unit (s := S1) ![0] S1.size inb_S1_S1_0).toLoadRect xt1 (Shape.Idx.first (numel1_S1.symm ▸ Nat.one_pos))) = 1#1) : Vec F S256x1024 .f32 :=
  VO0_4.read (Elt F) (VO0_4.writes (Elt F) VO0_4.junk (kernelRun0_B c i arg3 harg3 arg4 harg4 arg5 harg5 arg6 harg6 arg7 harg7 x0 x1 x2 x3 xt0 xt1 k0_h1 k0_h2).1)

/-- Tile `t` is in use. -/
abbrev used (hO : Ok m) (c : Dev nD) (t : Fin (cfgM m hO).N) : Prop := k0_cond1 (grid0.coords t) (usedWord c (tbl m 1)) = 1#1

/-- What the result's buffer holds after point `t`. -/
def outsAt0 (hO : Ok m) (c : Dev nD) (t : Fin (cfgM m hO).N) : Vec F S256x1024 .f32 :=
  open Classical in
  if h : used m hO c t then
    out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h (fun h2 => (cond2_iff _ _).mp h2 h)
  else
    out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h ((cond2_iff _ _).mpr h)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  by_cases h : used m hO c t
  · have h2 : ¬ (k0_cond2 (grid0.coords t) (usedWord c (tbl m 1)) = 1#1) := fun h2 => (cond2_iff _ _).mp h2 h
    rw [show outsAt0 m hO c t = out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h h2 from dif_pos h]
    unfold out0_A_4
    iintro ⟨⟨HΦ, ⟨HT0, HT1⟩⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ (iblk m hO c 0 t) (iblk m hO c 1 t) (iblk m hO c 2 t) (iblk m hO c 3 t) (tbl m 0) (tbl m 1) h h2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _ _)
  · have h2 : k0_cond2 (grid0.coords t) (usedWord c (tbl m 1)) = 1#1 := (cond2_iff _ _).mpr h
    rw [show outsAt0 m hO c t = out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h h2 from dif_neg h]
    unfold out0_B_4
    iintro ⟨⟨HΦ, ⟨HT0, HT1⟩⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ (iblk m hO c 0 t) (iblk m hO c 1 t) (iblk m hO c 2 t) (iblk m hO c 3 t) (tbl m 0) (tbl m 1) h h2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The result's buffer is stored at every point. -/
theorem idle0_4 (hO : Ok m) (t : Fin (cfgM m hO).N) : (cfgM m hO).idle (4 : Fin 5) ((cfgM m hO).grid.coords t) = false := by
  show (!(k0_cond1 (grid0.coords t) ((tbl m).atD 1 ![0]) == 1#1) && !(k0_cond2 (grid0.coords t) ((tbl m).atD 1 ![0]) == 1#1)) = false
  by_cases h : k0_cond1 (grid0.coords t) ((tbl m).atD 1 ![0]) = 1#1
  · simp [h]
  · simp [(cond2_iff _ _).mpr h]

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have e := idle0_4 m hO t
  generalize (cfgM m hO).idle (4 : Fin 5) ((cfgM m hO).grid.coords t) = b at e ⊢
  subst e
  exact (.rfl : bodyPost m hO c t ⊢ bodyPost m hO c t)

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.ExpertsIdeal.Gen

end
-- ==== Proof.ExpertsIdealOk.lean ====
/-
  `ExpertsIdeal`: with tables in range, every block the tables name lies inside its array.
-/
module

public import proofs.«01_k».proof.Proof.ExpertsIdealFrame
public import proofs.«01_k».proof.Proof.ExpertsPre
public import Idealize.ShloMosaic.Lib.Pointwise

@[expose] public section

set_option maxRecDepth 16384

noncomputable section

namespace Cert.ExpertsIdeal.Gen

open Cert.ExpertsIdeal Idealize.ShloMosaic Idealize.ShloMosaic.TcCoe Idealize.SL.Sem
open Cert.Experts

variable {F : FTy → Type} [FloatOps F]

/-- The two tables: a tile's expert, and the number of tiles in use. -/
abbrev teW (pf : pre0.Contents (Elt F)) : S296.Idx → BitVec 32 := pf 0
abbrev nuW (pf : pre0.Contents (Elt F)) : S1.Idx → BitVec 32 := pf 1

theorem tile_lt (i : grid0.Coords) : (i 0).val < 296 := (i 0).isLt

/-- A tile's number. -/
def tileOf (i : grid0.Coords) : Fin 296 := ⟨(i 0).val, tile_lt i⟩

/-- The only index of a one-element table. -/
theorem one_idx (j : S1.Idx) : j = ix1 (0 : Fin 1) := by
  funext a; fin_cases a; exact Fin.ext (by have := (j 0).isLt; change (j 0).val < 1 at this; show (j 0).val = 0; omega)

theorem off1 (i : grid0.Coords) : (Scalar.indexCast (BitVec.ofNat 32 (i 0).val)).toNat = (i 0).val := by
  have := tile_lt i
  show (BitVec.ofNat 32 (i 0).val).toNat = _
  rw [BitVec.toNat_ofNat, Nat.mod_eq_of_lt (by omega)]

/-- The block row a tile's own rows are read from. -/
theorem row0 (pf : pre0.Contents (Elt F)) (h : Routed (teW pf) (nuW pf)) (i : grid0.Coords) :
    cc0_transform_0 inb_S1_S1_0 numel1_S1 pf i = ![min (i 0).val ((nuW pf (ix1 0)).toNat - 1), 0] := by
  have e := row_word (i 0).val (tile_lt i) (nuW pf (ix1 0)) (h.pos _) (h.le _)
  funext a
  fin_cases a
  · exact (congrArg (fun w : BitVec 32 => (Scalar.minsi (BitVec.ofNat 32 (i 0).val) (Scalar.subi w 1#32)).toNat) (congrArg (nuW pf) (one_idx _))).trans e
  · rfl

theorem word1 (pf : pre0.Contents (Elt F)) (i : grid0.Coords) (j : S296.Idx) (h : (j 0).val = (i 0).val) : teW pf j = teW pf (ix1 (tileOf i)) :=
  congrArg (teW pf) (by funext a; fin_cases a; exact Fin.ext h)

theorem row1 (pf : pre0.Contents (Elt F)) (i : grid0.Coords) :
    cc0_transform_1 k0_off1_inb numel1_S1 pf i = ![(teW pf (ix1 (tileOf i))).toNat, 0, 0] := by
  funext a
  fin_cases a
  · exact congrArg BitVec.toNat (word1 pf i _ (by
      refine Eq.trans ?_ (off1 i)
      rfl))
  · rfl
  · rfl
theorem row2 (pf : pre0.Contents (Elt F)) (i : grid0.Coords) :
    cc0_transform_2 k0_off1_inb numel1_S1 pf i = ![(teW pf (ix1 (tileOf i))).toNat, 0, 0] := row1 pf i
theorem row3 (pf : pre0.Contents (Elt F)) (i : grid0.Coords) :
    cc0_transform_3 k0_off1_inb numel1_S1 pf i = ![(teW pf (ix1 (tileOf i))).toNat, 0, 0] := row1 pf i

/-- Tables in range name blocks inside their arrays, and each block's rows are whole. -/
theorem ok0_of (pf : pre0.Contents (Elt F)) (h : Routed (teW pf) (nuW pf)) : ok0 pf := by
  refine ⟨fun i => ⟨fun a => ?_, Or.inl rfl⟩, fun i => ⟨fun a => ?_, Or.inr (Or.inr ⟨by decide, rfl, ?_, rfl⟩)⟩,
    fun i => ⟨fun a => ?_, Or.inr (Or.inr ⟨by decide, rfl, ?_, rfl⟩)⟩, fun i => ⟨fun a => ?_, Or.inr (Or.inr ⟨by decide, rfl, ?_, rfl⟩)⟩⟩
  · rw [row0 pf h i]
    have := tile_lt i; have := h.le (ix1 0); have := h.pos (ix1 0)
    fin_cases a
    · show (min (i 0).val ((nuW pf (ix1 0)).toNat - 1) + 1) * 256 ≤ 75776; omega
    · show (0 + 1) * 1024 ≤ 1024; decide
  · rw [row1 pf i]
    have := h.expert (ix1 (tileOf i))
    fin_cases a
    · show ((teW pf (ix1 (tileOf i))).toNat + 1) * 1 ≤ 16; omega
    · show (0 + 1) * 1024 ≤ 1024; decide
    · show (0 + 1) * 2816 ≤ 2816; decide
  · rfl
  · rw [row2 pf i]
    have := h.expert (ix1 (tileOf i))
    fin_cases a
    · show ((teW pf (ix1 (tileOf i))).toNat + 1) * 1 ≤ 16; omega
    · show (0 + 1) * 1024 ≤ 1024; decide
    · show (0 + 1) * 2816 ≤ 2816; decide
  · rfl
  · rw [row3 pf i]
    have := h.expert (ix1 (tileOf i))
    fin_cases a
    · show ((teW pf (ix1 (tileOf i))).toNat + 1) * 1 ≤ 16; omega
    · show (0 + 1) * 2816 ≤ 2816; decide
    · show (0 + 1) * 1024 ≤ 1024; decide
  · rfl

/-- The comparison the body makes. -/
theorem cond1_iff (i : grid0.Coords) (w : BitVec 32) (h1 : 1 ≤ w.toNat) (h2 : w.toNat ≤ 296) :
    Iff (k0_cond1 i w = 1#1) ((i 0).val < w.toNat) := by
  rw [← slt_iff (i 0).val (tile_lt i) w h1 h2]
  show Iff (IntOp.cmpi .ne ((BitVec.ofBool ((BitVec.ofNat 32 (i 0).val).slt w)).setWidth 32) 0#32 = 1#1) _
  generalize (BitVec.ofNat 32 (i 0).val).slt w = b
  revert b
  decide

end Cert.ExpertsIdeal.Gen

end
-- ==== Proof.ExpertsSpec.lean ====
/-
  The experts' feed-forward as a formula: a row of a tile in use goes through its tile's expert, any other row is zero.
-/
module

public import proofs.«01_k».proof.Defs
public import proofs.«01_k».proof.Proof.Gen.ExpertsIdeal.Skeleton
public import proofs.«01_k».proof.Proof.ExpertsIdealFrame
public import proofs.«01_k».proof.Proof.ExpertsPre
public import Idealize.ShloMosaic.Lib.Pointwise
public import Idealize.ShloMosaic.Lib.Pipeline.Value

@[expose] public section

set_option maxRecDepth 16384

noncomputable section

namespace Cert.Experts

open Cert.ExpertsIdeal Cert.ExpertsIdeal.Gen Idealize.ShloMosaic

/-- A row's product with one column of an expert's weights. -/
def proj {R : ℕ} (x : Fin R → Fin 1024 → EReal) (w : Fin 1024 → Fin 2816 → EReal) (r : Fin R) (f : Fin 2816) : EReal :=
  ∑ d : Fin 1024, x r d * w d f

/-- The activation `g / (1 + exp (-g))`. -/
def silu (g : EReal) : EReal := g * Ideal.div 1 (1 + Ideal.exp (-g))

/-- One expert on one row. -/
def ffn {R : ℕ} (x : Fin R → Fin 1024 → EReal) (wg wu : Fin 1024 → Fin 2816 → EReal) (wd : Fin 2816 → Fin 1024 → EReal)
    (r : Fin R) (c : Fin 1024) : EReal :=
  ∑ f : Fin 2816, silu (proj x wg r f) * proj x wu r f * wd f c

/-- What the body stores for a tile in use. -/
theorem pay1_apply (v7 : Vec Ideal S256x1024 .f32) (v9 v12 : Vec Ideal S1x1024x2816 .bf16) (v25 : Vec Ideal S1x2816x1024 .bf16) (r : Fin 256) (c : Fin 1024) :
    (k0_pay1 (F := Ideal) v7 v9 v12 v25 (ix2 r c) : EReal)
      = ffn (fun r d => (v7 (ix2 r d) : EReal)) (fun d f => (v9 (ix3 0 d f) : EReal)) (fun d f => (v12 (ix3 0 d f) : EReal))
          (fun f c => (v25 (ix3 0 f c) : EReal)) r c := by
  pointwise [k0_pay1]
  simp only [zero_sub]
  rfl

/-- And for one past them. -/
theorem pay2_apply (r : Fin 256) (c : Fin 1024) : (k0_pay2 (F := Ideal) (ix2 r c) : EReal) = 0 := by
  pointwise [k0_pay2]

end Cert.Experts

end
-- ==== Proof.ExpertsRef.lean ====
/-
  The reference's experts read at an index: the sum over the sixteen experts weighted by zeros and a one is the tile's
  expert alone, and zero past the rows in use.
-/
module

public import proofs.«01_k».proof.Proof.ExpertsSpec
public import proofs.«01_k».proof.Proof.Gen.ExpertsReferenceIdeal.Read

@[expose] public section

set_option maxRecDepth 16384

noncomputable section

namespace Cert.Experts

open Cert.ExpertsReferenceIdeal Cert.ExpertsReferenceIdeal.Read Idealize.ShloMosaic

/-- The tile a row lies in. -/
def tileR (n : Fin 75776) : Fin 296 := ⟨n.val / 256, by omega⟩

/-- The expert of a tile. -/
def expertR (te : S296.Idx → BitVec 32) (h : ∀ j, (te j).toNat < 16) (n : Fin 75776) : Fin 16 := ⟨(te (ix1 (tileR n))).toNat, h _⟩

section
variable (x0 : (⟨S296, .i32⟩ : BufTy).Contents (Elt Ideal)) (x1 : (⟨S1, .i32⟩ : BufTy).Contents (Elt Ideal))
  (x2 : (⟨S75776x1024, .f32⟩ : BufTy).Contents (Elt Ideal)) (x3 x4 : (⟨S16x1024x2816, .bf16⟩ : BufTy).Contents (Elt Ideal))
  (x5 : (⟨S16x2816x1024, .bf16⟩ : BufTy).Contents (Elt Ideal))

/-- The gate's product. -/
theorem gate_apply (e : Fin 16) (n : Fin 75776) (f : Fin 2816) :
    (val_main_v22 (F := Ideal) x2 x3 (ix3 e n f) : EReal) = proj (fun n d => (x2 (ix2 n d) : EReal)) (fun d f => (x3 (ix3 e d f) : EReal)) n f := by
  rw [val_main_v22_apply, val_main_v21_apply]
  refine Finset.sum_congr rfl fun k _ => ?_
  rw [val_main_v18_apply]
  have e1 : lidx_main_v21 (idx_main_v22 (ix3 e n f)) k = ix3 e k f := by funext a; fin_cases a <;> rfl
  have e2 : ridx_main_v21 (idx_main_v22 (ix3 e n f)) k = ix2 n k := by funext a; fin_cases a <;> rfl
  rw [e1, e2]
  exact mul_comm (x3 (ix3 e k f) : EReal) (x2 (ix2 n k) : EReal)

/-- The other product. -/
theorem up_apply (e : Fin 16) (n : Fin 75776) (f : Fin 2816) :
    (val_main_v24 (F := Ideal) x2 x4 (ix3 e n f) : EReal) = proj (fun n d => (x2 (ix2 n d) : EReal)) (fun d f => (x4 (ix3 e d f) : EReal)) n f := by
  rw [val_main_v24_apply, val_main_v23_apply]
  refine Finset.sum_congr rfl fun k _ => ?_
  rw [val_main_v19_apply]
  have e1 : lidx_main_v23 (idx_main_v24 (ix3 e n f)) k = ix3 e k f := by funext a; fin_cases a <;> rfl
  have e2 : ridx_main_v23 (idx_main_v24 (ix3 e n f)) k = ix2 n k := by funext a; fin_cases a <;> rfl
  rw [e1, e2]
  exact mul_comm (x4 (ix3 e k f) : EReal) (x2 (ix2 n k) : EReal)

theorem one_f32 : Ideal.ofBits .f32 0x3F800000#32 = (1 : EReal) := by
  have : Ideal.ofBits .f32 0x3F800000#32 = ((1 : ℝ) : EReal) := by
    simp [Ideal.ofBits, Ideal.ieee, -EReal.coe_mul]
    norm_num
  exact this

/-- One expert on every row. -/
theorem each_apply (e : Fin 16) (n : Fin 75776) (c : Fin 1024) :
    (val_main_v27 (F := Ideal) x2 x3 x4 x5 (ix3 e n c) : EReal)
      = ffn (fun n d => (x2 (ix2 n d) : EReal)) (fun d f => (x3 (ix3 e d f) : EReal)) (fun d f => (x4 (ix3 e d f) : EReal))
          (fun f c => (x5 (ix3 e f c) : EReal)) n c := by
  rw [val_main_v27_apply]
  refine Finset.sum_congr rfl fun k _ => ?_
  have e1 : lidx_main_v27 (ix3 e n c) k = ix3 e n k := by funext a; fin_cases a <;> rfl
  have e2 : ridx_main_v27 (ix3 e n c) k = ix3 e k c := by funext a; fin_cases a <;> rfl
  rw [e1, e2, val_main_v26_apply, val_main_v25_apply, val_main_v20_apply, val_main_call0_v5_apply, val_main_call0_v4_apply,
    val_main_call0_v3_apply, val_main_call0_v2_apply, val_main_call0_v1_apply, val_main_call0_v0_apply, val_main_call0_cst_apply,
    val_main_call0_cst_0_apply]
  have g := gate_apply x2 x3 e n k
  have u := up_apply x2 x4 e n k
  show (val_main_v22 (F := Ideal) x2 x3 (ix3 e n k) : EReal)
      * Ideal.div (Ideal.ofBits .f32 0x3F800000#32) (Ideal.ofBits .f32 0x3F800000#32 + Ideal.exp (-(val_main_v22 (F := Ideal) x2 x3 (ix3 e n k) : EReal)))
      * (val_main_v24 (F := Ideal) x2 x4 (ix3 e n k) : EReal) * (x5 (ix3 e k c) : EReal) = _
  rw [g, u, one_f32]
  rfl

end

section
variable (x0 : (⟨S296, .i32⟩ : BufTy).Contents (Elt Ideal)) (x1 : (⟨S1, .i32⟩ : BufTy).Contents (Elt Ideal))

theorem ofBool_and (a b : Bool) : IntOp.andi (BitVec.ofBool a) (BitVec.ofBool b) = BitVec.ofBool (a && b) := by
  revert a b; decide

/-- The weight of an expert on a row: one for the row's own, when the row is in use. -/
theorem weight_apply (n : Fin 75776) (e : Fin 16) (hx : Routed x0 x1) :
    (val_main_v17 (F := Ideal) x0 x1 (ix2 n e) : EReal)
      = if e = expertR x0 hx.expert n ∧ (tileR n).val < (x1 (ix1 0)).toNat then 1 else 0 := by
  have hte : val_main_v11 (F := Ideal) x0 (ix2 n e) = x0 (ix1 (tileR n)) := by
    rw [val_main_v11_apply, val_main_v8_apply, val_main_v2_apply, val_main_v1_apply, val_main_v0_apply]
    exact congrArg x0 (by funext a; fin_cases a; rfl)
  have hne : val_main_v12 (F := Ideal) (ix2 n e) = BitVec.ofNat 32 e.val := by
    rw [val_main_v12_apply, val_main_v10_apply, val_main_v9_apply]
    rfl
  have hnu : val_main_v15 (F := Ideal) x1 (ix2 n e) = IntOp.cmpi .slt (BitVec.ofNat 32 n.val) (IntOp.muli (x1 (ix1 0)) 256#32) := by
    rw [val_main_v15_apply, val_main_v14_apply, val_main_v7_apply, val_main_v6_apply, val_main_v5_apply, val_main_v3_apply, val_main_c_apply]
    have : ∀ j, val_main_v4 (F := Ideal) x1 j = x1 (ix1 0) := fun j => by
      unfold val_main_v4
      exact congrArg x1 (by funext a; fin_cases a; exact Subsingleton.elim (α := Fin 1) _ _)
    rw [this]
    rfl
  rw [val_main_v17_apply, val_main_v16_apply, val_main_v13_apply, hte, hne, hnu]
  show ((((IntOp.andi (BitVec.ofBool (x0 (ix1 (tileR n)) == BitVec.ofNat 32 e.val))
    (BitVec.ofBool ((BitVec.ofNat 32 n.val).slt (x1 (ix1 0) * 256#32)))).toNat : ℝ)) : EReal) = _
  rw [ofBool_and]
  have k1 : Iff ((x0 (ix1 (tileR n)) == BitVec.ofNat 32 e.val) = true) (e = expertR x0 hx.expert n) := by
    rw [beq_iff_eq, ← BitVec.toNat_inj, BitVec.toNat_ofNat, Nat.mod_eq_of_lt (by omega), Fin.ext_iff]
    exact eq_comm
  have k2 : Iff ((BitVec.ofNat 32 n.val).slt (x1 (ix1 0) * 256#32) = true) ((tileR n).val < (x1 (ix1 0)).toNat) := by
    have h1 := hx.pos (ix1 0); have h2 := hx.le (ix1 0); have := n.isLt
    have e : (x1 (ix1 0) * 256#32).toNat = (x1 (ix1 0)).toNat * 256 := by
      rw [BitVec.toNat_mul]; exact Nat.mod_eq_of_lt (by show (x1 (ix1 0)).toNat * 256 < 2 ^ 32; omega)
    rw [BitVec.slt_iff_toInt_lt, BitVec.toInt_eq_toNat_cond, BitVec.toInt_eq_toNat_cond, e, BitVec.toNat_ofNat, Nat.mod_eq_of_lt (by omega)]
    show Iff _ (n.val / 256 < _)
    split <;> split <;> omega
  simp only [← k1, ← k2]
  generalize (x0 (ix1 (tileR n)) == BitVec.ofNat 32 e.val) = a
  generalize (BitVec.ofNat 32 n.val).slt (x1 (ix1 0) * 256#32) = b
  cases a <;> cases b <;> simp

/-- The experts' feed-forward. -/
def spec (x2 : (⟨S75776x1024, .f32⟩ : BufTy).Contents (Elt Ideal)) (x3 x4 : (⟨S16x1024x2816, .bf16⟩ : BufTy).Contents (Elt Ideal))
    (x5 : (⟨S16x2816x1024, .bf16⟩ : BufTy).Contents (Elt Ideal)) (hx : Routed x0 x1) (n : Fin 75776) (c : Fin 1024) : EReal :=
  if (tileR n).val < (x1 (ix1 0)).toNat then
    ffn (fun n d => (x2 (ix2 n d) : EReal)) (fun d f => (x3 (ix3 (expertR x0 hx.expert n) d f) : EReal))
      (fun d f => (x4 (ix3 (expertR x0 hx.expert n) d f) : EReal)) (fun f c => (x5 (ix3 (expertR x0 hx.expert n) f c) : EReal)) n c
  else 0

theorem reference_apply (x2 : (⟨S75776x1024, .f32⟩ : BufTy).Contents (Elt Ideal)) (x3 x4 : (⟨S16x1024x2816, .bf16⟩ : BufTy).Contents (Elt Ideal))
    (x5 : (⟨S16x2816x1024, .bf16⟩ : BufTy).Contents (Elt Ideal)) (hx : Routed x0 x1) (n : Fin 75776) (c : Fin 1024) :
    (val_main_v28 (F := Ideal) x0 x1 x2 x3 x4 x5 (ix2 n c) : EReal) = spec x0 x1 x2 x3 x4 x5 hx n c := by
  rw [val_main_v28_apply]
  have e1 : ∀ k : Fin 16, lidx_main_v28 (ix2 n c) k = ix2 n k := fun k => by funext a; fin_cases a <;> rfl
  have e2 : ∀ k : Fin 16, ridx_main_v28 (ix2 n c) k = ix3 k n c := fun k => by funext a; fin_cases a <;> rfl
  have term : ∀ k : Fin 16, (val_main_v17 (F := Ideal) x0 x1 (lidx_main_v28 (ix2 n c) k) : EReal) * (val_main_v27 (F := Ideal) x2 x3 x4 x5 (ridx_main_v28 (ix2 n c) k) : EReal)
      = if k = expertR x0 hx.expert n then spec x0 x1 x2 x3 x4 x5 hx n c else 0 := fun k => by
    rw [e1, e2, weight_apply x0 x1 n k hx, each_apply]
    unfold spec
    by_cases hk : k = expertR x0 hx.expert n
    · subst hk
      by_cases hn : (tileR n).val < (x1 (ix1 0)).toNat
      · simp [hn]
      · simp [hn]
    · simp [hk]
  refine (Finset.sum_congr rfl fun k _ => term k).trans ?_
  rw [Finset.sum_ite_eq' Finset.univ (expertR x0 hx.expert n)]
  simp

end

end Cert.Experts

end
-- ==== Proof.ExpertsVec.lean ====
/-
  What one grid point of the experts' call leaves in the result's block, as a term of the blocks it is given.
-/
module

public import proofs.«01_k».proof.Proof.ExpertsIdealOk
public import proofs.«01_k».proof.Proof.ExpertsSpec
public import proofs.«01_k».proof.Proof.ExpertsRef
public import Idealize.ShloMosaic.Lib.Pipeline.ValueKit.Tiles

@[expose] public section

set_option maxRecDepth 16384

noncomputable section

namespace Cert.ExpertsIdeal.Gen

open Cert.ExpertsIdeal Idealize.ShloMosaic Idealize.ShloMosaic.TcCoe Idealize.SL.Sem
open Idealize.ShloMosaic.Pipeline (Dat)
open Cert.Experts

section
variable {F : FTy → Type} [FloatOps F]
variable (m : (ℓ : Loc nD τ sig) → Buf (Elt F) ℓ)

/-- The word the body reads is the table's. -/
theorem usedWord_eq (c : Dev nD) : usedWord (F := F) c (tbl m 1) = nuW (tbl m) (ix1 0) :=
  congrArg (nuW (tbl m)) (one_idx _)

/-- A tile in use leaves the feed-forward of its blocks. -/
theorem out_A (c : Dev nD) (i : grid0.Coords) (arg3 : Memref sig .tc .vmem S256x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S256x1024 .f32) (harg7 : arg7.IsWhole)
    (x0 : Vec F S256x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1) (k0_h1 : k0_cond1 i (View.readAt (Elt F) (tbM0_1).view (Rect.unit (s := S1) ![0] S1.size inb_S1_S1_0).toLoadRect xt1 (Shape.Idx.first (numel1_S1.symm ▸ Nat.one_pos))) = 1#1) (k0_h2 : ¬(k0_cond2 i (View.readAt (Elt F) (tbM0_1).view (Rect.unit (s := S1) ![0] S1.size inb_S1_S1_0).toLoadRect xt1 (Shape.Idx.first (numel1_S1.symm ▸ Nat.one_pos))) = 1#1)) :
    out0_A_4 c i arg3 harg3 arg4 harg4 arg5 harg5 arg6 harg6 arg7 harg7 x0 x1 x2 x3 xt0 xt1 k0_h1 k0_h2 = k0_pay1 (F := F) x0 x1 x2 x3 := by
  unfold out0_A_4
  rw [View.read_writes_eq_canon _ _ _ (cover0_A_4 c i arg3 harg3 arg4 harg4 arg5 harg5 arg6 harg6 arg7 harg7 x0 x1 x2 x3 xt0 xt1 k0_h1 k0_h2)]
  unfold kernelRun0_A
  dsimp only
  sl_unfold_words
  simp only [View.readAt_eq_ld, harg3.read_unread, harg4.read_unread, harg5.read_unread, harg6.read_unread]
  refine (View.canon_unit_zero (by funext a; fin_cases a <;> rfl) _ _).trans ?_
  congr 1
  · exact View.ld_unit_zero (by funext a; fin_cases a <;> rfl) _ _
  · exact View.ld_unit_zero (by funext a; fin_cases a <;> rfl) _ _
  · exact View.ld_unit_zero (by funext a; fin_cases a <;> rfl) _ _
  · exact View.ld_unit_zero (by funext a; fin_cases a <;> rfl) _ _

/-- A tile past those in use leaves zeros. -/
theorem out_B (c : Dev nD) (i : grid0.Coords) (arg3 : Memref sig .tc .vmem S256x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S256x1024 .f32) (harg7 : arg7.IsWhole)
    (x0 : Vec F S256x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1) (k0_h1 : ¬(k0_cond1 i (View.readAt (Elt F) (tbM0_1).view (Rect.unit (s := S1) ![0] S1.size inb_S1_S1_0).toLoadRect xt1 (Shape.Idx.first (numel1_S1.symm ▸ Nat.one_pos))) = 1#1)) (k0_h2 : k0_cond2 i (View.readAt (Elt F) (tbM0_1).view (Rect.unit (s := S1) ![0] S1.size inb_S1_S1_0).toLoadRect xt1 (Shape.Idx.first (numel1_S1.symm ▸ Nat.one_pos))) = 1#1) :
    out0_B_4 c i arg3 harg3 arg4 harg4 arg5 harg5 arg6 harg6 arg7 harg7 x0 x1 x2 x3 xt0 xt1 k0_h1 k0_h2 = k0_pay2 (F := F) := by
  unfold out0_B_4
  rw [View.read_writes_eq_canon _ _ _ (cover0_B_4 c i arg3 harg3 arg4 harg4 arg5 harg5 arg6 harg6 arg7 harg7 x0 x1 x2 x3 xt0 xt1 k0_h1 k0_h2)]
  unfold kernelRun0_B
  dsimp only
  sl_unfold_words
  exact View.canon_unit_zero (by funext a; fin_cases a <;> rfl) _ _

theorem outs_used (hO : Ok m) (c : Dev nD) (t : Fin (cfgM m hO).N) (h : used m hO c t) :
    outsAt0 m hO c t = k0_pay1 (F := F) (iblk m hO c 0 t) (iblk m hO c 1 t) (iblk m hO c 2 t) (iblk m hO c 3 t) :=
  (dif_pos h).trans (out_A _ _ _ _ _ _ _ _ _ _ _ _ _ _ _ _ _ _ _ _)

theorem outs_unused (hO : Ok m) (c : Dev nD) (t : Fin (cfgM m hO).N) (h : ¬ used m hO c t) :
    outsAt0 m hO c t = k0_pay2 (F := F) :=
  (dif_neg h).trans (out_B _ _ _ _ _ _ _ _ _ _ _ _ _ _ _ _ _ _ _ _)

theorem used_iff (hO : Ok m) (hR : Routed (teW (tbl m)) (nuW (tbl m))) (c : Dev nD) (t : Fin (cfgM m hO).N) :
    Iff (used m hO c t) ((grid0.coords t 0).val < (nuW (tbl m) (ix1 0)).toNat) := by
  unfold used
  rw [usedWord_eq]
  exact cond1_iff (grid0.coords t) _ (hR.pos _) (hR.le _)

/-! ## The blocks -/

theorem iblk0_apply (hO : Ok m) (hR : Routed (teW (tbl m)) (nuW (tbl m))) (c : Dev nD) (t : Fin (cfgM m hO).N) (r : Fin 256) (d : Fin 1024) (n : Fin 75776)
    (hn : n.val = min (grid0.coords t 0).val ((nuW (tbl m) (ix1 0)).toNat - 1) * 256 + r.val) :
    iblk m hO c 0 t (ix2 r d) = (m ((c : Thread nD τ).loc main_arg2) : S75776x1024.Idx → Elt F .f32) (ix2 n d) := by
  have e := row0 (tbl m) hR (grid0.coords t)
  refine congrArg (m ((c : Thread nD τ).loc main_arg2) : S75776x1024.Idx → Elt F .f32) (funext fun a => Fin.ext ?_)
  fin_cases a
  · show cc0_transform_0 inb_S1_S1_0 numel1_S1 (tbl m) (grid0.coords t) 0 * 256 + 1 * r.val = n.val
    rw [e, hn, Nat.one_mul]; rfl
  · show cc0_transform_0 inb_S1_S1_0 numel1_S1 (tbl m) (grid0.coords t) 1 * 1024 + 1 * d.val = d.val
    rw [e, Nat.one_mul]; exact Nat.zero_add _

theorem iblk1_apply (hO : Ok m) (c : Dev nD) (t : Fin (cfgM m hO).N) (d : Fin 1024) (f : Fin 2816) (e : Fin 16)
    (he : e.val = (teW (tbl m) (ix1 (tileOf (grid0.coords t)))).toNat) :
    iblk m hO c 1 t (ix3 0 d f) = (m ((c : Thread nD τ).loc main_arg3) : S16x1024x2816.Idx → Elt F .bf16) (ix3 e d f) := by
  have h := row1 (tbl m) (grid0.coords t)
  refine congrArg (m ((c : Thread nD τ).loc main_arg3) : S16x1024x2816.Idx → Elt F .bf16) (funext fun a => Fin.ext ?_)
  fin_cases a
  · show cc0_transform_1 k0_off1_inb numel1_S1 (tbl m) (grid0.coords t) 0 * 1 + 1 * 0 = e.val
    rw [h, he]; exact Nat.mul_one _
  · show cc0_transform_1 k0_off1_inb numel1_S1 (tbl m) (grid0.coords t) 1 * 1024 + 1 * d.val = d.val
    rw [h, Nat.one_mul]; exact Nat.zero_add _
  · show cc0_transform_1 k0_off1_inb numel1_S1 (tbl m) (grid0.coords t) 2 * 2816 + 1 * f.val = f.val
    rw [h, Nat.one_mul]; exact Nat.zero_add _

theorem iblk2_apply (hO : Ok m) (c : Dev nD) (t : Fin (cfgM m hO).N) (d : Fin 1024) (f : Fin 2816) (e : Fin 16)
    (he : e.val = (teW (tbl m) (ix1 (tileOf (grid0.coords t)))).toNat) :
    iblk m hO c 2 t (ix3 0 d f) = (m ((c : Thread nD τ).loc main_arg4) : S16x1024x2816.Idx → Elt F .bf16) (ix3 e d f) := by
  have h := row2 (tbl m) (grid0.coords t)
  refine congrArg (m ((c : Thread nD τ).loc main_arg4) : S16x1024x2816.Idx → Elt F .bf16) (funext fun a => Fin.ext ?_)
  fin_cases a
  · show cc0_transform_2 k0_off1_inb numel1_S1 (tbl m) (grid0.coords t) 0 * 1 + 1 * 0 = e.val
    rw [h, he]; exact Nat.mul_one _
  · show cc0_transform_2 k0_off1_inb numel1_S1 (tbl m) (grid0.coords t) 1 * 1024 + 1 * d.val = d.val
    rw [h, Nat.one_mul]; exact Nat.zero_add _
  · show cc0_transform_2 k0_off1_inb numel1_S1 (tbl m) (grid0.coords t) 2 * 2816 + 1 * f.val = f.val
    rw [h, Nat.one_mul]; exact Nat.zero_add _

theorem iblk3_apply (hO : Ok m) (c : Dev nD) (t : Fin (cfgM m hO).N) (f : Fin 2816) (d : Fin 1024) (e : Fin 16)
    (he : e.val = (teW (tbl m) (ix1 (tileOf (grid0.coords t)))).toNat) :
    iblk m hO c 3 t (ix3 0 f d) = (m ((c : Thread nD τ).loc main_arg5) : S16x2816x1024.Idx → Elt F .bf16) (ix3 e f d) := by
  have h := row3 (tbl m) (grid0.coords t)
  refine congrArg (m ((c : Thread nD τ).loc main_arg5) : S16x2816x1024.Idx → Elt F .bf16) (funext fun a => Fin.ext ?_)
  fin_cases a
  · show cc0_transform_3 k0_off1_inb numel1_S1 (tbl m) (grid0.coords t) 0 * 1 + 1 * 0 = e.val
    rw [h, he]; exact Nat.mul_one _
  · show cc0_transform_3 k0_off1_inb numel1_S1 (tbl m) (grid0.coords t) 1 * 2816 + 1 * f.val = f.val
    rw [h, Nat.one_mul]; exact Nat.zero_add _
  · show cc0_transform_3 k0_off1_inb numel1_S1 (tbl m) (grid0.coords t) 2 * 1024 + 1 * d.val = d.val
    rw [h, Nat.one_mul]; exact Nat.zero_add _

end

end Cert.ExpertsIdeal.Gen

end
-- ==== Proof.ExpertsWhole.lean ====
/-
  The experts' result array: tile by tile, and the whole of it the feed-forward of Proof/ExpertsRef.lean.
-/
module

public import proofs.«01_k».proof.Proof.ExpertsVec
public import Idealize.ShloMosaic.Lib.Pipeline.ValueKit.Geometry

@[expose] public section

set_option maxRecDepth 16384

noncomputable section

namespace Cert.ExpertsIdeal.Gen

open Cert.ExpertsIdeal Idealize.ShloMosaic Idealize.ShloMosaic.TcCoe Idealize.SL.Sem
open Idealize.ShloMosaic.Pipeline (Dat)
open Cert.Experts

variable (m : (ℓ : Loc nD τ sig) → Buf (Elt Ideal) ℓ)

/-- The feed-forward of one row depends on that row only. -/
theorem ffn_congr {R R' : ℕ} {x : Fin R → Fin 1024 → EReal} {x' : Fin R' → Fin 1024 → EReal} {wg wg' wu wu' : Fin 1024 → Fin 2816 → EReal}
    {wd wd' : Fin 2816 → Fin 1024 → EReal} {r : Fin R} {r' : Fin R'} {d : Fin 1024} (hx : ∀ k, x r k = x' r' k) (hg : ∀ k f, wg k f = wg' k f)
    (hu : ∀ k f, wu k f = wu' k f) (hd : ∀ f, wd f d = wd' f d) : ffn x wg wu wd r d = ffn x' wg' wu' wd' r' d := by
  unfold ffn proj
  simp only [hx, hg, hu, hd]

/-- The grid's point is the tile. -/
theorem coords_tile (t : Fin grid0.N) : (grid0.coords t 0).val = t.val :=
  (Pipeline.Grid.coords_val t 0 (S := 1) (B := 296) (by decide) rfl).trans (by
    have : t.val < 296 := t.isLt
    rw [Nat.div_one, Nat.mod_eq_of_lt this])

/-- The feed-forward of the arguments `m` has on device `c`. -/
def ffnAt (hR : Routed (teW (tbl m)) (nuW (tbl m))) (c : Dev nD) : S75776x1024.Idx → EReal := fun y =>
  spec (teW (tbl m)) (nuW (tbl m)) (m ((c : Thread nD τ).loc main_arg2)) (m ((c : Thread nD τ).loc main_arg3)) (m ((c : Thread nD τ).loc main_arg4))
    (m ((c : Thread nD τ).loc main_arg5)) hR (y 0) (y 1)

theorem tile_emb (hO : Ok m) (t : Fin (cfgM m hO).N) (r : Fin 256) (d : Fin 1024) (n : Fin 75776) (hn : n.val = t.val * 256 + r.val) :
    (((cfgM m hO).win 4).blk t).view.emb (ix2 r d) = (ix2 n d : S75776x1024.Idx) := by
  funext a
  refine Fin.ext ?_
  fin_cases a
  · show (BitVec.ofNat 32 (grid0.coords t 0).val).toNat * 256 + 1 * r.val = n.val
    have h1 := coords_tile t
    have h2 := off1 (grid0.coords t)
    rw [show (BitVec.ofNat 32 (grid0.coords t 0).val).toNat = (grid0.coords t 0).val from h2, h1, hn, Nat.one_mul]
  · show 0 * 1024 + 1 * d.val = d.val
    omega

theorem block_apply (hO : Ok m) (hR : Routed (teW (tbl m)) (nuW (tbl m))) (c : Dev nD) (t : Fin (cfgM m hO).N) (r : Fin 256) (d : Fin 1024)
    (n : Fin 75776) (hn : n.val = t.val * 256 + r.val) :
    (outsAt0 m hO c t (ix2 r d) : EReal) = ffnAt m hR c (ix2 n d) := by
  have ht : (grid0.coords t 0).val = t.val := coords_tile t
  have hr := r.isLt
  have htile : tileR n = tileOf (grid0.coords t) := Fin.ext (by show n.val / 256 = (grid0.coords t 0).val; omega)
  show _ = spec _ _ _ _ _ _ hR n d
  unfold spec
  by_cases h : used m hO c t
  · have hu := (used_iff m hO hR c t).mp h
    refine (congrFun (outs_used m hO c t h) _).trans ((pay1_apply _ _ _ _ r d).trans ?_)
    rw [if_pos (by rw [htile]; exact hu)]
    have he : (expertR (teW (tbl m)) hR.expert n).val = (teW (tbl m) (ix1 (tileOf (grid0.coords t)))).toNat := by
      show (teW (tbl m) (ix1 (tileR n))).toNat = _
      rw [htile]
    exact ffn_congr (fun k => iblk0_apply m hO hR c t r k n (by rw [hn, ht]; omega)) (fun k f => iblk1_apply m hO c t k f _ he)
      (fun k f => iblk2_apply m hO c t k f _ he) (fun f => iblk3_apply m hO c t f d _ he)
  · have hu := fun hh => h ((used_iff m hO hR c t).mpr hh)
    refine (congrFun (outs_unused m hO c t h) _).trans ((pay2_apply r d).trans ?_)
    rw [if_neg (by rw [htile]; exact hu)]

/-- Every entry lies in its tile's block. -/
theorem covered (hO : Ok m) (i : S75776x1024.Idx) :
    ∃ t : Fin (cfgM m hO).N, ((cfgM m hO).win 4).flush t = true ∧ i ∈ (((cfgM m hO).win 4).blk t).view.set := by
  have hi : (i 0).val < 75776 := (i 0).isLt
  have hq : (i 0).val / 256 < 296 := by omega
  let t : Fin (cfgM m hO).N := (⟨(i 0).val / 256, hq⟩ : Fin 296)
  refine ⟨t, flush0_4 _ _, ?_⟩
  have e := (tile_emb m hO t ⟨(i 0).val % 256, by omega⟩ (i 1) (i 0)
    (by show (i 0).val = (i 0).val / 256 * 256 + (i 0).val % 256; omega)).trans (eq_ix2 i).symm
  have k := (((cfgM m hO).win 4).blk t).view.emb_mem_set (ix2 (⟨(i 0).val % 256, by omega⟩ : Fin 256) (i 1))
  exact e ▸ k

/-- Tile `t`'s block holds its part of the feed-forward. -/
theorem part (hO : Ok m) (hR : Routed (teW (tbl m)) (nuW (tbl m))) (c : Dev nD) (t : Fin (cfgM m hO).N) (y : S256x1024.Idx) :
    (outsAt0 m hO c t y : EReal) = ffnAt m hR c ((((cfgM m hO).win 4).blk t).view.emb y) := by
  obtain ⟨r, d, rfl⟩ : ∃ (r : Fin 256) (d : Fin 1024), y = ix2 r d := ⟨y 0, y 1, eq_ix2 y⟩
  have ht : t.val < 296 := t.isLt
  have hr := r.isLt
  have e := tile_emb m hO t r d ⟨t.val * 256 + r.val, by omega⟩ rfl
  exact (block_apply m hO hR c t r d ⟨t.val * 256 + r.val, by omega⟩ rfl).trans (congrArg (ffnAt m hR c) e).symm

/-- The call's result array. -/
theorem result_eq (hO : Ok m) (hR : Routed (teW (tbl m)) (nuW (tbl m))) (c : Dev nD) : (dats m hO 0 c).arrAt 4 (cfgM m hO).N = ffnAt m hR c :=
  (dats m hO 0 c).arrAt_eq_of_emb 4 _ (fun t _ y => part m hO hR c t y) (covered m hO)

end Cert.ExpertsIdeal.Gen

end
-- ==== Proof.ExpertsEqual.lean ====
/-
  The experts' claims: under the precondition both programs run, and over the real numbers the two results are the
  feed-forward of Proof/ExpertsRef.lean.
-/
module

public import proofs.«01_k».proof.Defs
public import proofs.«01_k».proof.Proof.ExpertsFrame
public import proofs.«01_k».proof.Proof.ExpertsOk
public import proofs.«01_k».proof.Proof.ExpertsWhole
public import proofs.«01_k».proof.Proof.Gen.ExpertsReferenceIdeal
public import proofs.«01_k».proof.Proof.Gen.ExpertsReferenceIdeal.Run
public import proofs.«01_k».proof.Proof.Gen.ExpertsReferenceIdeal.Read
public import Idealize.ShloMosaic.Adequacy
public import Idealize.ShloMosaic.Init

@[expose] public section

noncomputable section

namespace Cert.Experts

open Idealize.ShloMosaic Idealize.SL.Sem

/-- The tables of arguments the precondition admits are a routing. -/
theorem routed_bits (m : (ℓ : Loc Cert.Experts.nD Cert.Experts.τ Cert.Experts.sig) → Buf (Elt Bits) ℓ)
    (h : Cert.Pre_Experts (hPre_routed := preFacts) m) : Routed (Cert.Experts.Gen.teW (Cert.Experts.Gen.tbl m)) (Cert.Experts.Gen.nuW (Cert.Experts.Gen.tbl m)) :=
  routed_of _ _ _ _ _ _ (h 0)

theorem routed_ideal (m : (ℓ : Loc Cert.ExpertsIdeal.nD Cert.ExpertsIdeal.τ Cert.ExpertsIdeal.sig) → Buf (Elt Ideal) ℓ)
    (h : Cert.Pre_ExpertsIdeal (hPre_routed := preFacts) m) : Routed (Cert.ExpertsIdeal.Gen.teW (Cert.ExpertsIdeal.Gen.tbl m)) (Cert.ExpertsIdeal.Gen.nuW (Cert.ExpertsIdeal.Gen.tbl m)) :=
  routed_of _ _ _ _ _ _ (h 0)

/-- The experts' kernel leaves its arguments and its semaphores. -/
theorem kernel_frame : Cert.quiescent_Experts (hExperts := Cert.Experts.Gen.facts) (hPre_routed := preFacts) := fun m g h =>
  Cert.Experts.Gen.frame m g (Cert.Experts.Gen.ok0_of _ (routed_bits m h))

/-- So does the kernel over the real numbers. -/
theorem ideal_frame : Cert.quiescent_ExpertsIdeal (hExpertsIdeal := Cert.ExpertsIdeal.Gen.facts) (hPre_routed := preFacts) := fun m g h =>
  Cert.ExpertsIdeal.Gen.frame m g (Cert.ExpertsIdeal.Gen.ok0_of _ (routed_ideal m h))

/-- And the reference. -/
theorem reference_frame : Cert.quiescent_ExpertsReferenceIdeal (hExpertsReferenceIdeal := Cert.ExpertsReferenceIdeal.Gen.facts) := fun m g _ =>
  (θ_run Cert.ExpertsReferenceIdeal.defs _ _).mono (fun r h => ⟨fun c => (h c).2, sem_eq_zero_of_no_sems (by decide) r.2⟩)
    (Cert.ExpertsReferenceIdeal.Value.run (F := Ideal) m g)

/-- The reference's result is the specification, entry by entry. -/
theorem reference_eq (x0 : (⟨Cert.ExpertsReferenceIdeal.S296, .i32⟩ : BufTy).Contents (Elt Ideal)) (x1 : (⟨Cert.ExpertsReferenceIdeal.S1, .i32⟩ : BufTy).Contents (Elt Ideal))
    (x2 : (⟨Cert.ExpertsReferenceIdeal.S75776x1024, .f32⟩ : BufTy).Contents (Elt Ideal)) (x3 x4 : (⟨Cert.ExpertsReferenceIdeal.S16x1024x2816, .bf16⟩ : BufTy).Contents (Elt Ideal))
    (x5 : (⟨Cert.ExpertsReferenceIdeal.S16x2816x1024, .bf16⟩ : BufTy).Contents (Elt Ideal)) (hx : Routed x0 x1) :
    Cert.ExpertsReferenceIdeal.Read.val_main_v28 (F := Ideal) x0 x1 x2 x3 x4 x5
      = (fun y : Cert.ExpertsReferenceIdeal.S75776x1024.Idx => spec x0 x1 x2 x3 x4 x5 hx (y 0) (y 1)) := by
  funext y
  exact (congrArg _ (eq_ix2 y)).trans (reference_apply x0 x1 x2 x3 x4 x5 hx (y 0) (y 1))

/-- The reference's result from agreeing arguments. -/
theorem reference_result (m : (ℓ : Loc Cert.ExpertsIdeal.nD Cert.ExpertsIdeal.τ Cert.ExpertsIdeal.sig) → Buf (Elt Ideal) ℓ)
    (c : Dev Cert.ExpertsIdeal.nD) (hR : Routed (Cert.ExpertsIdeal.Gen.teW (Cert.ExpertsIdeal.Gen.tbl m)) (Cert.ExpertsIdeal.Gen.nuW (Cert.ExpertsIdeal.Gen.tbl m)))
    (x0 : (⟨Cert.ExpertsReferenceIdeal.S296, .i32⟩ : BufTy).Contents (Elt Ideal)) (x1 : (⟨Cert.ExpertsReferenceIdeal.S1, .i32⟩ : BufTy).Contents (Elt Ideal))
    (x2 : (⟨Cert.ExpertsReferenceIdeal.S75776x1024, .f32⟩ : BufTy).Contents (Elt Ideal)) (x3 x4 : (⟨Cert.ExpertsReferenceIdeal.S16x1024x2816, .bf16⟩ : BufTy).Contents (Elt Ideal))
    (x5 : (⟨Cert.ExpertsReferenceIdeal.S16x2816x1024, .bf16⟩ : BufTy).Contents (Elt Ideal))
    (h : x0 = m ((c.tc : Thread Cert.ExpertsIdeal.nD Cert.ExpertsIdeal.τ).loc Cert.ExpertsIdeal.main_arg0)
      ∧ x1 = m ((c.tc : Thread Cert.ExpertsIdeal.nD Cert.ExpertsIdeal.τ).loc Cert.ExpertsIdeal.main_arg1)
      ∧ x2 = m ((c.tc : Thread Cert.ExpertsIdeal.nD Cert.ExpertsIdeal.τ).loc Cert.ExpertsIdeal.main_arg2)
      ∧ x3 = m ((c.tc : Thread Cert.ExpertsIdeal.nD Cert.ExpertsIdeal.τ).loc Cert.ExpertsIdeal.main_arg3)
      ∧ x4 = m ((c.tc : Thread Cert.ExpertsIdeal.nD Cert.ExpertsIdeal.τ).loc Cert.ExpertsIdeal.main_arg4)
      ∧ x5 = m ((c.tc : Thread Cert.ExpertsIdeal.nD Cert.ExpertsIdeal.τ).loc Cert.ExpertsIdeal.main_arg5)) :
    Cert.ExpertsReferenceIdeal.Read.val_main_v28 (F := Ideal) x0 x1 x2 x3 x4 x5 = Cert.ExpertsIdeal.Gen.ffnAt m hR c := by
  obtain ⟨h0, h1, h2, h3, h4, h5⟩ := h
  obtain rfl : c = 0 := Subsingleton.elim _ _
  subst h2 h3 h4 h5
  have e0 : x0 = Cert.ExpertsIdeal.Gen.teW (Cert.ExpertsIdeal.Gen.tbl m) := h0
  have e1 : x1 = Cert.ExpertsIdeal.Gen.nuW (Cert.ExpertsIdeal.Gen.tbl m) := h1
  subst e0 e1
  exact reference_eq _ _ _ _ _ _ hR

/-- Over the real numbers the two results are one. -/
theorem equal : Cert.algebraic_ExpertsIdeal_ExpertsReferenceIdeal (hExpertsIdeal := Cert.ExpertsIdeal.Gen.facts)
    (hExpertsReferenceIdeal := Cert.ExpertsReferenceIdeal.Gen.facts) (hPre_routed := preFacts) := fun m g m' g' hp ha =>
  have hR := routed_ideal m hp
  have hO : Cert.ExpertsIdeal.Gen.Ok m := Cert.ExpertsIdeal.Gen.ok0_of _ hR
  ⟨fun c => Cert.ExpertsIdeal.Gen.ffnAt m hR c,
    (θ_run Cert.ExpertsIdeal.defs _ _).mono (fun r h c => ⟨((h.2 c).1 4).trans (Cert.ExpertsIdeal.Gen.result_eq m hO hR c), h.1 c⟩)
      (θ_run_and (Cert.ExpertsIdeal.Gen.unchanged m g hO) (Cert.ExpertsIdeal.Gen.run_main m g hO)),
    (θ_run Cert.ExpertsReferenceIdeal.defs _ _).mono
      (fun r h c => ⟨(h c).1.trans ((Cert.ExpertsReferenceIdeal.Read.val_main_v28_eq (F := Ideal) _ _ _ _ _ _).trans (reference_result m c hR _ _ _ _ _ _ (ha c))), (h c).2⟩)
      (Cert.ExpertsReferenceIdeal.Value.run (F := Ideal) m' g')⟩

end Cert.Experts

end
-- ==== Proof.LastExpertsPre.lean ====
/-
  ExpertsPre for the sizes of layer 3, whose experts see the latents only: 67584 rows in 264 tiles.

  What the precondition says of the experts' tables, and the words computed from them.
-/
module

public import proofs.«01_k».proof.Pre_last_routed
public import Idealize.ShloMosaic.Lib.Decide

@[expose] public section

set_option maxRecDepth 16384

noncomputable section

namespace Cert.LastExperts

open Idealize.ShloMosaic

/-- The shape relations the precondition's operations take. -/
instance preFacts : Cert.Pre_last_routed.Facts where
  bcast_S_S264 := by decide
  bcast_S_S1 := by decide

/-- Every tile's expert is one of the sixteen, and of the tiles at least one is in use. -/
structure Routed (t : Cert.Pre_last_routed.S264.Idx → BitVec 32) (n : Cert.Pre_last_routed.S1.Idx → BitVec 32) : Prop where
  expert : ∀ j, (t j).toNat < 16
  pos : ∀ j, 1 ≤ (n j).toNat
  le : ∀ j, (n j).toNat ≤ 264

theorem of_ofBool {b : Bool} (h : BitVec.ofBool b = 1#1) : b = true := by
  cases b
  · exact absurd h (by decide)
  · rfl

/-- A word at least zero and below a small bound is a small number. -/
theorem small_of (x : BitVec 32) (k : ℕ) (hk : k < 2 ^ 31) (h0 : (0#32).sle x = true) (h1 : x.slt (BitVec.ofNat 32 k) = true) : x.toNat < k := by
  rw [BitVec.sle_iff_toInt_le] at h0
  rw [BitVec.slt_iff_toInt_lt] at h1
  rw [BitVec.toInt_eq_toNat_cond, BitVec.toInt_eq_toNat_cond] at h0 h1
  have := x.isLt
  simp only [BitVec.toNat_ofNat] at h0 h1
  rw [Nat.mod_eq_of_lt (by omega)] at h1
  split at h0 <;> split at h0 <;> split at h1 <;> split at h1 <;> omega

theorem range_of (x : BitVec 32) (k : ℕ) (hk : k < 2 ^ 31) (h0 : (1#32).sle x = true) (h1 : x.sle (BitVec.ofNat 32 k) = true) :
    1 ≤ x.toNat ∧ x.toNat ≤ k := by
  rw [BitVec.sle_iff_toInt_le] at h0 h1
  rw [BitVec.toInt_eq_toNat_cond, BitVec.toInt_eq_toNat_cond] at h0 h1
  have := x.isLt
  simp only [BitVec.toNat_ofNat] at h0 h1
  rw [Nat.mod_eq_of_lt (by omega)] at h1
  split at h0 <;> split at h0 <;> split at h1 <;> split at h1 <;> omega

section
variable {F : FTy → Type} [FloatOps F]
open Cert.Pre_last_routed

/-- The precondition's four answers. -/
theorem routed_of (x0 : IVec S264 32) (x1 : IVec S1 32) (x2 : FVec F S67584x1024 .f32) (x3 x4 : FVec F S16x1024x2816 .bf16) (x5 : FVec F S16x2816x1024 .bf16)
    (h : (fn (F := F) x0 x1 x2 x3 x4 x5).1 = (fun _ => 1#1) ∧ (fn (F := F) x0 x1 x2 x3 x4 x5).2.1 = (fun _ => 1#1)
      ∧ (fn (F := F) x0 x1 x2 x3 x4 x5).2.2.1 = (fun _ => 1#1) ∧ (fn (F := F) x0 x1 x2 x3 x4 x5).2.2.2 = (fun _ => 1#1)) :
    Routed x0 x1 where
  expert j := small_of (x0 j) 16 (by decide) (of_ofBool (congrFun h.1 j)) (of_ofBool (congrFun h.2.1 j))
  pos j := (range_of (x1 j) 264 (by decide) (of_ofBool (congrFun h.2.2.1 j)) (of_ofBool (congrFun h.2.2.2 j))).1
  le j := (range_of (x1 j) 264 (by decide) (of_ofBool (congrFun h.2.2.1 j)) (of_ofBool (congrFun h.2.2.2 j))).2

end

/-- A tile's number compared with the number of tiles in use. -/
theorem slt_iff (i : ℕ) (hi : i < 264) (w : BitVec 32) (h1 : 1 ≤ w.toNat) (h2 : w.toNat ≤ 264) :
    Iff ((BitVec.ofNat 32 i).slt w = true) (i < w.toNat) := by
  rw [BitVec.slt_iff_toInt_lt, BitVec.toInt_eq_toNat_cond, BitVec.toInt_eq_toNat_cond]
  simp only [BitVec.toNat_ofNat]
  rw [Nat.mod_eq_of_lt (by omega)]
  split <;> split <;> omega

/-- The block of rows a tile reads: its own, or the last in use. -/
theorem row_word (i : ℕ) (hi : i < 264) (w : BitVec 32) (h1 : 1 ≤ w.toNat) (h2 : w.toNat ≤ 264) :
    (Scalar.minsi (BitVec.ofNat 32 i) (Scalar.subi w 1#32)).toNat = min i (w.toNat - 1) := by
  have e : (w - 1#32).toNat = w.toNat - 1 := by
    rw [BitVec.toNat_sub]
    simp only [BitVec.toNat_ofNat]
    omega
  show (if (BitVec.ofNat 32 i).slt (w - 1#32) then BitVec.ofNat 32 i else w - 1#32).toNat = _
  have key : Iff ((BitVec.ofNat 32 i).slt (w - 1#32) = true) (i < w.toNat - 1) := by
    rw [BitVec.slt_iff_toInt_lt, BitVec.toInt_eq_toNat_cond, BitVec.toInt_eq_toNat_cond, e]
    simp only [BitVec.toNat_ofNat]
    rw [Nat.mod_eq_of_lt (by omega)]
    split <;> split <;> omega
  by_cases h : i < w.toNat - 1
  · rw [if_pos (key.mpr h), BitVec.toNat_ofNat, Nat.mod_eq_of_lt (by omega)]; omega
  · rw [if_neg (fun hh => h (key.mp hh)), e]; omega

end Cert.LastExperts

end
-- ==== Proof.LastExpertsIdealRuns.lean ====
/-
  ExpertsIdealRuns for the sizes of layer 3, whose experts see the latents only: 67584 rows in 264 tiles.

  The experts' call over the real numbers, run for every pair of tables whose blocks lie in the arrays. A tile in use is computed, one past
  them is filled with zeros; which of the two is decided by the word the body reads, so there are two runs.
-/
module

public import proofs.«01_k».proof.Proof.Gen.LastExpertsIdeal.Launch
public import proofs.«01_k».proof.Proof.Gen.LastExpertsIdeal.Skeleton
public import Idealize.ShloMosaic.Lib.Pipeline.FrameBody
public import Idealize.ShloMosaic.Lib.Pipeline.Kit
public import Idealize.ShloMosaic.Lib.Pipeline.Quiescent
public import Idealize.ShloMosaic.Lib.Ring
public import Idealize.ShloMosaic.Lib.Tactic
public import Idealize.ShloMosaic.Lib.WordCmp

@[expose] public section

set_option maxRecDepth 16384

noncomputable section

namespace Cert.LastExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the call finds them: the program is the call alone. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-- The two tables: the expert of each tile, and the number of tiles in use. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- What the tables must satisfy: every block they point at lies in its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S264 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- The contents of a table, and the half of it the body may read. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w` at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input's buffer holds its block at every point, fetched there or kept from before. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- A run to the pipeline's post leaves the arguments as they were. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-- A buffer of the output, through which its contents are stated. -/
abbrev VO0_4 : View sig .tc .vmem S256x1024 .f32 := (Memref.whole cc0_stg4_0 : Memref sig .tc .vmem S256x1024 .f32).view
/-- The current buffers. -/
abbrev ms0_0 (hO : Ok m) (t : Fin (cfgM m hO).N) : Memref sig .tc .vmem S256x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2816 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x2816 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2816x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x1024 .f32 := spec0_4.stage ((cfgM m hO).slots t 4)
abbrev hs0_4 (hO : Ok m) (t : Fin (cfgM m hO).N) : (ms0_4 m hO t).IsWhole := hstage0_4 (((cfgM m hO).slots t 4).cast nbuf0_4)

/-- The result's block is written back at every point. -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The body at point `t`. -/
abbrev bodyAt0 (a : (pcfg0 (F := F)).Adm) (t : Fin (cfg0 a).N) : Prog (TpuEff nD τ sig (Elt F) Λ₀ .tc) PUnit :=
  cc0_grouped_ffn (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- The word the body reads: the number of tiles in use. -/
abbrev usedWord (c : Dev nD) (xt1 : TbBuf0 (F := F) c tbM0_1) : BitVec 32 :=
  View.readAt (Elt F) (tbM0_1).view (Rect.unit (s := S1) ![0] S1.size inb_S1_S1_0).toLoadRect xt1 (Shape.Idx.first (numel1_S1.symm ▸ Nat.one_pos))

/-- The two branches exclude each other, and one is always taken. -/
theorem cond2_iff (i : grid0.Coords) (v : BitVec 32) : Iff (k0_cond2 i v = 1#1) (¬ (k0_cond1 i v = 1#1)) := by
  have key : ∀ b : BitVec 1, Iff (Scalar.cmpi .ne (Scalar.extui (Scalar.xori b 1#1) : BitVec 32) 0#32 = 1#1)
      (¬ (Scalar.cmpi .ne (Scalar.extui b : BitVec 32) 0#32 = 1#1)) := by decide
  exact key _

set_option backward.proofsInPublic true in
set_option maxHeartbeats 8000000 in
/-- The run of a tile in use: the piece the result's buffer ends with, and that the body gives it. -/
noncomputable def kernelRun0_A (c : Dev nD) (i : grid0.Coords) (arg3 : Memref sig .tc .vmem S256x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S256x1024 .f32) (harg7 : arg7.IsWhole)
    (x0 : Vec F S256x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1) (k0_h1 : k0_cond1 i (View.readAt (Elt F) (tbM0_1).view (Rect.unit (s := S1) ![0] S1.size inb_S1_S1_0).toLoadRect xt1 (Shape.Idx.first (numel1_S1.symm ▸ Nat.one_pos))) = 1#1) (k0_h2 : ¬(k0_cond2 i (View.readAt (Elt F) (tbM0_1).view (Rect.unit (s := S1) ![0] S1.size inb_S1_S1_0).toLoadRect xt1 (Shape.Idx.first (numel1_S1.symm ▸ Nat.one_pos))) = 1#1)) :
    { L4 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_grouped_ffn i tbM0_0 htbM0_0 tbM0_1 htbM0_1 arg3 harg3 arg4 harg4 arg5 harg5 arg6 harg6 arg7 harg7) K } := by
  refine ⟨?_, fun E K => ?run⟩
  case run =>
    simp only [cc0_grouped_ffn_eq_skeleton]; unfold cc0_grouped_ffn_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ _ = _); exact k0_h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

set_option backward.proofsInPublic true in
set_option maxHeartbeats 8000000 in
/-- The run of a tile past those in use. -/
noncomputable def kernelRun0_B (c : Dev nD) (i : grid0.Coords) (arg3 : Memref sig .tc .vmem S256x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S256x1024 .f32) (harg7 : arg7.IsWhole)
    (x0 : Vec F S256x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1) (k0_h1 : ¬(k0_cond1 i (View.readAt (Elt F) (tbM0_1).view (Rect.unit (s := S1) ![0] S1.size inb_S1_S1_0).toLoadRect xt1 (Shape.Idx.first (numel1_S1.symm ▸ Nat.one_pos))) = 1#1)) (k0_h2 : k0_cond2 i (View.readAt (Elt F) (tbM0_1).view (Rect.unit (s := S1) ![0] S1.size inb_S1_S1_0).toLoadRect xt1 (Shape.Idx.first (numel1_S1.symm ▸ Nat.one_pos))) = 1#1) :
    { L4 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_grouped_ffn i tbM0_0 htbM0_0 tbM0_1 htbM0_1 arg3 harg3 arg4 harg4 arg5 harg5 arg6 harg6 arg7 harg7) K } := by
  refine ⟨?_, fun E K => ?run⟩
  case run =>
    simp only [cc0_grouped_ffn_eq_skeleton]; unfold cc0_grouped_ffn_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    have hT0 : tbM0_0.IsWhole := Memref.isWhole_whole _
    have hT1 : tbM0_1.IsWhole := Memref.isWhole_whole _
    sl_exec! (disch := first | (guard_target = ¬(k0_cond1 _ _ = _); exact k0_h1) | (guard_target = k0_cond2 _ _ = _; exact k0_h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.LastExpertsIdeal.Gen

end
-- ==== Proof.LastExpertsIdealFrame.lean ====
/-
  ExpertsIdealFrame for the sizes of layer 3, whose experts see the latents only: 67584 rows in 264 tiles.

  What the runs leave in the result's buffer at every tile, and from it that the whole call over the real numbers
  terminates and leaves its arguments and its semaphores.
-/
module

public import proofs.«01_k».proof.Proof.LastExpertsIdealRuns
public import Idealize.ShloMosaic.Lib.Claim
public import Idealize.ShloMosaic.Lib.Writes
public import Idealize.ShloMosaic.Lib.Pipeline.Frame

@[expose] public section

set_option maxRecDepth 16384

noncomputable section

namespace Cert.LastExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_4 (c : Dev nD) (i : grid0.Coords) (arg3 : Memref sig .tc .vmem S256x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S256x1024 .f32) (harg7 : arg7.IsWhole)
    (x0 : Vec F S256x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1) (k0_h1 : k0_cond1 i (View.readAt (Elt F) (tbM0_1).view (Rect.unit (s := S1) ![0] S1.size inb_S1_S1_0).toLoadRect xt1 (Shape.Idx.first (numel1_S1.symm ▸ Nat.one_pos))) = 1#1) (k0_h2 : ¬(k0_cond2 i (View.readAt (Elt F) (tbM0_1).view (Rect.unit (s := S1) ![0] S1.size inb_S1_S1_0).toLoadRect xt1 (Shape.Idx.first (numel1_S1.symm ▸ Nat.one_pos))) = 1#1)) (y : S256x1024.Idx) :
    ∃ pc ∈ (kernelRun0_A c i arg3 harg3 arg4 harg4 arg5 harg5 arg6 harg6 arg7 harg7 x0 x1 x2 x3 xt0 xt1 k0_h1 k0_h2).1, y ∈ pc.1.set :=
  View.cover_of_tiledL (kernelRun0_A c i arg3 harg3 arg4 harg4 arg5 harg5 arg6 harg6 arg7 harg7 x0 x1 x2 x3 xt0 xt1 k0_h1 k0_h2).1 S256x1024.size (by sl_kernel_rfl) y

def out0_A_4 (c : Dev nD) (i : grid0.Coords) (arg3 : Memref sig .tc .vmem S256x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S256x1024 .f32) (harg7 : arg7.IsWhole)
    (x0 : Vec F S256x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1) (k0_h1 : k0_cond1 i (View.readAt (Elt F) (tbM0_1).view (Rect.unit (s := S1) ![0] S1.size inb_S1_S1_0).toLoadRect xt1 (Shape.Idx.first (numel1_S1.symm ▸ Nat.one_pos))) = 1#1) (k0_h2 : ¬(k0_cond2 i (View.readAt (Elt F) (tbM0_1).view (Rect.unit (s := S1) ![0] S1.size inb_S1_S1_0).toLoadRect xt1 (Shape.Idx.first (numel1_S1.symm ▸ Nat.one_pos))) = 1#1)) : Vec F S256x1024 .f32 :=
  VO0_4.read (Elt F) (VO0_4.writes (Elt F) VO0_4.junk (kernelRun0_A c i arg3 harg3 arg4 harg4 arg5 harg5 arg6 harg6 arg7 harg7 x0 x1 x2 x3 xt0 xt1 k0_h1 k0_h2).1)

theorem cover0_B_4 (c : Dev nD) (i : grid0.Coords) (arg3 : Memref sig .tc .vmem S256x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S256x1024 .f32) (harg7 : arg7.IsWhole)
    (x0 : Vec F S256x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1) (k0_h1 : ¬(k0_cond1 i (View.readAt (Elt F) (tbM0_1).view (Rect.unit (s := S1) ![0] S1.size inb_S1_S1_0).toLoadRect xt1 (Shape.Idx.first (numel1_S1.symm ▸ Nat.one_pos))) = 1#1)) (k0_h2 : k0_cond2 i (View.readAt (Elt F) (tbM0_1).view (Rect.unit (s := S1) ![0] S1.size inb_S1_S1_0).toLoadRect xt1 (Shape.Idx.first (numel1_S1.symm ▸ Nat.one_pos))) = 1#1) (y : S256x1024.Idx) :
    ∃ pc ∈ (kernelRun0_B c i arg3 harg3 arg4 harg4 arg5 harg5 arg6 harg6 arg7 harg7 x0 x1 x2 x3 xt0 xt1 k0_h1 k0_h2).1, y ∈ pc.1.set :=
  View.cover_of_tiledL (kernelRun0_B c i arg3 harg3 arg4 harg4 arg5 harg5 arg6 harg6 arg7 harg7 x0 x1 x2 x3 xt0 xt1 k0_h1 k0_h2).1 S256x1024.size (by sl_kernel_rfl) y

def out0_B_4 (c : Dev nD) (i : grid0.Coords) (arg3 : Memref sig .tc .vmem S256x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S256x1024 .f32) (harg7 : arg7.IsWhole)
    (x0 : Vec F S256x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1) (k0_h1 : ¬(k0_cond1 i (View.readAt (Elt F) (tbM0_1).view (Rect.unit (s := S1) ![0] S1.size inb_S1_S1_0).toLoadRect xt1 (Shape.Idx.first (numel1_S1.symm ▸ Nat.one_pos))) = 1#1)) (k0_h2 : k0_cond2 i (View.readAt (Elt F) (tbM0_1).view (Rect.unit (s := S1) ![0] S1.size inb_S1_S1_0).toLoadRect xt1 (Shape.Idx.first (numel1_S1.symm ▸ Nat.one_pos))) = 1#1) : Vec F S256x1024 .f32 :=
  VO0_4.read (Elt F) (VO0_4.writes (Elt F) VO0_4.junk (kernelRun0_B c i arg3 harg3 arg4 harg4 arg5 harg5 arg6 harg6 arg7 harg7 x0 x1 x2 x3 xt0 xt1 k0_h1 k0_h2).1)

/-- Tile `t` is in use. -/
abbrev used (hO : Ok m) (c : Dev nD) (t : Fin (cfgM m hO).N) : Prop := k0_cond1 (grid0.coords t) (usedWord c (tbl m 1)) = 1#1

/-- What the result's buffer holds after point `t`. -/
def outsAt0 (hO : Ok m) (c : Dev nD) (t : Fin (cfgM m hO).N) : Vec F S256x1024 .f32 :=
  open Classical in
  if h : used m hO c t then
    out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h (fun h2 => (cond2_iff _ _).mp h2 h)
  else
    out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h ((cond2_iff _ _).mpr h)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  by_cases h : used m hO c t
  · have h2 : ¬ (k0_cond2 (grid0.coords t) (usedWord c (tbl m 1)) = 1#1) := fun h2 => (cond2_iff _ _).mp h2 h
    rw [show outsAt0 m hO c t = out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h h2 from dif_pos h]
    unfold out0_A_4
    iintro ⟨⟨HΦ, ⟨HT0, HT1⟩⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ (iblk m hO c 0 t) (iblk m hO c 1 t) (iblk m hO c 2 t) (iblk m hO c 3 t) (tbl m 0) (tbl m 1) h h2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _ _)
  · have h2 : k0_cond2 (grid0.coords t) (usedWord c (tbl m 1)) = 1#1 := (cond2_iff _ _).mpr h
    rw [show outsAt0 m hO c t = out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h h2 from dif_neg h]
    unfold out0_B_4
    iintro ⟨⟨HΦ, ⟨HT0, HT1⟩⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ (iblk m hO c 0 t) (iblk m hO c 1 t) (iblk m hO c 2 t) (iblk m hO c 3 t) (tbl m 0) (tbl m 1) h h2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The result's buffer is stored at every point. -/
theorem idle0_4 (hO : Ok m) (t : Fin (cfgM m hO).N) : (cfgM m hO).idle (4 : Fin 5) ((cfgM m hO).grid.coords t) = false := by
  show (!(k0_cond1 (grid0.coords t) ((tbl m).atD 1 ![0]) == 1#1) && !(k0_cond2 (grid0.coords t) ((tbl m).atD 1 ![0]) == 1#1)) = false
  by_cases h : k0_cond1 (grid0.coords t) ((tbl m).atD 1 ![0]) = 1#1
  · simp [h]
  · simp [(cond2_iff _ _).mpr h]

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have e := idle0_4 m hO t
  generalize (cfgM m hO).idle (4 : Fin 5) ((cfgM m hO).grid.coords t) = b at e ⊢
  subst e
  exact (.rfl : bodyPost m hO c t ⊢ bodyPost m hO c t)

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.LastExpertsIdeal.Gen

end
-- ==== Proof.LastExpertsIdealOk.lean ====
/-
  ExpertsIdealOk for the sizes of layer 3, whose experts see the latents only: 67584 rows in 264 tiles.

  `LastExpertsIdeal`: with tables in range, every block the tables name lies inside its array.
-/
module

public import proofs.«01_k».proof.Proof.LastExpertsIdealFrame
public import proofs.«01_k».proof.Proof.LastExpertsPre
public import Idealize.ShloMosaic.Lib.Pointwise

@[expose] public section

set_option maxRecDepth 16384

noncomputable section

namespace Cert.LastExpertsIdeal.Gen

open Cert.LastExpertsIdeal Idealize.ShloMosaic Idealize.ShloMosaic.TcCoe Idealize.SL.Sem
open Cert.LastExperts

variable {F : FTy → Type} [FloatOps F]

/-- The two tables: a tile's expert, and the number of tiles in use. -/
abbrev teW (pf : pre0.Contents (Elt F)) : S264.Idx → BitVec 32 := pf 0
abbrev nuW (pf : pre0.Contents (Elt F)) : S1.Idx → BitVec 32 := pf 1

theorem tile_lt (i : grid0.Coords) : (i 0).val < 264 := (i 0).isLt

/-- A tile's number. -/
def tileOf (i : grid0.Coords) : Fin 264 := ⟨(i 0).val, tile_lt i⟩

/-- The only index of a one-element table. -/
theorem one_idx (j : S1.Idx) : j = ix1 (0 : Fin 1) := by
  funext a; fin_cases a; exact Fin.ext (by have := (j 0).isLt; change (j 0).val < 1 at this; show (j 0).val = 0; omega)

theorem off1 (i : grid0.Coords) : (Scalar.indexCast (BitVec.ofNat 32 (i 0).val)).toNat = (i 0).val := by
  have := tile_lt i
  show (BitVec.ofNat 32 (i 0).val).toNat = _
  rw [BitVec.toNat_ofNat, Nat.mod_eq_of_lt (by omega)]

/-- The block row a tile's own rows are read from. -/
theorem row0 (pf : pre0.Contents (Elt F)) (h : Routed (teW pf) (nuW pf)) (i : grid0.Coords) :
    cc0_transform_0 inb_S1_S1_0 numel1_S1 pf i = ![min (i 0).val ((nuW pf (ix1 0)).toNat - 1), 0] := by
  have e := row_word (i 0).val (tile_lt i) (nuW pf (ix1 0)) (h.pos _) (h.le _)
  funext a
  fin_cases a
  · exact (congrArg (fun w : BitVec 32 => (Scalar.minsi (BitVec.ofNat 32 (i 0).val) (Scalar.subi w 1#32)).toNat) (congrArg (nuW pf) (one_idx _))).trans e
  · rfl

theorem word1 (pf : pre0.Contents (Elt F)) (i : grid0.Coords) (j : S264.Idx) (h : (j 0).val = (i 0).val) : teW pf j = teW pf (ix1 (tileOf i)) :=
  congrArg (teW pf) (by funext a; fin_cases a; exact Fin.ext h)

theorem row1 (pf : pre0.Contents (Elt F)) (i : grid0.Coords) :
    cc0_transform_1 k0_off1_inb numel1_S1 pf i = ![(teW pf (ix1 (tileOf i))).toNat, 0, 0] := by
  funext a
  fin_cases a
  · exact congrArg BitVec.toNat (word1 pf i _ (by
      refine Eq.trans ?_ (off1 i)
      rfl))
  · rfl
  · rfl
theorem row2 (pf : pre0.Contents (Elt F)) (i : grid0.Coords) :
    cc0_transform_2 k0_off1_inb numel1_S1 pf i = ![(teW pf (ix1 (tileOf i))).toNat, 0, 0] := row1 pf i
theorem row3 (pf : pre0.Contents (Elt F)) (i : grid0.Coords) :
    cc0_transform_3 k0_off1_inb numel1_S1 pf i = ![(teW pf (ix1 (tileOf i))).toNat, 0, 0] := row1 pf i

/-- Tables in range name blocks inside their arrays, and each block's rows are whole. -/
theorem ok0_of (pf : pre0.Contents (Elt F)) (h : Routed (teW pf) (nuW pf)) : ok0 pf := by
  refine ⟨fun i => ⟨fun a => ?_, Or.inl rfl⟩, fun i => ⟨fun a => ?_, Or.inr (Or.inr ⟨by decide, rfl, ?_, rfl⟩)⟩,
    fun i => ⟨fun a => ?_, Or.inr (Or.inr ⟨by decide, rfl, ?_, rfl⟩)⟩, fun i => ⟨fun a => ?_, Or.inr (Or.inr ⟨by decide, rfl, ?_, rfl⟩)⟩⟩
  · rw [row0 pf h i]
    have := tile_lt i; have := h.le (ix1 0); have := h.pos (ix1 0)
    fin_cases a
    · show (min (i 0).val ((nuW pf (ix1 0)).toNat - 1) + 1) * 256 ≤ 67584; omega
    · show (0 + 1) * 1024 ≤ 1024; decide
  · rw [row1 pf i]
    have := h.expert (ix1 (tileOf i))
    fin_cases a
    · show ((teW pf (ix1 (tileOf i))).toNat + 1) * 1 ≤ 16; omega
    · show (0 + 1) * 1024 ≤ 1024; decide
    · show (0 + 1) * 2816 ≤ 2816; decide
  · rfl
  · rw [row2 pf i]
    have := h.expert (ix1 (tileOf i))
    fin_cases a
    · show ((teW pf (ix1 (tileOf i))).toNat + 1) * 1 ≤ 16; omega
    · show (0 + 1) * 1024 ≤ 1024; decide
    · show (0 + 1) * 2816 ≤ 2816; decide
  · rfl
  · rw [row3 pf i]
    have := h.expert (ix1 (tileOf i))
    fin_cases a
    · show ((teW pf (ix1 (tileOf i))).toNat + 1) * 1 ≤ 16; omega
    · show (0 + 1) * 2816 ≤ 2816; decide
    · show (0 + 1) * 1024 ≤ 1024; decide
  · rfl

/-- The comparison the body makes. -/
theorem cond1_iff (i : grid0.Coords) (w : BitVec 32) (h1 : 1 ≤ w.toNat) (h2 : w.toNat ≤ 264) :
    Iff (k0_cond1 i w = 1#1) ((i 0).val < w.toNat) := by
  rw [← slt_iff (i 0).val (tile_lt i) w h1 h2]
  show Iff (IntOp.cmpi .ne ((BitVec.ofBool ((BitVec.ofNat 32 (i 0).val).slt w)).setWidth 32) 0#32 = 1#1) _
  generalize (BitVec.ofNat 32 (i 0).val).slt w = b
  revert b
  decide

end Cert.LastExpertsIdeal.Gen

end
-- ==== Proof.LastExpertsSpec.lean ====
/-
  ExpertsSpec for the sizes of layer 3, whose experts see the latents only: 67584 rows in 264 tiles.

  The experts' feed-forward as a formula: a row of a tile in use goes through its tile's expert, any other row is zero.
-/
module

public import proofs.«01_k».proof.Defs
public import proofs.«01_k».proof.Proof.Gen.LastExpertsIdeal.Skeleton
public import proofs.«01_k».proof.Proof.LastExpertsIdealFrame
public import proofs.«01_k».proof.Proof.LastExpertsPre
public import Idealize.ShloMosaic.Lib.Pointwise
public import Idealize.ShloMosaic.Lib.Pipeline.Value

@[expose] public section

set_option maxRecDepth 16384

noncomputable section

namespace Cert.LastExperts

open Cert.LastExpertsIdeal Cert.LastExpertsIdeal.Gen Idealize.ShloMosaic

/-- A row's product with one column of an expert's weights. -/
def proj {R : ℕ} (x : Fin R → Fin 1024 → EReal) (w : Fin 1024 → Fin 2816 → EReal) (r : Fin R) (f : Fin 2816) : EReal :=
  ∑ d : Fin 1024, x r d * w d f

/-- The activation `g / (1 + exp (-g))`. -/
def silu (g : EReal) : EReal := g * Ideal.div 1 (1 + Ideal.exp (-g))

/-- One expert on one row. -/
def ffn {R : ℕ} (x : Fin R → Fin 1024 → EReal) (wg wu : Fin 1024 → Fin 2816 → EReal) (wd : Fin 2816 → Fin 1024 → EReal)
    (r : Fin R) (c : Fin 1024) : EReal :=
  ∑ f : Fin 2816, silu (proj x wg r f) * proj x wu r f * wd f c

/-- What the body stores for a tile in use. -/
theorem pay1_apply (v7 : Vec Ideal S256x1024 .f32) (v9 v12 : Vec Ideal S1x1024x2816 .bf16) (v25 : Vec Ideal S1x2816x1024 .bf16) (r : Fin 256) (c : Fin 1024) :
    (k0_pay1 (F := Ideal) v7 v9 v12 v25 (ix2 r c) : EReal)
      = ffn (fun r d => (v7 (ix2 r d) : EReal)) (fun d f => (v9 (ix3 0 d f) : EReal)) (fun d f => (v12 (ix3 0 d f) : EReal))
          (fun f c => (v25 (ix3 0 f c) : EReal)) r c := by
  pointwise [k0_pay1]
  simp only [zero_sub]
  rfl

/-- And for one past them. -/
theorem pay2_apply (r : Fin 256) (c : Fin 1024) : (k0_pay2 (F := Ideal) (ix2 r c) : EReal) = 0 := by
  pointwise [k0_pay2]

end Cert.LastExperts

end
-- ==== Proof.LastExpertsRef.lean ====
/-
  ExpertsRef for the sizes of layer 3, whose experts see the latents only: 67584 rows in 264 tiles.

  The reference's experts read at an index: the sum over the sixteen experts weighted by zeros and a one is the tile's
  expert alone, and zero past the rows in use.
-/
module

public import proofs.«01_k».proof.Proof.LastExpertsSpec
public import proofs.«01_k».proof.Proof.Gen.LastExpertsReferenceIdeal.Read

@[expose] public section

set_option maxRecDepth 16384

noncomputable section

namespace Cert.LastExperts

open Cert.LastExpertsReferenceIdeal Cert.LastExpertsReferenceIdeal.Read Idealize.ShloMosaic

/-- The tile a row lies in. -/
def tileR (n : Fin 67584) : Fin 264 := ⟨n.val / 256, by omega⟩

/-- The expert of a tile. -/
def expertR (te : S264.Idx → BitVec 32) (h : ∀ j, (te j).toNat < 16) (n : Fin 67584) : Fin 16 := ⟨(te (ix1 (tileR n))).toNat, h _⟩

section
variable (x0 : (⟨S264, .i32⟩ : BufTy).Contents (Elt Ideal)) (x1 : (⟨S1, .i32⟩ : BufTy).Contents (Elt Ideal))
  (x2 : (⟨S67584x1024, .f32⟩ : BufTy).Contents (Elt Ideal)) (x3 x4 : (⟨S16x1024x2816, .bf16⟩ : BufTy).Contents (Elt Ideal))
  (x5 : (⟨S16x2816x1024, .bf16⟩ : BufTy).Contents (Elt Ideal))

/-- The gate's product. -/
theorem gate_apply (e : Fin 16) (n : Fin 67584) (f : Fin 2816) :
    (val_main_v22 (F := Ideal) x2 x3 (ix3 e n f) : EReal) = proj (fun n d => (x2 (ix2 n d) : EReal)) (fun d f => (x3 (ix3 e d f) : EReal)) n f := by
  rw [val_main_v22_apply, val_main_v21_apply]
  refine Finset.sum_congr rfl fun k _ => ?_
  rw [val_main_v18_apply]
  have e1 : lidx_main_v21 (idx_main_v22 (ix3 e n f)) k = ix3 e k f := by funext a; fin_cases a <;> rfl
  have e2 : ridx_main_v21 (idx_main_v22 (ix3 e n f)) k = ix2 n k := by funext a; fin_cases a <;> rfl
  rw [e1, e2]
  exact mul_comm (x3 (ix3 e k f) : EReal) (x2 (ix2 n k) : EReal)

/-- The other product. -/
theorem up_apply (e : Fin 16) (n : Fin 67584) (f : Fin 2816) :
    (val_main_v24 (F := Ideal) x2 x4 (ix3 e n f) : EReal) = proj (fun n d => (x2 (ix2 n d) : EReal)) (fun d f => (x4 (ix3 e d f) : EReal)) n f := by
  rw [val_main_v24_apply, val_main_v23_apply]
  refine Finset.sum_congr rfl fun k _ => ?_
  rw [val_main_v19_apply]
  have e1 : lidx_main_v23 (idx_main_v24 (ix3 e n f)) k = ix3 e k f := by funext a; fin_cases a <;> rfl
  have e2 : ridx_main_v23 (idx_main_v24 (ix3 e n f)) k = ix2 n k := by funext a; fin_cases a <;> rfl
  rw [e1, e2]
  exact mul_comm (x4 (ix3 e k f) : EReal) (x2 (ix2 n k) : EReal)

theorem one_f32 : Ideal.ofBits .f32 0x3F800000#32 = (1 : EReal) := by
  have : Ideal.ofBits .f32 0x3F800000#32 = ((1 : ℝ) : EReal) := by
    simp [Ideal.ofBits, Ideal.ieee, -EReal.coe_mul]
    norm_num
  exact this

/-- One expert on every row. -/
theorem each_apply (e : Fin 16) (n : Fin 67584) (c : Fin 1024) :
    (val_main_v27 (F := Ideal) x2 x3 x4 x5 (ix3 e n c) : EReal)
      = ffn (fun n d => (x2 (ix2 n d) : EReal)) (fun d f => (x3 (ix3 e d f) : EReal)) (fun d f => (x4 (ix3 e d f) : EReal))
          (fun f c => (x5 (ix3 e f c) : EReal)) n c := by
  rw [val_main_v27_apply]
  refine Finset.sum_congr rfl fun k _ => ?_
  have e1 : lidx_main_v27 (ix3 e n c) k = ix3 e n k := by funext a; fin_cases a <;> rfl
  have e2 : ridx_main_v27 (ix3 e n c) k = ix3 e k c := by funext a; fin_cases a <;> rfl
  rw [e1, e2, val_main_v26_apply, val_main_v25_apply, val_main_v20_apply, val_main_call0_v5_apply, val_main_call0_v4_apply,
    val_main_call0_v3_apply, val_main_call0_v2_apply, val_main_call0_v1_apply, val_main_call0_v0_apply, val_main_call0_cst_apply,
    val_main_call0_cst_0_apply]
  have g := gate_apply x2 x3 e n k
  have u := up_apply x2 x4 e n k
  show (val_main_v22 (F := Ideal) x2 x3 (ix3 e n k) : EReal)
      * Ideal.div (Ideal.ofBits .f32 0x3F800000#32) (Ideal.ofBits .f32 0x3F800000#32 + Ideal.exp (-(val_main_v22 (F := Ideal) x2 x3 (ix3 e n k) : EReal)))
      * (val_main_v24 (F := Ideal) x2 x4 (ix3 e n k) : EReal) * (x5 (ix3 e k c) : EReal) = _
  rw [g, u, one_f32]
  rfl

end

section
variable (x0 : (⟨S264, .i32⟩ : BufTy).Contents (Elt Ideal)) (x1 : (⟨S1, .i32⟩ : BufTy).Contents (Elt Ideal))

theorem ofBool_and (a b : Bool) : IntOp.andi (BitVec.ofBool a) (BitVec.ofBool b) = BitVec.ofBool (a && b) := by
  revert a b; decide

/-- The weight of an expert on a row: one for the row's own, when the row is in use. -/
theorem weight_apply (n : Fin 67584) (e : Fin 16) (hx : Routed x0 x1) :
    (val_main_v17 (F := Ideal) x0 x1 (ix2 n e) : EReal)
      = if e = expertR x0 hx.expert n ∧ (tileR n).val < (x1 (ix1 0)).toNat then 1 else 0 := by
  have hte : val_main_v11 (F := Ideal) x0 (ix2 n e) = x0 (ix1 (tileR n)) := by
    rw [val_main_v11_apply, val_main_v8_apply, val_main_v2_apply, val_main_v1_apply, val_main_v0_apply]
    exact congrArg x0 (by funext a; fin_cases a; rfl)
  have hne : val_main_v12 (F := Ideal) (ix2 n e) = BitVec.ofNat 32 e.val := by
    rw [val_main_v12_apply, val_main_v10_apply, val_main_v9_apply]
    rfl
  have hnu : val_main_v15 (F := Ideal) x1 (ix2 n e) = IntOp.cmpi .slt (BitVec.ofNat 32 n.val) (IntOp.muli (x1 (ix1 0)) 256#32) := by
    rw [val_main_v15_apply, val_main_v14_apply, val_main_v7_apply, val_main_v6_apply, val_main_v5_apply, val_main_v3_apply, val_main_c_apply]
    have : ∀ j, val_main_v4 (F := Ideal) x1 j = x1 (ix1 0) := fun j => by
      unfold val_main_v4
      exact congrArg x1 (by funext a; fin_cases a; exact Subsingleton.elim (α := Fin 1) _ _)
    rw [this]
    rfl
  rw [val_main_v17_apply, val_main_v16_apply, val_main_v13_apply, hte, hne, hnu]
  show ((((IntOp.andi (BitVec.ofBool (x0 (ix1 (tileR n)) == BitVec.ofNat 32 e.val))
    (BitVec.ofBool ((BitVec.ofNat 32 n.val).slt (x1 (ix1 0) * 256#32)))).toNat : ℝ)) : EReal) = _
  rw [ofBool_and]
  have k1 : Iff ((x0 (ix1 (tileR n)) == BitVec.ofNat 32 e.val) = true) (e = expertR x0 hx.expert n) := by
    rw [beq_iff_eq, ← BitVec.toNat_inj, BitVec.toNat_ofNat, Nat.mod_eq_of_lt (by omega), Fin.ext_iff]
    exact eq_comm
  have k2 : Iff ((BitVec.ofNat 32 n.val).slt (x1 (ix1 0) * 256#32) = true) ((tileR n).val < (x1 (ix1 0)).toNat) := by
    have h1 := hx.pos (ix1 0); have h2 := hx.le (ix1 0); have := n.isLt
    have e : (x1 (ix1 0) * 256#32).toNat = (x1 (ix1 0)).toNat * 256 := by
      rw [BitVec.toNat_mul]; exact Nat.mod_eq_of_lt (by show (x1 (ix1 0)).toNat * 256 < 2 ^ 32; omega)
    rw [BitVec.slt_iff_toInt_lt, BitVec.toInt_eq_toNat_cond, BitVec.toInt_eq_toNat_cond, e, BitVec.toNat_ofNat, Nat.mod_eq_of_lt (by omega)]
    show Iff _ (n.val / 256 < _)
    split <;> split <;> omega
  simp only [← k1, ← k2]
  generalize (x0 (ix1 (tileR n)) == BitVec.ofNat 32 e.val) = a
  generalize (BitVec.ofNat 32 n.val).slt (x1 (ix1 0) * 256#32) = b
  cases a <;> cases b <;> simp

/-- The experts' feed-forward. -/
def spec (x2 : (⟨S67584x1024, .f32⟩ : BufTy).Contents (Elt Ideal)) (x3 x4 : (⟨S16x1024x2816, .bf16⟩ : BufTy).Contents (Elt Ideal))
    (x5 : (⟨S16x2816x1024, .bf16⟩ : BufTy).Contents (Elt Ideal)) (hx : Routed x0 x1) (n : Fin 67584) (c : Fin 1024) : EReal :=
  if (tileR n).val < (x1 (ix1 0)).toNat then
    ffn (fun n d => (x2 (ix2 n d) : EReal)) (fun d f => (x3 (ix3 (expertR x0 hx.expert n) d f) : EReal))
      (fun d f => (x4 (ix3 (expertR x0 hx.expert n) d f) : EReal)) (fun f c => (x5 (ix3 (expertR x0 hx.expert n) f c) : EReal)) n c
  else 0

theorem reference_apply (x2 : (⟨S67584x1024, .f32⟩ : BufTy).Contents (Elt Ideal)) (x3 x4 : (⟨S16x1024x2816, .bf16⟩ : BufTy).Contents (Elt Ideal))
    (x5 : (⟨S16x2816x1024, .bf16⟩ : BufTy).Contents (Elt Ideal)) (hx : Routed x0 x1) (n : Fin 67584) (c : Fin 1024) :
    (val_main_v28 (F := Ideal) x0 x1 x2 x3 x4 x5 (ix2 n c) : EReal) = spec x0 x1 x2 x3 x4 x5 hx n c := by
  rw [val_main_v28_apply]
  have e1 : ∀ k : Fin 16, lidx_main_v28 (ix2 n c) k = ix2 n k := fun k => by funext a; fin_cases a <;> rfl
  have e2 : ∀ k : Fin 16, ridx_main_v28 (ix2 n c) k = ix3 k n c := fun k => by funext a; fin_cases a <;> rfl
  have term : ∀ k : Fin 16, (val_main_v17 (F := Ideal) x0 x1 (lidx_main_v28 (ix2 n c) k) : EReal) * (val_main_v27 (F := Ideal) x2 x3 x4 x5 (ridx_main_v28 (ix2 n c) k) : EReal)
      = if k = expertR x0 hx.expert n then spec x0 x1 x2 x3 x4 x5 hx n c else 0 := fun k => by
    rw [e1, e2, weight_apply x0 x1 n k hx, each_apply]
    unfold spec
    by_cases hk : k = expertR x0 hx.expert n
    · subst hk
      by_cases hn : (tileR n).val < (x1 (ix1 0)).toNat
      · simp [hn]
      · simp [hn]
    · simp [hk]
  refine (Finset.sum_congr rfl fun k _ => term k).trans ?_
  rw [Finset.sum_ite_eq' Finset.univ (expertR x0 hx.expert n)]
  simp

end

end Cert.LastExperts

end
-- ==== Proof.LastExpertsVec.lean ====
/-
  ExpertsVec for the sizes of layer 3, whose experts see the latents only: 67584 rows in 264 tiles.

  What one grid point of the experts' call leaves in the result's block, as a term of the blocks it is given.
-/
module

public import proofs.«01_k».proof.Proof.LastExpertsIdealOk
public import proofs.«01_k».proof.Proof.LastExpertsSpec
public import proofs.«01_k».proof.Proof.LastExpertsRef
public import Idealize.ShloMosaic.Lib.Pipeline.ValueKit.Tiles

@[expose] public section

set_option maxRecDepth 16384

noncomputable section

namespace Cert.LastExpertsIdeal.Gen

open Cert.LastExpertsIdeal Idealize.ShloMosaic Idealize.ShloMosaic.TcCoe Idealize.SL.Sem
open Idealize.ShloMosaic.Pipeline (Dat)
open Cert.LastExperts

section
variable {F : FTy → Type} [FloatOps F]
variable (m : (ℓ : Loc nD τ sig) → Buf (Elt F) ℓ)

/-- The word the body reads is the table's. -/
theorem usedWord_eq (c : Dev nD) : usedWord (F := F) c (tbl m 1) = nuW (tbl m) (ix1 0) :=
  congrArg (nuW (tbl m)) (one_idx _)

/-- A tile in use leaves the feed-forward of its blocks. -/
theorem out_A (c : Dev nD) (i : grid0.Coords) (arg3 : Memref sig .tc .vmem S256x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S256x1024 .f32) (harg7 : arg7.IsWhole)
    (x0 : Vec F S256x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1) (k0_h1 : k0_cond1 i (View.readAt (Elt F) (tbM0_1).view (Rect.unit (s := S1) ![0] S1.size inb_S1_S1_0).toLoadRect xt1 (Shape.Idx.first (numel1_S1.symm ▸ Nat.one_pos))) = 1#1) (k0_h2 : ¬(k0_cond2 i (View.readAt (Elt F) (tbM0_1).view (Rect.unit (s := S1) ![0] S1.size inb_S1_S1_0).toLoadRect xt1 (Shape.Idx.first (numel1_S1.symm ▸ Nat.one_pos))) = 1#1)) :
    out0_A_4 c i arg3 harg3 arg4 harg4 arg5 harg5 arg6 harg6 arg7 harg7 x0 x1 x2 x3 xt0 xt1 k0_h1 k0_h2 = k0_pay1 (F := F) x0 x1 x2 x3 := by
  unfold out0_A_4
  rw [View.read_writes_eq_canon _ _ _ (cover0_A_4 c i arg3 harg3 arg4 harg4 arg5 harg5 arg6 harg6 arg7 harg7 x0 x1 x2 x3 xt0 xt1 k0_h1 k0_h2)]
  unfold kernelRun0_A
  dsimp only
  sl_unfold_words
  simp only [View.readAt_eq_ld, harg3.read_unread, harg4.read_unread, harg5.read_unread, harg6.read_unread]
  refine (View.canon_unit_zero (by funext a; fin_cases a <;> rfl) _ _).trans ?_
  congr 1
  · exact View.ld_unit_zero (by funext a; fin_cases a <;> rfl) _ _
  · exact View.ld_unit_zero (by funext a; fin_cases a <;> rfl) _ _
  · exact View.ld_unit_zero (by funext a; fin_cases a <;> rfl) _ _
  · exact View.ld_unit_zero (by funext a; fin_cases a <;> rfl) _ _

/-- A tile past those in use leaves zeros. -/
theorem out_B (c : Dev nD) (i : grid0.Coords) (arg3 : Memref sig .tc .vmem S256x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S256x1024 .f32) (harg7 : arg7.IsWhole)
    (x0 : Vec F S256x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1) (k0_h1 : ¬(k0_cond1 i (View.readAt (Elt F) (tbM0_1).view (Rect.unit (s := S1) ![0] S1.size inb_S1_S1_0).toLoadRect xt1 (Shape.Idx.first (numel1_S1.symm ▸ Nat.one_pos))) = 1#1)) (k0_h2 : k0_cond2 i (View.readAt (Elt F) (tbM0_1).view (Rect.unit (s := S1) ![0] S1.size inb_S1_S1_0).toLoadRect xt1 (Shape.Idx.first (numel1_S1.symm ▸ Nat.one_pos))) = 1#1) :
    out0_B_4 c i arg3 harg3 arg4 harg4 arg5 harg5 arg6 harg6 arg7 harg7 x0 x1 x2 x3 xt0 xt1 k0_h1 k0_h2 = k0_pay2 (F := F) := by
  unfold out0_B_4
  rw [View.read_writes_eq_canon _ _ _ (cover0_B_4 c i arg3 harg3 arg4 harg4 arg5 harg5 arg6 harg6 arg7 harg7 x0 x1 x2 x3 xt0 xt1 k0_h1 k0_h2)]
  unfold kernelRun0_B
  dsimp only
  sl_unfold_words
  exact View.canon_unit_zero (by funext a; fin_cases a <;> rfl) _ _

theorem outs_used (hO : Ok m) (c : Dev nD) (t : Fin (cfgM m hO).N) (h : used m hO c t) :
    outsAt0 m hO c t = k0_pay1 (F := F) (iblk m hO c 0 t) (iblk m hO c 1 t) (iblk m hO c 2 t) (iblk m hO c 3 t) :=
  (dif_pos h).trans (out_A _ _ _ _ _ _ _ _ _ _ _ _ _ _ _ _ _ _ _ _)

theorem outs_unused (hO : Ok m) (c : Dev nD) (t : Fin (cfgM m hO).N) (h : ¬ used m hO c t) :
    outsAt0 m hO c t = k0_pay2 (F := F) :=
  (dif_neg h).trans (out_B _ _ _ _ _ _ _ _ _ _ _ _ _ _ _ _ _ _ _ _)

theorem used_iff (hO : Ok m) (hR : Routed (teW (tbl m)) (nuW (tbl m))) (c : Dev nD) (t : Fin (cfgM m hO).N) :
    Iff (used m hO c t) ((grid0.coords t 0).val < (nuW (tbl m) (ix1 0)).toNat) := by
  unfold used
  rw [usedWord_eq]
  exact cond1_iff (grid0.coords t) _ (hR.pos _) (hR.le _)

/-! ## The blocks -/

theorem iblk0_apply (hO : Ok m) (hR : Routed (teW (tbl m)) (nuW (tbl m))) (c : Dev nD) (t : Fin (cfgM m hO).N) (r : Fin 256) (d : Fin 1024) (n : Fin 67584)
    (hn : n.val = min (grid0.coords t 0).val ((nuW (tbl m) (ix1 0)).toNat - 1) * 256 + r.val) :
    iblk m hO c 0 t (ix2 r d) = (m ((c : Thread nD τ).loc main_arg2) : S67584x1024.Idx → Elt F .f32) (ix2 n d) := by
  have e := row0 (tbl m) hR (grid0.coords t)
  refine congrArg (m ((c : Thread nD τ).loc main_arg2) : S67584x1024.Idx → Elt F .f32) (funext fun a => Fin.ext ?_)
  fin_cases a
  · show cc0_transform_0 inb_S1_S1_0 numel1_S1 (tbl m) (grid0.coords t) 0 * 256 + 1 * r.val = n.val
    rw [e, hn, Nat.one_mul]; rfl
  · show cc0_transform_0 inb_S1_S1_0 numel1_S1 (tbl m) (grid0.coords t) 1 * 1024 + 1 * d.val = d.val
    rw [e, Nat.one_mul]; exact Nat.zero_add _

theorem iblk1_apply (hO : Ok m) (c : Dev nD) (t : Fin (cfgM m hO).N) (d : Fin 1024) (f : Fin 2816) (e : Fin 16)
    (he : e.val = (teW (tbl m) (ix1 (tileOf (grid0.coords t)))).toNat) :
    iblk m hO c 1 t (ix3 0 d f) = (m ((c : Thread nD τ).loc main_arg3) : S16x1024x2816.Idx → Elt F .bf16) (ix3 e d f) := by
  have h := row1 (tbl m) (grid0.coords t)
  refine congrArg (m ((c : Thread nD τ).loc main_arg3) : S16x1024x2816.Idx → Elt F .bf16) (funext fun a => Fin.ext ?_)
  fin_cases a
  · show cc0_transform_1 k0_off1_inb numel1_S1 (tbl m) (grid0.coords t) 0 * 1 + 1 * 0 = e.val
    rw [h, he]; exact Nat.mul_one _
  · show cc0_transform_1 k0_off1_inb numel1_S1 (tbl m) (grid0.coords t) 1 * 1024 + 1 * d.val = d.val
    rw [h, Nat.one_mul]; exact Nat.zero_add _
  · show cc0_transform_1 k0_off1_inb numel1_S1 (tbl m) (grid0.coords t) 2 * 2816 + 1 * f.val = f.val
    rw [h, Nat.one_mul]; exact Nat.zero_add _

theorem iblk2_apply (hO : Ok m) (c : Dev nD) (t : Fin (cfgM m hO).N) (d : Fin 1024) (f : Fin 2816) (e : Fin 16)
    (he : e.val = (teW (tbl m) (ix1 (tileOf (grid0.coords t)))).toNat) :
    iblk m hO c 2 t (ix3 0 d f) = (m ((c : Thread nD τ).loc main_arg4) : S16x1024x2816.Idx → Elt F .bf16) (ix3 e d f) := by
  have h := row2 (tbl m) (grid0.coords t)
  refine congrArg (m ((c : Thread nD τ).loc main_arg4) : S16x1024x2816.Idx → Elt F .bf16) (funext fun a => Fin.ext ?_)
  fin_cases a
  · show cc0_transform_2 k0_off1_inb numel1_S1 (tbl m) (grid0.coords t) 0 * 1 + 1 * 0 = e.val
    rw [h, he]; exact Nat.mul_one _
  · show cc0_transform_2 k0_off1_inb numel1_S1 (tbl m) (grid0.coords t) 1 * 1024 + 1 * d.val = d.val
    rw [h, Nat.one_mul]; exact Nat.zero_add _
  · show cc0_transform_2 k0_off1_inb numel1_S1 (tbl m) (grid0.coords t) 2 * 2816 + 1 * f.val = f.val
    rw [h, Nat.one_mul]; exact Nat.zero_add _

theorem iblk3_apply (hO : Ok m) (c : Dev nD) (t : Fin (cfgM m hO).N) (f : Fin 2816) (d : Fin 1024) (e : Fin 16)
    (he : e.val = (teW (tbl m) (ix1 (tileOf (grid0.coords t)))).toNat) :
    iblk m hO c 3 t (ix3 0 f d) = (m ((c : Thread nD τ).loc main_arg5) : S16x2816x1024.Idx → Elt F .bf16) (ix3 e f d) := by
  have h := row3 (tbl m) (grid0.coords t)
  refine congrArg (m ((c : Thread nD τ).loc main_arg5) : S16x2816x1024.Idx → Elt F .bf16) (funext fun a => Fin.ext ?_)
  fin_cases a
  · show cc0_transform_3 k0_off1_inb numel1_S1 (tbl m) (grid0.coords t) 0 * 1 + 1 * 0 = e.val
    rw [h, he]; exact Nat.mul_one _
  · show cc0_transform_3 k0_off1_inb numel1_S1 (tbl m) (grid0.coords t) 1 * 2816 + 1 * f.val = f.val
    rw [h, Nat.one_mul]; exact Nat.zero_add _
  · show cc0_transform_3 k0_off1_inb numel1_S1 (tbl m) (grid0.coords t) 2 * 1024 + 1 * d.val = d.val
    rw [h, Nat.one_mul]; exact Nat.zero_add _

end

end Cert.LastExpertsIdeal.Gen

end
-- ==== Proof.LastExpertsWhole.lean ====
/-
  ExpertsWhole for the sizes of layer 3, whose experts see the latents only: 67584 rows in 264 tiles.

  The experts' result array: tile by tile, and the whole of it the feed-forward of Proof/LastExpertsRef.lean.
-/
module

public import proofs.«01_k».proof.Proof.LastExpertsVec
public import Idealize.ShloMosaic.Lib.Pipeline.ValueKit.Geometry

@[expose] public section

set_option maxRecDepth 16384

noncomputable section

namespace Cert.LastExpertsIdeal.Gen

open Cert.LastExpertsIdeal Idealize.ShloMosaic Idealize.ShloMosaic.TcCoe Idealize.SL.Sem
open Idealize.ShloMosaic.Pipeline (Dat)
open Cert.LastExperts

variable (m : (ℓ : Loc nD τ sig) → Buf (Elt Ideal) ℓ)

/-- The feed-forward of one row depends on that row only. -/
theorem ffn_congr {R R' : ℕ} {x : Fin R → Fin 1024 → EReal} {x' : Fin R' → Fin 1024 → EReal} {wg wg' wu wu' : Fin 1024 → Fin 2816 → EReal}
    {wd wd' : Fin 2816 → Fin 1024 → EReal} {r : Fin R} {r' : Fin R'} {d : Fin 1024} (hx : ∀ k, x r k = x' r' k) (hg : ∀ k f, wg k f = wg' k f)
    (hu : ∀ k f, wu k f = wu' k f) (hd : ∀ f, wd f d = wd' f d) : ffn x wg wu wd r d = ffn x' wg' wu' wd' r' d := by
  unfold ffn proj
  simp only [hx, hg, hu, hd]

/-- The grid's point is the tile. -/
theorem coords_tile (t : Fin grid0.N) : (grid0.coords t 0).val = t.val :=
  (Pipeline.Grid.coords_val t 0 (S := 1) (B := 264) (by decide) rfl).trans (by
    have : t.val < 264 := t.isLt
    rw [Nat.div_one, Nat.mod_eq_of_lt this])

/-- The feed-forward of the arguments `m` has on device `c`. -/
def ffnAt (hR : Routed (teW (tbl m)) (nuW (tbl m))) (c : Dev nD) : S67584x1024.Idx → EReal := fun y =>
  spec (teW (tbl m)) (nuW (tbl m)) (m ((c : Thread nD τ).loc main_arg2)) (m ((c : Thread nD τ).loc main_arg3)) (m ((c : Thread nD τ).loc main_arg4))
    (m ((c : Thread nD τ).loc main_arg5)) hR (y 0) (y 1)

theorem tile_emb (hO : Ok m) (t : Fin (cfgM m hO).N) (r : Fin 256) (d : Fin 1024) (n : Fin 67584) (hn : n.val = t.val * 256 + r.val) :
    (((cfgM m hO).win 4).blk t).view.emb (ix2 r d) = (ix2 n d : S67584x1024.Idx) := by
  funext a
  refine Fin.ext ?_
  fin_cases a
  · show (BitVec.ofNat 32 (grid0.coords t 0).val).toNat * 256 + 1 * r.val = n.val
    have h1 := coords_tile t
    have h2 := off1 (grid0.coords t)
    rw [show (BitVec.ofNat 32 (grid0.coords t 0).val).toNat = (grid0.coords t 0).val from h2, h1, hn, Nat.one_mul]
  · show 0 * 1024 + 1 * d.val = d.val
    omega

theorem block_apply (hO : Ok m) (hR : Routed (teW (tbl m)) (nuW (tbl m))) (c : Dev nD) (t : Fin (cfgM m hO).N) (r : Fin 256) (d : Fin 1024)
    (n : Fin 67584) (hn : n.val = t.val * 256 + r.val) :
    (outsAt0 m hO c t (ix2 r d) : EReal) = ffnAt m hR c (ix2 n d) := by
  have ht : (grid0.coords t 0).val = t.val := coords_tile t
  have hr := r.isLt
  have htile : tileR n = tileOf (grid0.coords t) := Fin.ext (by show n.val / 256 = (grid0.coords t 0).val; omega)
  show _ = spec _ _ _ _ _ _ hR n d
  unfold spec
  by_cases h : used m hO c t
  · have hu := (used_iff m hO hR c t).mp h
    refine (congrFun (outs_used m hO c t h) _).trans ((pay1_apply _ _ _ _ r d).trans ?_)
    rw [if_pos (by rw [htile]; exact hu)]
    have he : (expertR (teW (tbl m)) hR.expert n).val = (teW (tbl m) (ix1 (tileOf (grid0.coords t)))).toNat := by
      show (teW (tbl m) (ix1 (tileR n))).toNat = _
      rw [htile]
    exact ffn_congr (fun k => iblk0_apply m hO hR c t r k n (by rw [hn, ht]; omega)) (fun k f => iblk1_apply m hO c t k f _ he)
      (fun k f => iblk2_apply m hO c t k f _ he) (fun f => iblk3_apply m hO c t f d _ he)
  · have hu := fun hh => h ((used_iff m hO hR c t).mpr hh)
    refine (congrFun (outs_unused m hO c t h) _).trans ((pay2_apply r d).trans ?_)
    rw [if_neg (by rw [htile]; exact hu)]

/-- Every entry lies in its tile's block. -/
theorem covered (hO : Ok m) (i : S67584x1024.Idx) :
    ∃ t : Fin (cfgM m hO).N, ((cfgM m hO).win 4).flush t = true ∧ i ∈ (((cfgM m hO).win 4).blk t).view.set := by
  have hi : (i 0).val < 67584 := (i 0).isLt
  have hq : (i 0).val / 256 < 264 := by omega
  let t : Fin (cfgM m hO).N := (⟨(i 0).val / 256, hq⟩ : Fin 264)
  refine ⟨t, flush0_4 _ _, ?_⟩
  have e := (tile_emb m hO t ⟨(i 0).val % 256, by omega⟩ (i 1) (i 0)
    (by show (i 0).val = (i 0).val / 256 * 256 + (i 0).val % 256; omega)).trans (eq_ix2 i).symm
  have k := (((cfgM m hO).win 4).blk t).view.emb_mem_set (ix2 (⟨(i 0).val % 256, by omega⟩ : Fin 256) (i 1))
  exact e ▸ k

/-- Tile `t`'s block holds its part of the feed-forward. -/
theorem part (hO : Ok m) (hR : Routed (teW (tbl m)) (nuW (tbl m))) (c : Dev nD) (t : Fin (cfgM m hO).N) (y : S256x1024.Idx) :
    (outsAt0 m hO c t y : EReal) = ffnAt m hR c ((((cfgM m hO).win 4).blk t).view.emb y) := by
  obtain ⟨r, d, rfl⟩ : ∃ (r : Fin 256) (d : Fin 1024), y = ix2 r d := ⟨y 0, y 1, eq_ix2 y⟩
  have ht : t.val < 264 := t.isLt
  have hr := r.isLt
  have e := tile_emb m hO t r d ⟨t.val * 256 + r.val, by omega⟩ rfl
  exact (block_apply m hO hR c t r d ⟨t.val * 256 + r.val, by omega⟩ rfl).trans (congrArg (ffnAt m hR c) e).symm

/-- The call's result array. -/
theorem result_eq (hO : Ok m) (hR : Routed (teW (tbl m)) (nuW (tbl m))) (c : Dev nD) : (dats m hO 0 c).arrAt 4 (cfgM m hO).N = ffnAt m hR c :=
  (dats m hO 0 c).arrAt_eq_of_emb 4 _ (fun t _ y => part m hO hR c t y) (covered m hO)

end Cert.LastExpertsIdeal.Gen

end
-- ==== Proof.LastExpertsEqual.lean ====
/-
  ExpertsEqual for the sizes of layer 3, whose experts see the latents only: 67584 rows in 264 tiles.

  The experts' claims: under the precondition both programs run, and over the real numbers the two results are the
  feed-forward of Proof/LastExpertsRef.lean.
-/
module

public import proofs.«01_k».proof.Defs
public import proofs.«01_k».proof.Proof.LastExpertsFrame
public import proofs.«01_k».proof.Proof.LastExpertsOk
public import proofs.«01_k».proof.Proof.LastExpertsWhole
public import proofs.«01_k».proof.Proof.Gen.LastExpertsReferenceIdeal
public import proofs.«01_k».proof.Proof.Gen.LastExpertsReferenceIdeal.Run
public import proofs.«01_k».proof.Proof.Gen.LastExpertsReferenceIdeal.Read
public import Idealize.ShloMosaic.Adequacy
public import Idealize.ShloMosaic.Init

@[expose] public section

noncomputable section

namespace Cert.LastExperts

open Idealize.ShloMosaic Idealize.SL.Sem

/-- The tables of arguments the precondition admits are a routing. -/
theorem routed_bits (m : (ℓ : Loc Cert.LastExperts.nD Cert.LastExperts.τ Cert.LastExperts.sig) → Buf (Elt Bits) ℓ)
    (h : Cert.Pre_LastExperts (hPre_last_routed := preFacts) m) : Routed (Cert.LastExperts.Gen.teW (Cert.LastExperts.Gen.tbl m)) (Cert.LastExperts.Gen.nuW (Cert.LastExperts.Gen.tbl m)) :=
  routed_of _ _ _ _ _ _ (h 0)

theorem routed_ideal (m : (ℓ : Loc Cert.LastExpertsIdeal.nD Cert.LastExpertsIdeal.τ Cert.LastExpertsIdeal.sig) → Buf (Elt Ideal) ℓ)
    (h : Cert.Pre_LastExpertsIdeal (hPre_last_routed := preFacts) m) : Routed (Cert.LastExpertsIdeal.Gen.teW (Cert.LastExpertsIdeal.Gen.tbl m)) (Cert.LastExpertsIdeal.Gen.nuW (Cert.LastExpertsIdeal.Gen.tbl m)) :=
  routed_of _ _ _ _ _ _ (h 0)

/-- The experts' kernel leaves its arguments and its semaphores. -/
theorem kernel_frame : Cert.quiescent_LastExperts (hLastExperts := Cert.LastExperts.Gen.facts) (hPre_last_routed := preFacts) := fun m g h =>
  Cert.LastExperts.Gen.frame m g (Cert.LastExperts.Gen.ok0_of _ (routed_bits m h))

/-- So does the kernel over the real numbers. -/
theorem ideal_frame : Cert.quiescent_LastExpertsIdeal (hLastExpertsIdeal := Cert.LastExpertsIdeal.Gen.facts) (hPre_last_routed := preFacts) := fun m g h =>
  Cert.LastExpertsIdeal.Gen.frame m g (Cert.LastExpertsIdeal.Gen.ok0_of _ (routed_ideal m h))

/-- And the reference. -/
theorem reference_frame : Cert.quiescent_LastExpertsReferenceIdeal (hLastExpertsReferenceIdeal := Cert.LastExpertsReferenceIdeal.Gen.facts) := fun m g _ =>
  (θ_run Cert.LastExpertsReferenceIdeal.defs _ _).mono (fun r h => ⟨fun c => (h c).2, sem_eq_zero_of_no_sems (by decide) r.2⟩)
    (Cert.LastExpertsReferenceIdeal.Value.run (F := Ideal) m g)

/-- The reference's result is the specification, entry by entry. -/
theorem reference_eq (x0 : (⟨Cert.LastExpertsReferenceIdeal.S264, .i32⟩ : BufTy).Contents (Elt Ideal)) (x1 : (⟨Cert.LastExpertsReferenceIdeal.S1, .i32⟩ : BufTy).Contents (Elt Ideal))
    (x2 : (⟨Cert.LastExpertsReferenceIdeal.S67584x1024, .f32⟩ : BufTy).Contents (Elt Ideal)) (x3 x4 : (⟨Cert.LastExpertsReferenceIdeal.S16x1024x2816, .bf16⟩ : BufTy).Contents (Elt Ideal))
    (x5 : (⟨Cert.LastExpertsReferenceIdeal.S16x2816x1024, .bf16⟩ : BufTy).Contents (Elt Ideal)) (hx : Routed x0 x1) :
    Cert.LastExpertsReferenceIdeal.Read.val_main_v28 (F := Ideal) x0 x1 x2 x3 x4 x5
      = (fun y : Cert.LastExpertsReferenceIdeal.S67584x1024.Idx => spec x0 x1 x2 x3 x4 x5 hx (y 0) (y 1)) := by
  funext y
  exact (congrArg _ (eq_ix2 y)).trans (reference_apply x0 x1 x2 x3 x4 x5 hx (y 0) (y 1))

/-- The reference's result from agreeing arguments. -/
theorem reference_result (m : (ℓ : Loc Cert.LastExpertsIdeal.nD Cert.LastExpertsIdeal.τ Cert.LastExpertsIdeal.sig) → Buf (Elt Ideal) ℓ)
    (c : Dev Cert.LastExpertsIdeal.nD) (hR : Routed (Cert.LastExpertsIdeal.Gen.teW (Cert.LastExpertsIdeal.Gen.tbl m)) (Cert.LastExpertsIdeal.Gen.nuW (Cert.LastExpertsIdeal.Gen.tbl m)))
    (x0 : (⟨Cert.LastExpertsReferenceIdeal.S264, .i32⟩ : BufTy).Contents (Elt Ideal)) (x1 : (⟨Cert.LastExpertsReferenceIdeal.S1, .i32⟩ : BufTy).Contents (Elt Ideal))
    (x2 : (⟨Cert.LastExpertsReferenceIdeal.S67584x1024, .f32⟩ : BufTy).Contents (Elt Ideal)) (x3 x4 : (⟨Cert.LastExpertsReferenceIdeal.S16x1024x2816, .bf16⟩ : BufTy).Contents (Elt Ideal))
    (x5 : (⟨Cert.LastExpertsReferenceIdeal.S16x2816x1024, .bf16⟩ : BufTy).Contents (Elt Ideal))
    (h : x0 = m ((c.tc : Thread Cert.LastExpertsIdeal.nD Cert.LastExpertsIdeal.τ).loc Cert.LastExpertsIdeal.main_arg0)
      ∧ x1 = m ((c.tc : Thread Cert.LastExpertsIdeal.nD Cert.LastExpertsIdeal.τ).loc Cert.LastExpertsIdeal.main_arg1)
      ∧ x2 = m ((c.tc : Thread Cert.LastExpertsIdeal.nD Cert.LastExpertsIdeal.τ).loc Cert.LastExpertsIdeal.main_arg2)
      ∧ x3 = m ((c.tc : Thread Cert.LastExpertsIdeal.nD Cert.LastExpertsIdeal.τ).loc Cert.LastExpertsIdeal.main_arg3)
      ∧ x4 = m ((c.tc : Thread Cert.LastExpertsIdeal.nD Cert.LastExpertsIdeal.τ).loc Cert.LastExpertsIdeal.main_arg4)
      ∧ x5 = m ((c.tc : Thread Cert.LastExpertsIdeal.nD Cert.LastExpertsIdeal.τ).loc Cert.LastExpertsIdeal.main_arg5)) :
    Cert.LastExpertsReferenceIdeal.Read.val_main_v28 (F := Ideal) x0 x1 x2 x3 x4 x5 = Cert.LastExpertsIdeal.Gen.ffnAt m hR c := by
  obtain ⟨h0, h1, h2, h3, h4, h5⟩ := h
  obtain rfl : c = 0 := Subsingleton.elim _ _
  subst h2 h3 h4 h5
  have e0 : x0 = Cert.LastExpertsIdeal.Gen.teW (Cert.LastExpertsIdeal.Gen.tbl m) := h0
  have e1 : x1 = Cert.LastExpertsIdeal.Gen.nuW (Cert.LastExpertsIdeal.Gen.tbl m) := h1
  subst e0 e1
  exact reference_eq _ _ _ _ _ _ hR

/-- Over the real numbers the two results are one. -/
theorem equal : Cert.algebraic_LastExpertsIdeal_LastExpertsReferenceIdeal (hLastExpertsIdeal := Cert.LastExpertsIdeal.Gen.facts)
    (hLastExpertsReferenceIdeal := Cert.LastExpertsReferenceIdeal.Gen.facts) (hPre_last_routed := preFacts) := fun m g m' g' hp ha =>
  have hR := routed_ideal m hp
  have hO : Cert.LastExpertsIdeal.Gen.Ok m := Cert.LastExpertsIdeal.Gen.ok0_of _ hR
  ⟨fun c => Cert.LastExpertsIdeal.Gen.ffnAt m hR c,
    (θ_run Cert.LastExpertsIdeal.defs _ _).mono (fun r h c => ⟨((h.2 c).1 4).trans (Cert.LastExpertsIdeal.Gen.result_eq m hO hR c), h.1 c⟩)
      (θ_run_and (Cert.LastExpertsIdeal.Gen.unchanged m g hO) (Cert.LastExpertsIdeal.Gen.run_main m g hO)),
    (θ_run Cert.LastExpertsReferenceIdeal.defs _ _).mono
      (fun r h c => ⟨(h c).1.trans ((Cert.LastExpertsReferenceIdeal.Read.val_main_v28_eq (F := Ideal) _ _ _ _ _ _).trans (reference_result m c hR _ _ _ _ _ _ (ha c))), (h c).2⟩)
      (Cert.LastExpertsReferenceIdeal.Value.run (F := Ideal) m' g')⟩

end Cert.LastExperts

end
-- ==== Proof.DenseSpec.lean ====
/-
  The dense feed-forward as a formula: a row is normalised, shifted and scaled, goes through the feed-forward, and the
  result is added to the row under a gate.
-/
module

public import proofs.«01_k».proof.Proof.Gen.DenseIdeal.Skeleton
public import proofs.«01_k».proof.Proof.ExpertsRef
public import Idealize.ShloMosaic.Lib.Pointwise

@[expose] public section

set_option maxRecDepth 16384

noncomputable section

namespace Cert.Dense

open Cert.DenseIdeal Cert.DenseIdeal.Gen Idealize.ShloMosaic
open Cert.Experts (proj silu ffn one_f32)

/-- A row normalised by the root of its mean square, with the gain, the scale and the shift. -/
def hrow (x nw sh sc : Fin 1024 → EReal) (d : Fin 1024) : EReal :=
  x d * Ideal.rsqrt (Ideal.div (∑ k : Fin 1024, x k * x k) (Ideal.ofBits .f32 0x44800000#32) + Ideal.ofBits .f32 0x358637BD#32) * nw d
    * (1 + sc d) + sh d

/-- One row's result. -/
def dense (x nw sh sc g : Fin 1024 → EReal) (wg wu : Fin 1024 → Fin 2816 → EReal) (wd : Fin 2816 → Fin 1024 → EReal) (c : Fin 1024) : EReal :=
  x c + g c * ffn (fun (_ : Fin 1) d => hrow x nw sh sc d) wg wu wd 0 c

section
variable (x : Vec Ideal S1x256x1024 .f32) (nw sc sh g : Vec Ideal S1x1024 .f32) (wg wu : Vec Ideal S1024x2816 .bf16) (wd : Vec Ideal S2816x1024 .bf16)

theorem h0_apply (r : Fin 256) (d : Fin 1024) :
    (k0_pay3 (F := Ideal) x nw sc sh (ix2 r d) : EReal)
      = hrow (fun k => (x (ix3 0 r k) : EReal)) (fun k => (nw (ix2 0 k) : EReal)) (fun k => (sh (ix2 0 k) : EReal)) (fun k => (sc (ix2 0 k) : EReal)) d := by
  pointwise [k0_pay3, k0_pay2]
  rfl

theorem h1_apply (r : Fin 256) (d : Fin 1024) :
    (k0_pay6 (F := Ideal) x nw sc sh (ix2 r d) : EReal)
      = hrow (fun k => (x (ix3 0 r k) : EReal)) (fun k => (nw (ix2 0 k) : EReal)) (fun k => (sh (ix2 0 k) : EReal)) (fun k => (sc (ix2 0 k) : EReal)) d :=
  h0_apply x nw sc sh r d

theorem h2_apply (r : Fin 256) (d : Fin 1024) :
    (k0_pay11 (F := Ideal) (k0_pay9 x) (k0_pay10 x) nw sc sh (ix2 r d) : EReal)
      = hrow (fun k => (x (ix3 0 r k) : EReal)) (fun k => (nw (ix2 0 k) : EReal)) (fun k => (sh (ix2 0 k) : EReal)) (fun k => (sc (ix2 0 k) : EReal)) d :=
  h0_apply x nw sc sh r d

theorem tail_apply (v : FVec Ideal S256x1024 .f32) (h : FVec Ideal S256x1024 .bf16) (r : Fin 256) (c : Fin 1024) :
    (k0_pay4 (F := Ideal) v h g wg wu wd (ix3 0 r c) : EReal)
      = (v (ix2 r c) : EReal) + (g (ix2 0 c) : EReal) * ffn (fun r d => (h (ix2 r d) : EReal)) (fun d f => (wg (ix2 d f) : EReal)) (fun d f => (wu (ix2 d f) : EReal))
          (fun f c => (wd (ix2 f c) : EReal)) r c := by
  pointwise [k0_pay4]
  simp only [zero_sub]
  rfl

/-- What is stored for one tile of rows. -/
def tile (r : Fin 256) (c : Fin 1024) : EReal :=
  dense (fun k => (x (ix3 0 r k) : EReal)) (fun k => (nw (ix2 0 k) : EReal)) (fun k => (sh (ix2 0 k) : EReal)) (fun k => (sc (ix2 0 k) : EReal))
    (fun k => (g (ix2 0 k) : EReal)) (fun d f => (wg (ix2 d f) : EReal)) (fun d f => (wu (ix2 d f) : EReal)) (fun f c => (wd (ix2 f c) : EReal)) c

theorem row0_apply (r : Fin 256) (d : Fin 1024) : (k0_pay2 (F := Ideal) x (ix2 r d) : EReal) = (x (ix3 0 r d) : EReal) := by
  pointwise [k0_pay2]

theorem tile0_apply (r : Fin 256) (c : Fin 1024) :
    (k0_pay4 (F := Ideal) (k0_pay2 x) (k0_pay3 x nw sc sh) g wg wu wd (ix3 0 r c) : EReal) = tile x nw sc sh g wg wu wd r c := by
  rw [tail_apply, row0_apply]
  unfold tile dense ffn proj
  simp only [h0_apply]

theorem tile1_apply (r : Fin 256) (c : Fin 1024) :
    (k0_pay8 (F := Ideal) (k0_pay5 x) (k0_pay6 x nw sc sh) g (k0_pay7 x nw sc sh wg) wu wd (ix3 0 r c) : EReal) = tile x nw sc sh g wg wu wd r c :=
  tile0_apply x nw sc sh g wg wu wd r c

theorem tile2_apply (r : Fin 256) (c : Fin 1024) :
    (k0_pay1 (F := Ideal) (k0_pay9 x) g (k0_pay12 (k0_pay9 x) (k0_pay10 x) nw sc sh wg) (k0_pay13 (k0_pay9 x) (k0_pay10 x) nw sc sh wu)
      (k0_pay14 (k0_pay9 x) (k0_pay10 x) nw sc sh wg) (k0_pay15 (F := Ideal)) wd (ix3 0 r c) : EReal) = tile x nw sc sh g wg wu wd r c :=
  tile0_apply x nw sc sh g wg wu wd r c

end

end Cert.Dense

end
-- ==== Proof.DenseVec.lean ====
/-
  What one grid point of the dense feed-forward's call leaves in the result's block, row by row.
-/
module

public import proofs.«01_k».proof.Proof.Gen.DenseIdeal.Value
public import proofs.«01_k».proof.Proof.DenseSpec
public import Idealize.ShloMosaic.Lib.Pipeline.ValueKit.Tiles
public import Idealize.ShloMosaic.Lib.Pipeline.Value

@[expose] public section

set_option maxRecDepth 16384

noncomputable section

namespace Cert.DenseIdeal.Gen

open Cert.DenseIdeal Idealize.ShloMosaic Idealize.ShloMosaic.TcCoe Idealize.SL.Sem
open Idealize.ShloMosaic.Pipeline (Dat)
open Cert.Dense

/-- Which of the two sets of shifts, scales and gates the rows of a tile take. -/
def half (j k : ℕ) : Fin 2 := if 8 ≤ 3 * j + k then 1 else 0

/-- The body's choice of it. -/
theorem half_eq (j : Fin 3) (k : Fin 3) :
    (Scalar.select (Scalar.cmpi CmpIPredicate.sge (Scalar.addi (Scalar.muli (BitVec.ofNat 32 j.val) 3#32) (BitVec.ofNat 32 k.val)) 8#32) 1#32 0#32).toNat
      = (half j.val k.val).val := by
  revert j k; decide

/-- A row of a set read through the body's view of it. -/
theorem mod_ld (arg3 : Memref sig .tc .vmem S1x2x6x1024 .f32) (harg3 : arg3.IsWhole) (x1 : Vec Ideal S1x2x6x1024 .f32) (o : ℕ) (p : Fin 2) (ho : o = p.val)
    (inb : ∀ a, (![0, o, 0, 0] : Fin 4 → ℕ) a + (![1, 1, 6, 1024] : Fin 4 → ℕ) a ≤ S1x2x6x1024.size a)
    (hq : S6x1024.numel = (⟨4, ![1, 1, 6, 1024]⟩ : Shape).numel) (q : ℕ) (row : Fin 6) (hrow : q = row.val)
    (inb' : ∀ a, (![q, 0] : Fin 2 → ℕ) a + (![1, 1024] : Fin 2 → ℕ) a ≤ S6x1024.size a) (d : Fin 1024) :
    View.ld (View.read (Elt Ideal) ((arg3.view.slice (Rect.unit (s := S1x2x6x1024) ![0, o, 0, 0] ![1, 1, 6, 1024] inb)).reshape S6x1024 hq) (harg3.unread x1))
      (Rect.unit (s := S6x1024) ![q, 0] ![1, 1024] inb') (ix2 0 d) = x1 (ix4 0 p row d) := by
  subst ho hrow
  rw [View.ld_unit_apply_of _ _ _ _ _ (ix2 row d) (fun a => by fin_cases a <;> simp)]
  have hc : (⟨4, ![1, 1, 6, 1024]⟩ : Shape).ShapeCasts S6x1024 := hq.symm
  show shapeCast S6x1024 (arg3.view.readAt (Elt Ideal) (Rect.unit (s := S1x2x6x1024) ![0, p.val, 0, 0] ![1, 1, 6, 1024] inb).toLoadRect (harg3.unread x1)) hc (ix2 row d) = _
  rw [shapeCast_apply _ hc (ix2 row d) (ix4 0 0 row d) (by simp [Shape.rowMajor_val_four, Shape.rowMajor_val_two]), View.readAt_eq_ld, harg3.read_unread]
  exact View.ld_unit_apply_of _ _ _ _ _ _ (fun a => by fin_cases a <;> simp)

/-- The rows' results from a grid point's blocks. -/
def rowAt (j : ℕ) (x0 : Vec Ideal S1x768x1024 .f32) (x1 : Vec Ideal S1x2x6x1024 .f32) (x2 : Vec Ideal S1x1024 .f32) (x3 x4 : Vec Ideal S1024x2816 .bf16)
    (x5 : Vec Ideal S2816x1024 .bf16) (y : S1x768x1024.Idx) : EReal :=
  dense (fun k => (x0 (ix3 0 (y 1) k) : EReal)) (fun k => (x2 (ix2 0 k) : EReal)) (fun k => (x1 (ix4 0 (half j ((y 1).val / 256)) 3 k) : EReal))
    (fun k => (x1 (ix4 0 (half j ((y 1).val / 256)) 4 k) : EReal)) (fun k => (x1 (ix4 0 (half j ((y 1).val / 256)) 5 k) : EReal))
    (fun d f => (x3 (ix2 d f) : EReal)) (fun d f => (x4 (ix2 d f) : EReal)) (fun f c => (x5 (ix2 f c) : EReal)) (y 2)

/-- A tile whose operands are the blocks' is the rows' results. -/
theorem tile_eq (j : ℕ) (x0 : Vec Ideal S1x768x1024 .f32) (x1 : Vec Ideal S1x2x6x1024 .f32) (x2 : Vec Ideal S1x1024 .f32) (x3 x4 : Vec Ideal S1024x2816 .bf16)
    (x5 : Vec Ideal S2816x1024 .bf16) (k : ℕ) (hk : k < 3) (x : Vec Ideal S1x256x1024 .f32) (nw sc sh g : Vec Ideal S1x1024 .f32)
    (wg wu : Vec Ideal S1024x2816 .bf16) (wd : Vec Ideal S2816x1024 .bf16) (r : Fin 256) (c : Fin 1024) (y : S1x768x1024.Idx)
    (hy : (y 1).val = 256 * k + r.val) (hc : (y 2).val = c.val)
    (hx : ∀ d, x (ix3 0 r d) = x0 (ix3 0 (y 1) d)) (hn : ∀ d, nw (ix2 0 d) = x2 (ix2 0 d)) (hsc : ∀ d, sc (ix2 0 d) = x1 (ix4 0 (half j k) 4 d))
    (hsh : ∀ d, sh (ix2 0 d) = x1 (ix4 0 (half j k) 3 d)) (hg : ∀ d, g (ix2 0 d) = x1 (ix4 0 (half j k) 5 d))
    (h3 : wg = x3) (h4 : wu = x4) (h5 : wd = x5) : tile x nw sc sh g wg wu wd r c = rowAt j x0 x1 x2 x3 x4 x5 y := by
  subst h3 h4 h5
  have hr := r.isLt
  have e1 : (y 1).val / 256 = k := by omega
  obtain rfl : y 2 = c := Fin.ext hc
  unfold tile rowAt
  simp only [hx, hn, hsc, hsh, hg, e1]

/-- A grid point leaves the rows' results. -/
theorem out_A (c : Dev nD) (i : grid0.Coords) (arg2 : Memref sig .tc .vmem S1x768x1024 .f32) (harg2 : arg2.IsWhole) (arg3 : Memref sig .tc .vmem S1x2x6x1024 .f32) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S1024x2816 .bf16) (harg6 : arg6.IsWhole) (arg7 : Memref sig .tc .vmem S2816x1024 .bf16) (harg7 : arg7.IsWhole) (arg8 : Memref sig .tc .vmem S1x768x1024 .f32) (harg8 : arg8.IsWhole)
    (x0 : Vec Ideal S1x768x1024 .f32) (x1 : Vec Ideal S1x2x6x1024 .f32) (x2 : Vec Ideal S1x1024 .f32) (x3 : Vec Ideal S1024x2816 .bf16) (x4 : Vec Ideal S1024x2816 .bf16) (x5 : Vec Ideal S2816x1024 .bf16) (y : S1x768x1024.Idx) :
    out0_A_6 (F := Ideal) c i arg2 harg2 arg3 harg3 arg4 harg4 arg5 harg5 arg6 harg6 arg7 harg7 arg8 harg8 x0 x1 x2 x3 x4 x5 y = rowAt (i 1).val x0 x1 x2 x3 x4 x5 y := by
  unfold out0_A_6
  rw [View.read_writes_eq_canon _ _ _ (cover0_A_6 c i arg2 harg2 arg3 harg3 arg4 harg4 arg5 harg5 arg6 harg6 arg7 harg7 arg8 harg8 x0 x1 x2 x3 x4 x5)]
  refine View.canon_apply_of_pieces (Val := Elt Ideal) (e := .f32) (rowAt (i 1).val x0 x1 x2 x3 x4 x5) _ ?_ y
    (cover0_A_6 c i arg2 harg2 arg3 harg3 arg4 harg4 arg5 harg5 arg6 harg6 arg7 harg7 arg8 harg8 x0 x1 x2 x3 x4 x5 y)
  unfold kernelRun0_A
  dsimp only
  sl_unfold_words
  simp only [View.readAt_eq_ld, harg2.read_unread, harg4.read_unread, harg5.read_unread, harg6.read_unread, harg7.read_unread]
  intro p hp x
  simp only [List.mem_cons, List.not_mem_nil, or_false] at hp
  rcases hp with rfl | rfl | rfl
  · obtain ⟨z, r, d, rfl⟩ : ∃ (z : Fin 1) (r : Fin 256) (d : Fin 1024), x = ix3 z r d := ⟨x 0, x 1, x 2, eq_ix3 x⟩
    obtain rfl : z = 0 := Subsingleton.elim _ _
    refine (tile2_apply _ _ _ _ _ _ _ _ r d).trans ?_
    refine tile_eq (i 1).val x0 x1 x2 x3 x4 x5 2 (by decide) _ _ _ _ _ _ _ _ r d _ ?_ ?_ ?_ ?_ ?_ ?_ ?_ ?_ ?_ ?_
    · show 512 + 1 * r.val = _
      omega
    · show 0 + 1 * d.val = _
      omega
    · intro k
      exact View.ld_unit_apply_of _ _ _ _ _ _ (fun a => by fin_cases a <;> simp <;> rfl)
    · intro k
      exact View.ld_unit_apply_of _ _ _ _ _ _ (fun a => by fin_cases a <;> simp)
    · exact mod_ld arg3 harg3 x1 _ (half (i 1).val 2) (half_eq (i 1) 2) _ _ _ (4 : Fin 6) rfl _
    · exact mod_ld arg3 harg3 x1 _ (half (i 1).val 2) (half_eq (i 1) 2) _ _ _ (3 : Fin 6) rfl _
    · exact mod_ld arg3 harg3 x1 _ (half (i 1).val 2) (half_eq (i 1) 2) _ _ _ (5 : Fin 6) rfl _
    · exact View.ld_unit_zero (by funext a; fin_cases a <;> rfl) _ _
    · exact View.ld_unit_zero (by funext a; fin_cases a <;> rfl) _ _
    · exact View.ld_unit_zero (by funext a; fin_cases a <;> rfl) _ _
  · obtain ⟨z, r, d, rfl⟩ : ∃ (z : Fin 1) (r : Fin 256) (d : Fin 1024), x = ix3 z r d := ⟨x 0, x 1, x 2, eq_ix3 x⟩
    obtain rfl : z = 0 := Subsingleton.elim _ _
    refine (tile1_apply _ _ _ _ _ _ _ _ r d).trans ?_
    refine tile_eq (i 1).val x0 x1 x2 x3 x4 x5 1 (by decide) _ _ _ _ _ _ _ _ r d _ ?_ ?_ ?_ ?_ ?_ ?_ ?_ ?_ ?_ ?_
    · show 256 + 1 * r.val = _
      omega
    · show 0 + 1 * d.val = _
      omega
    · intro k
      exact View.ld_unit_apply_of _ _ _ _ _ _ (fun a => by fin_cases a <;> simp <;> rfl)
    · intro k
      exact View.ld_unit_apply_of _ _ _ _ _ _ (fun a => by fin_cases a <;> simp)
    · exact mod_ld arg3 harg3 x1 _ (half (i 1).val 1) (half_eq (i 1) 1) _ _ _ (4 : Fin 6) rfl _
    · exact mod_ld arg3 harg3 x1 _ (half (i 1).val 1) (half_eq (i 1) 1) _ _ _ (3 : Fin 6) rfl _
    · exact mod_ld arg3 harg3 x1 _ (half (i 1).val 1) (half_eq (i 1) 1) _ _ _ (5 : Fin 6) rfl _
    · exact View.ld_unit_zero (by funext a; fin_cases a <;> rfl) _ _
    · exact View.ld_unit_zero (by funext a; fin_cases a <;> rfl) _ _
    · exact View.ld_unit_zero (by funext a; fin_cases a <;> rfl) _ _
  · obtain ⟨z, r, d, rfl⟩ : ∃ (z : Fin 1) (r : Fin 256) (d : Fin 1024), x = ix3 z r d := ⟨x 0, x 1, x 2, eq_ix3 x⟩
    obtain rfl : z = 0 := Subsingleton.elim _ _
    refine (tile0_apply _ _ _ _ _ _ _ _ r d).trans ?_
    refine tile_eq (i 1).val x0 x1 x2 x3 x4 x5 0 (by decide) _ _ _ _ _ _ _ _ r d _ ?_ ?_ ?_ ?_ ?_ ?_ ?_ ?_ ?_ ?_
    · show 0 + 1 * r.val = _
      omega
    · show 0 + 1 * d.val = _
      omega
    · intro k
      exact View.ld_unit_apply_of _ _ _ _ _ _ (fun a => by fin_cases a <;> simp <;> rfl)
    · intro k
      exact View.ld_unit_apply_of _ _ _ _ _ _ (fun a => by fin_cases a <;> simp)
    · exact mod_ld arg3 harg3 x1 _ (half (i 1).val 0) (half_eq (i 1) 0) _ _ _ (4 : Fin 6) rfl _
    · exact mod_ld arg3 harg3 x1 _ (half (i 1).val 0) (half_eq (i 1) 0) _ _ _ (3 : Fin 6) rfl _
    · exact mod_ld arg3 harg3 x1 _ (half (i 1).val 0) (half_eq (i 1) 0) _ _ _ (5 : Fin 6) rfl _
    · exact View.ld_unit_zero (by funext a; fin_cases a <;> rfl) _ _
    · exact View.ld_unit_zero (by funext a; fin_cases a <;> rfl) _ _
    · exact View.ld_unit_zero (by funext a; fin_cases a <;> rfl) _ _

end Cert.DenseIdeal.Gen

end
-- ==== Proof.DenseRef.lean ====
/-
  The reference's dense feed-forward read at an index.
-/
module

public import proofs.«01_k».proof.Proof.DenseSpec
public import proofs.«01_k».proof.Proof.Gen.DenseReferenceIdeal.Read

@[expose] public section

set_option maxRecDepth 16384

noncomputable section

namespace Cert.Dense

open Cert.DenseReferenceIdeal Cert.DenseReferenceIdeal.Read Idealize.ShloMosaic
open Cert.Experts (proj silu ffn one_f32)

/-- Which of the two sets of shifts, scales and gates a row takes. -/
def part (n : Fin 2304) : Fin 2 := if n.val < 2048 then 0 else 1

section
variable (x0 : (⟨S16x2304x1024, .f32⟩ : BufTy).Contents (Elt Ideal)) (x1 : (⟨S16x2x6x1024, .f32⟩ : BufTy).Contents (Elt Ideal))
  (x2 : (⟨S1024, .f32⟩ : BufTy).Contents (Elt Ideal)) (x3 x4 : (⟨S1024x2816, .f32⟩ : BufTy).Contents (Elt Ideal))
  (x5 : (⟨S2816x1024, .f32⟩ : BufTy).Contents (Elt Ideal))

theorem before (n : Fin 2304) : IntOp.cmpi .slt (BitVec.ofNat 32 n.val) 2048#32 = if n.val < 2048 then 1#1 else 0#1 := by
  have hn := n.isLt
  have : Iff ((BitVec.ofNat 32 n.val).slt 2048#32 = true) (n.val < 2048) := by
    rw [BitVec.slt_iff_toInt_lt, BitVec.toInt_eq_toNat_cond, BitVec.toInt_eq_toNat_cond, BitVec.toNat_ofNat, Nat.mod_eq_of_lt (by omega)]
    show Iff ((if 2 * n.val < 2 ^ 32 then (n.val : ℤ) else _) < (2048 : ℤ)) _
    split <;> omega
  show BitVec.ofBool ((BitVec.ofNat 32 n.val).slt 2048#32) = _
  by_cases h : n.val < 2048
  · rw [if_pos h, this.mpr h]; rfl
  · rw [if_neg h, Bool.eq_false_iff.mpr fun k => h (this.mp k)]; rfl

/-- The shift of a row. -/
theorem sh_apply (b : Fin 16) (n : Fin 2304) (d : Fin 1024) : val_main_v8 (F := Ideal) x1 (ix3 b n d) = x1 (ix4 b (part n) 3 d) := by
  have hd := d.isLt
  have hb := b.isLt
  rw [val_main_v8_apply, val_main_call0_v0_apply, val_main_call0_v1_apply, val_main_call0_v2_apply, val_main_v3_apply, val_main_v2_apply,
    val_main_v1_apply, val_main_c_apply, val_main_v0_apply, val_main_v5_apply, val_main_v4_apply, val_main_v7_apply, val_main_v6_apply]
  refine Eq.trans (congrArg (fun w => Scalar.select w _ _) (before n)) ?_
  unfold part
  by_cases h : n.val < 2048
  · rw [if_pos h, if_pos h]
    refine congrArg x1 (funext fun a => Fin.ext ?_)
    fin_cases a
    · show ((b.val * 1 + 0) * 1024 + d.val) / 1024 = b.val
      omega
    · rfl
    · rfl
    · show ((b.val * 1 + 0) * 1024 + d.val) % 1024 = d.val
      omega
  · rw [if_neg h, if_neg h]
    refine congrArg x1 (funext fun a => Fin.ext ?_)
    fin_cases a
    · show ((b.val * 1 + 0) * 1024 + d.val) / 1024 = b.val
      omega
    · rfl
    · rfl
    · show ((b.val * 1 + 0) * 1024 + d.val) % 1024 = d.val
      omega

/-- The scale. -/
theorem sc_apply (b : Fin 16) (n : Fin 2304) (d : Fin 1024) : val_main_v13 (F := Ideal) x1 (ix3 b n d) = x1 (ix4 b (part n) 4 d) := by
  have hd := d.isLt
  have hb := b.isLt
  rw [val_main_v13_apply, val_main_call1_v0_apply, val_main_call1_v1_apply, val_main_call1_v2_apply, val_main_v3_apply, val_main_v2_apply,
    val_main_v1_apply, val_main_c_apply, val_main_v0_apply, val_main_v10_apply, val_main_v9_apply, val_main_v12_apply, val_main_v11_apply]
  refine Eq.trans (congrArg (fun w => Scalar.select w _ _) (before n)) ?_
  unfold part
  by_cases h : n.val < 2048
  · rw [if_pos h, if_pos h]
    refine congrArg x1 (funext fun a => Fin.ext ?_)
    fin_cases a
    · show ((b.val * 1 + 0) * 1024 + d.val) / 1024 = b.val
      omega
    · rfl
    · rfl
    · show ((b.val * 1 + 0) * 1024 + d.val) % 1024 = d.val
      omega
  · rw [if_neg h, if_neg h]
    refine congrArg x1 (funext fun a => Fin.ext ?_)
    fin_cases a
    · show ((b.val * 1 + 0) * 1024 + d.val) / 1024 = b.val
      omega
    · rfl
    · rfl
    · show ((b.val * 1 + 0) * 1024 + d.val) % 1024 = d.val
      omega

/-- The gate. -/
theorem g_apply (b : Fin 16) (n : Fin 2304) (d : Fin 1024) : val_main_v18 (F := Ideal) x1 (ix3 b n d) = x1 (ix4 b (part n) 5 d) := by
  have hd := d.isLt
  have hb := b.isLt
  rw [val_main_v18_apply, val_main_call2_v0_apply, val_main_call2_v1_apply, val_main_call2_v2_apply, val_main_v3_apply, val_main_v2_apply,
    val_main_v1_apply, val_main_c_apply, val_main_v0_apply, val_main_v15_apply, val_main_v14_apply, val_main_v17_apply, val_main_v16_apply]
  refine Eq.trans (congrArg (fun w => Scalar.select w _ _) (before n)) ?_
  unfold part
  by_cases h : n.val < 2048
  · rw [if_pos h, if_pos h]
    refine congrArg x1 (funext fun a => Fin.ext ?_)
    fin_cases a
    · show ((b.val * 1 + 0) * 1024 + d.val) / 1024 = b.val
      omega
    · rfl
    · rfl
    · show ((b.val * 1 + 0) * 1024 + d.val) % 1024 = d.val
      omega
  · rw [if_neg h, if_neg h]
    refine congrArg x1 (funext fun a => Fin.ext ?_)
    fin_cases a
    · show ((b.val * 1 + 0) * 1024 + d.val) / 1024 = b.val
      omega
    · rfl
    · rfl
    · show ((b.val * 1 + 0) * 1024 + d.val) % 1024 = d.val
      omega

/-- The normalised row. -/
theorem h_apply (b : Fin 16) (n : Fin 2304) (d : Fin 1024) :
    (val_main_v35 (F := Ideal) x0 x1 x2 (ix3 b n d) : EReal)
      = hrow (fun k => (x0 (ix3 b n k) : EReal)) (fun k => (x2 (ix1 k) : EReal)) (fun k => (x1 (ix4 b (part n) 3 k) : EReal)) (fun k => (x1 (ix4 b (part n) 4 k) : EReal)) d := by
  rw [val_main_v35_apply, val_main_v34_apply, val_main_v31_apply, val_main_v28_apply, val_main_v33_apply, val_main_v32_apply, val_main_cst_2_apply,
    val_main_v30_apply, val_main_v29_apply, val_main_v27_apply, val_main_v26_apply, val_main_v25_apply, val_main_v24_apply, val_main_cst_1_apply,
    val_main_v23_apply, val_main_v22_apply, val_main_cst_0_apply, val_main_v21_apply, val_main_v20_apply, val_main_cst_apply, sh_apply, sc_apply]
  have e0 : ∀ k : Fin 1024, idx_main_v20 (idx_main_v21 (idx_main_v27 (ix3 b n d))) k = ix3 b n k := fun k => by funext a; fin_cases a <;> rfl
  have e1 : idx_main_v29 (idx_main_v30 (ix3 b n d)) = ix1 d := by funext a; fin_cases a; rfl
  simp only [e0, e1, val_main_v19_apply]
  show (x0 (ix3 b n d) : EReal) * Ideal.rsqrt (Ideal.div (Ideal.ofBits .f32 0x00000000#32 + ∑ k : Fin 1024, (x0 (ix3 b n k) : EReal) * (x0 (ix3 b n k) : EReal)) (Ideal.ofBits .f32 0x44800000#32)
      + Ideal.ofBits .f32 0x358637BD#32) * (x2 (ix1 d) : EReal) * (Ideal.ofBits .f32 0x3F800000#32 + (x1 (ix4 b (part n) 4 d) : EReal)) + (x1 (ix4 b (part n) 3 d) : EReal) = _
  rw [one_f32, Ideal.ofBits_zero, zero_add]
  rfl

theorem gate_dot (b : Fin 16) (n : Fin 2304) (f : Fin 2816) :
    (val_main_v36 (F := Ideal) x0 x1 x2 x3 (ix3 b n f) : EReal)
      = proj (fun (_ : Fin 1) d => (val_main_v35 (F := Ideal) x0 x1 x2 (ix3 b n d) : EReal)) (fun d f => (x3 (ix2 d f) : EReal)) 0 f := by
  rw [val_main_v36_apply]
  refine Finset.sum_congr rfl fun k _ => ?_
  have e1 : lidx_main_v36 (ix3 b n f) k = ix3 b n k := by funext a; fin_cases a <;> rfl
  have e2 : ridx_main_v36 (ix3 b n f) k = ix2 k f := by funext a; fin_cases a <;> rfl
  rw [e1, e2]

theorem up_dot (b : Fin 16) (n : Fin 2304) (f : Fin 2816) :
    (val_main_v38 (F := Ideal) x0 x1 x2 x4 (ix3 b n f) : EReal)
      = proj (fun (_ : Fin 1) d => (val_main_v35 (F := Ideal) x0 x1 x2 (ix3 b n d) : EReal)) (fun d f => (x4 (ix2 d f) : EReal)) 0 f := by
  rw [val_main_v38_apply]
  refine Finset.sum_congr rfl fun k _ => ?_
  have e1 : lidx_main_v38 (ix3 b n f) k = ix3 b n k := by funext a; fin_cases a <;> rfl
  have e2 : ridx_main_v38 (ix3 b n f) k = ix2 k f := by funext a; fin_cases a <;> rfl
  rw [e1, e2]

/-- The feed-forward of the normalised row. -/
theorem ffn_apply (b : Fin 16) (n : Fin 2304) (c : Fin 1024) :
    (val_main_v40 (F := Ideal) x0 x1 x2 x3 x4 x5 (ix3 b n c) : EReal)
      = ffn (fun (_ : Fin 1) d => (val_main_v35 (F := Ideal) x0 x1 x2 (ix3 b n d) : EReal)) (fun d f => (x3 (ix2 d f) : EReal)) (fun d f => (x4 (ix2 d f) : EReal))
          (fun f c => (x5 (ix2 f c) : EReal)) 0 c := by
  rw [val_main_v40_apply]
  refine Finset.sum_congr rfl fun k _ => ?_
  have e1 : lidx_main_v40 (ix3 b n c) k = ix3 b n k := by funext a; fin_cases a <;> rfl
  have e2 : ridx_main_v40 (ix3 b n c) k = ix2 k c := by funext a; fin_cases a <;> rfl
  rw [e1, e2, val_main_v39_apply, val_main_v37_apply, val_main_call3_v5_apply, val_main_call3_v4_apply,
    val_main_call3_v3_apply, val_main_call3_v2_apply, val_main_call3_v1_apply, val_main_call3_v0_apply, val_main_call3_cst_apply,
    val_main_call3_cst_0_apply]
  have g := gate_dot x0 x1 x2 x3 b n k
  have u := up_dot x0 x1 x2 x4 b n k
  show (val_main_v36 (F := Ideal) x0 x1 x2 x3 (ix3 b n k) : EReal)
      * Ideal.div (Ideal.ofBits .f32 0x3F800000#32) (Ideal.ofBits .f32 0x3F800000#32 + Ideal.exp (-(val_main_v36 (F := Ideal) x0 x1 x2 x3 (ix3 b n k) : EReal)))
      * (val_main_v38 (F := Ideal) x0 x1 x2 x4 (ix3 b n k) : EReal) * (x5 (ix2 k c) : EReal) = _
  rw [g, u, one_f32]
  rfl

/-- The dense feed-forward of the arguments at an index. -/
def spec (b : Fin 16) (n : Fin 2304) (c : Fin 1024) : EReal :=
  dense (fun k => (x0 (ix3 b n k) : EReal)) (fun k => (x2 (ix1 k) : EReal)) (fun k => (x1 (ix4 b (part n) 3 k) : EReal)) (fun k => (x1 (ix4 b (part n) 4 k) : EReal))
    (fun k => (x1 (ix4 b (part n) 5 k) : EReal)) (fun d f => (x3 (ix2 d f) : EReal)) (fun d f => (x4 (ix2 d f) : EReal)) (fun f c => (x5 (ix2 f c) : EReal)) c

theorem reference_apply (b : Fin 16) (n : Fin 2304) (c : Fin 1024) :
    (val_main_v42 (F := Ideal) x0 x1 x2 x3 x4 x5 (ix3 b n c) : EReal) = spec x0 x1 x2 x3 x4 x5 b n c := by
  rw [val_main_v42_apply, val_main_v41_apply, g_apply]
  have e := ffn_apply x0 x1 x2 x3 x4 x5 b n c
  simp only [h_apply] at e
  show (x0 (ix3 b n c) : EReal) + (x1 (ix4 b (part n) 5 c) : EReal) * (val_main_v40 (F := Ideal) x0 x1 x2 x3 x4 x5 (ix3 b n c) : EReal) = _
  rw [e]
  rfl

end

end Cert.Dense

end
-- ==== Proof.DenseWhole.lean ====
/-
  The dense feed-forward's result array: block by block, and the whole of it the formula of Proof/DenseRef.lean.
-/
module

public import proofs.«01_k».proof.Proof.DenseVec
public import proofs.«01_k».proof.Proof.DenseRef
public import Idealize.ShloMosaic.Lib.Pipeline.ValueKit
public import Idealize.ShloMosaic.Lib.Claim
public import Idealize.ShloMosaic.Lib.StableHlo.RunRead

@[expose] public section

set_option maxRecDepth 16384

noncomputable section

namespace Cert.DenseIdeal.Gen

open Cert.DenseIdeal Idealize.ShloMosaic Idealize.ShloMosaic.TcCoe Idealize.SL.Sem
open Cert.DenseIdeal.Facts
open Cert.Dense

variable (m : (ℓ : Loc nD τ sig) → Buf (Elt Ideal) ℓ)

/-! ## The prepared operands -/

theorem gain_entry (c : Dev nD) (d : Fin 1024) : V m c main_v0 (ix2 0 d) = (m ((c : Thread nD τ).loc main_arg2) (ix1 d) : EReal) := by
  entry_read
  pointwise []

theorem gate_entry (c : Dev nD) (d : Fin 1024) (f : Fin 2816) : V m c main_v1 (ix2 d f) = (m ((c : Thread nD τ).loc main_arg3) (ix2 d f) : EReal) := by
  entry_read
  pointwise []

theorem up_entry (c : Dev nD) (d : Fin 1024) (f : Fin 2816) : V m c main_v2 (ix2 d f) = (m ((c : Thread nD τ).loc main_arg4) (ix2 d f) : EReal) := by
  entry_read
  pointwise []

theorem down_entry (c : Dev nD) (f : Fin 2816) (d : Fin 1024) : V m c main_v3 (ix2 f d) = (m ((c : Thread nD τ).loc main_arg5) (ix2 f d) : EReal) := by
  entry_read
  pointwise []

/-! ## The blocks at a grid point -/

/-- Where each operand's block lies at grid point `t`: batch `t / 3`, rows from `768 (t % 3)`. -/
theorem idx : ∀ t : Fin cfg0.N,
    win0_0.index t = ![t.val / 3, t.val % 3, 0] ∧ win0_1.index t = ![t.val / 3, 0, 0, 0] ∧ win0_2.index t = ![0, 0] ∧ win0_3.index t = ![0, 0]
    ∧ win0_4.index t = ![0, 0] ∧ win0_5.index t = ![0, 0] ∧ win0_6.index t = ![t.val / 3, t.val % 3, 0] :=
  (by decide +kernel : ∀ t : Fin grid0.N, _)

theorem tile_of : ∀ t : Fin cfg0.N, (grid0.coords t 1).val = t.val % 3 :=
  (by decide +kernel : ∀ t : Fin grid0.N, _)

theorem batch_lt (t : Fin cfg0.N) : t.val / 3 < 16 := by
  have h := t.isLt
  have : cfg0.N = 48 := N_0
  omega

theorem blk0 (c : Dev nD) (t : Fin cfg0.N) (r : Fin 768) (k : Fin 1024) :
    iblk m c 0 t (ix3 0 r k) = (m ((c : Thread nD τ).loc main_arg0) : S16x2304x1024.Idx → Elt Ideal .f32) (ix3 ⟨t.val / 3, batch_lt t⟩ ⟨768 * (t.val % 3) + r.val, by omega⟩ k) := by
  blk_ext [iblk, V_main_arg0, idx t]

theorem blk1 (c : Dev nD) (t : Fin cfg0.N) (p : Fin 2) (q : Fin 6) (k : Fin 1024) :
    iblk m c 1 t (ix4 0 p q k) = (m ((c : Thread nD τ).loc main_arg1) : S16x2x6x1024.Idx → Elt Ideal .f32) (ix4 ⟨t.val / 3, batch_lt t⟩ p q k) := by
  blk_ext [iblk, V_main_arg1, idx t]

theorem blk2 (c : Dev nD) (t : Fin cfg0.N) (k : Fin 1024) :
    iblk m c 2 t (ix2 0 k) = (m ((c : Thread nD τ).loc main_arg2) : S1024.Idx → Elt Ideal .f32) (ix1 k) := by
  refine Eq.trans ?_ (gain_entry m c k)
  blk_ext [iblk, idx t]

theorem blk3 (c : Dev nD) (t : Fin cfg0.N) (d : Fin 1024) (f : Fin 2816) :
    iblk m c 3 t (ix2 d f) = (m ((c : Thread nD τ).loc main_arg3) : S1024x2816.Idx → Elt Ideal .f32) (ix2 d f) := by
  refine Eq.trans ?_ (gate_entry m c d f)
  blk_ext [iblk, idx t]

theorem blk4 (c : Dev nD) (t : Fin cfg0.N) (d : Fin 1024) (f : Fin 2816) :
    iblk m c 4 t (ix2 d f) = (m ((c : Thread nD τ).loc main_arg4) : S1024x2816.Idx → Elt Ideal .f32) (ix2 d f) := by
  refine Eq.trans ?_ (up_entry m c d f)
  blk_ext [iblk, idx t]

theorem blk5 (c : Dev nD) (t : Fin cfg0.N) (f : Fin 2816) (d : Fin 1024) :
    iblk m c 5 t (ix2 f d) = (m ((c : Thread nD τ).loc main_arg5) : S2816x1024.Idx → Elt Ideal .f32) (ix2 f d) := by
  refine Eq.trans ?_ (down_entry m c f d)
  blk_ext [iblk, idx t]

/-! ## The result -/

/-- The dense feed-forward of the arguments `m` has on device `c`. -/
def denseAt (c : Dev nD) : S16x2304x1024.Idx → EReal := fun y =>
  spec (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (y 0) (y 1) (y 2)

/-- One row's result depends on its operands only. -/
theorem dense_congr {x x' nw nw' sh sh' sc sc' g g' : Fin 1024 → EReal} {wg wg' wu wu' : Fin 1024 → Fin 2816 → EReal}
    {wd wd' : Fin 2816 → Fin 1024 → EReal} (c : Fin 1024) (hx : ∀ k, x k = x' k) (hn : ∀ k, nw k = nw' k) (hs : ∀ k, sh k = sh' k)
    (hc : ∀ k, sc k = sc' k) (hg : ∀ k, g k = g' k) (h3 : ∀ k f, wg k f = wg' k f) (h4 : ∀ k f, wu k f = wu' k f) (h5 : ∀ f d, wd f d = wd' f d) :
    dense x nw sh sc g wg wu wd c = dense x' nw' sh' sc' g' wg' wu' wd' c := by
  rw [funext hx, funext hn, funext hs, funext hc, funext hg, funext fun k => funext (h3 k), funext fun k => funext (h4 k), funext fun f => funext (h5 f)]

/-- The two ways of choosing the set agree. -/
theorem half_part (j : ℕ) (r : ℕ) (n : Fin 2304) (hn : n.val = 768 * j + r) (hr : r < 768) : half j (r / 256) = part n := by
  unfold half part
  by_cases h : n.val < 2048
  · rw [if_pos h, if_neg (by omega)]
  · rw [if_neg h, if_pos (by omega)]

theorem rows_at (c : Dev nD) (t : Fin cfg0.N) (r : Fin 768) (o : Fin 1024) :
    rowAt (t.val % 3) (iblk m c 0 t) (iblk m c 1 t) (iblk m c 2 t) (iblk m c 3 t) (iblk m c 4 t) (iblk m c 5 t) (ix3 0 r o)
      = denseAt m c (ix3 ⟨t.val / 3, batch_lt t⟩ ⟨768 * (t.val % 3) + r.val, by omega⟩ o) := by
  have e : half (t.val % 3) (r.val / 256) = part ⟨768 * (t.val % 3) + r.val, by omega⟩ := half_part _ _ _ rfl r.isLt
  show dense _ (fun k => (iblk m c 2 t (ix2 0 k) : EReal)) (fun k => (iblk m c 1 t (ix4 0 (half (t.val % 3) (r.val / 256)) 3 k) : EReal))
    (fun k => (iblk m c 1 t (ix4 0 (half (t.val % 3) (r.val / 256)) 4 k) : EReal)) (fun k => (iblk m c 1 t (ix4 0 (half (t.val % 3) (r.val / 256)) 5 k) : EReal)) _ _ _ o = _
  rw [e]
  exact dense_congr o (fun k => blk0 m c t r k) (fun k => blk2 m c t k) (fun k => blk1 m c t _ 3 k) (fun k => blk1 m c t _ 4 k) (fun k => blk1 m c t _ 5 k)
    (fun k f => blk3 m c t k f) (fun k f => blk4 m c t k f) (fun f d => blk5 m c t f d)

/-- The call's result array. -/
theorem result_eq (c : Dev nD) : (dats m 0 c).arrAt 6 cfg0.N = denseAt m c := by
  refine (dats m 0 c).arrAt_eq_of_covers 6 _ (by decide +kernel) fun t hf y => ?_
  blk_simp
  rw [after0_6]
  obtain ⟨r, o, rfl⟩ : ∃ (r : Fin 768) (o : Fin 1024), y = ix3 0 r o :=
    ⟨y 1, y 2, (eq_ix3 y).trans (congrArg (fun a : Fin 1 => (ix3 a (y 1) (y 2) : S1x768x1024.Idx)) (Fin.fin_one_eq_zero (y 0)))⟩
  have e : (win0_6.blk t).view.emb (ix3 0 r o)
      = (ix3 ⟨t.val / 3, batch_lt t⟩ ⟨768 * (t.val % 3) + r.val, by omega⟩ o : S16x2304x1024.Idx) := by
    blk_ext [idx t]
  rw [e]
  refine (out_A _ _ _ _ _ _ _ _ _ _ _ _ _ _ _ _ _ _ _ _ _ _ _).trans ?_
  rw [tile_of]
  exact rows_at m c t r o

end Cert.DenseIdeal.Gen

end
-- ==== Proof.DenseEqual.lean ====
/-
  The dense feed-forward's claims: the programs run, and over the real numbers the two results are the formula of
  Proof/DenseRef.lean.
-/
module

public import proofs.«01_k».proof.Defs
public import proofs.«01_k».proof.Proof.DenseWhole
public import proofs.«01_k».proof.Proof.Gen.Dense.Frame
public import proofs.«01_k».proof.Proof.Gen.DenseIdeal.Frame
public import proofs.«01_k».proof.Proof.Gen.DenseIdeal.Value
public import proofs.«01_k».proof.Proof.Gen.DenseReferenceIdeal
public import proofs.«01_k».proof.Proof.Gen.DenseReferenceIdeal.Run
public import proofs.«01_k».proof.Proof.Gen.DenseReferenceIdeal.Read
public import Idealize.ShloMosaic.Adequacy
public import Idealize.ShloMosaic.Init

@[expose] public section

noncomputable section

namespace Cert.Dense

open Idealize.ShloMosaic Idealize.SL.Sem

/-- The dense feed-forward's kernel leaves its arguments and its semaphores. -/
theorem kernel_frame : Cert.quiescent_Dense (hDense := Cert.Dense.Gen.facts) := fun m g _ => Cert.Dense.Gen.frame m g

/-- So does the kernel over the real numbers. -/
theorem ideal_frame : Cert.quiescent_DenseIdeal (hDenseIdeal := Cert.DenseIdeal.Gen.facts) := fun m g _ => Cert.DenseIdeal.Gen.frame m g

/-- And the reference. -/
theorem reference_frame : Cert.quiescent_DenseReferenceIdeal (hDenseReferenceIdeal := Cert.DenseReferenceIdeal.Gen.facts) := fun m g _ =>
  (θ_run Cert.DenseReferenceIdeal.defs _ _).mono (fun r h => ⟨fun c => (h c).2, sem_eq_zero_of_no_sems (by decide) r.2⟩)
    (Cert.DenseReferenceIdeal.Value.run (F := Ideal) m g)

/-- The reference's result is the formula, entry by entry. -/
theorem reference_eq (x0 : (⟨Cert.DenseReferenceIdeal.S16x2304x1024, .f32⟩ : BufTy).Contents (Elt Ideal))
    (x1 : (⟨Cert.DenseReferenceIdeal.S16x2x6x1024, .f32⟩ : BufTy).Contents (Elt Ideal)) (x2 : (⟨Cert.DenseReferenceIdeal.S1024, .f32⟩ : BufTy).Contents (Elt Ideal))
    (x3 x4 : (⟨Cert.DenseReferenceIdeal.S1024x2816, .f32⟩ : BufTy).Contents (Elt Ideal)) (x5 : (⟨Cert.DenseReferenceIdeal.S2816x1024, .f32⟩ : BufTy).Contents (Elt Ideal)) :
    Cert.DenseReferenceIdeal.Read.val_main_v42 (F := Ideal) x0 x1 x2 x3 x4 x5
      = (fun y : Cert.DenseReferenceIdeal.S16x2304x1024.Idx => spec x0 x1 x2 x3 x4 x5 (y 0) (y 1) (y 2)) := by
  funext y
  exact (congrArg _ (eq_ix3 y)).trans (reference_apply x0 x1 x2 x3 x4 x5 (y 0) (y 1) (y 2))

/-- The reference's result from agreeing arguments. -/
theorem reference_result (m : (ℓ : Loc Cert.DenseIdeal.nD Cert.DenseIdeal.τ Cert.DenseIdeal.sig) → Buf (Elt Ideal) ℓ) (c : Dev Cert.DenseIdeal.nD)
    (x0 : (⟨Cert.DenseReferenceIdeal.S16x2304x1024, .f32⟩ : BufTy).Contents (Elt Ideal))
    (x1 : (⟨Cert.DenseReferenceIdeal.S16x2x6x1024, .f32⟩ : BufTy).Contents (Elt Ideal)) (x2 : (⟨Cert.DenseReferenceIdeal.S1024, .f32⟩ : BufTy).Contents (Elt Ideal))
    (x3 x4 : (⟨Cert.DenseReferenceIdeal.S1024x2816, .f32⟩ : BufTy).Contents (Elt Ideal)) (x5 : (⟨Cert.DenseReferenceIdeal.S2816x1024, .f32⟩ : BufTy).Contents (Elt Ideal))
    (h : x0 = m ((c.tc : Thread Cert.DenseIdeal.nD Cert.DenseIdeal.τ).loc Cert.DenseIdeal.main_arg0)
      ∧ x1 = m ((c.tc : Thread Cert.DenseIdeal.nD Cert.DenseIdeal.τ).loc Cert.DenseIdeal.main_arg1)
      ∧ x2 = m ((c.tc : Thread Cert.DenseIdeal.nD Cert.DenseIdeal.τ).loc Cert.DenseIdeal.main_arg2)
      ∧ x3 = m ((c.tc : Thread Cert.DenseIdeal.nD Cert.DenseIdeal.τ).loc Cert.DenseIdeal.main_arg3)
      ∧ x4 = m ((c.tc : Thread Cert.DenseIdeal.nD Cert.DenseIdeal.τ).loc Cert.DenseIdeal.main_arg4)
      ∧ x5 = m ((c.tc : Thread Cert.DenseIdeal.nD Cert.DenseIdeal.τ).loc Cert.DenseIdeal.main_arg5)) :
    Cert.DenseReferenceIdeal.Read.val_main_v42 (F := Ideal) x0 x1 x2 x3 x4 x5 = Cert.DenseIdeal.Gen.denseAt m c := by
  obtain ⟨h0, h1, h2, h3, h4, h5⟩ := h
  subst h0 h1 h2 h3 h4 h5
  exact reference_eq _ _ _ _ _ _

/-- Over the real numbers the two results are one. -/
theorem equal : Cert.algebraic_DenseIdeal_DenseReferenceIdeal (hDenseIdeal := Cert.DenseIdeal.Gen.facts)
    (hDenseReferenceIdeal := Cert.DenseReferenceIdeal.Gen.facts) := fun m g m' g' _ ha =>
  ⟨fun c => Cert.DenseIdeal.Gen.denseAt m c,
    (θ_run Cert.DenseIdeal.defs _ _).mono (fun r h c => ⟨(h c).1.trans (Cert.DenseIdeal.Gen.result_eq m c), (h c).2⟩)
      (Cert.DenseIdeal.Value.run_blocks m g),
    (θ_run Cert.DenseReferenceIdeal.defs _ _).mono
      (fun r h c => ⟨(h c).1.trans ((Cert.DenseReferenceIdeal.Read.val_main_v42_eq (F := Ideal) _ _).trans (reference_result m c _ _ _ _ _ _ (ha c))), (h c).2⟩)
      (Cert.DenseReferenceIdeal.Value.run (F := Ideal) m' g')⟩

end Cert.Dense

end
-- ==== Proof.lean ====
/-
  The claims: the programs leave their arguments as they were and every semaphore at zero; each kernel is
  the program printed; and over the real numbers the attention's result is its reference's, both being the
  layer of Proof/AttnSpec.lean, and the results of the experts of layers 1 and 3 and of the dense
  feed-forward are their references' (Proof/ExpertsEqual.lean, Proof/LastExpertsEqual.lean,
  Proof/DenseEqual.lean).
-/
module

public import proofs.«01_k».proof.Defs
public import proofs.«01_k».proof.Proof.KernelFrame
public import proofs.«01_k».proof.Proof.IdealFrame
public import proofs.«01_k».proof.Proof.IdealValue
public import proofs.«01_k».proof.Proof.AttnWhole
public import proofs.«01_k».proof.Proof.AttnPre
public import proofs.«01_k».proof.Proof.AttnResult
public import proofs.«01_k».proof.Proof.ExpertsEqual
public import proofs.«01_k».proof.Proof.LastExpertsEqual
public import proofs.«01_k».proof.Proof.DenseEqual
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The kernel leaves its arguments and its semaphores. -/
theorem kernel_frame : Cert.quiescent_Kernel (hKernel := Cert.Kernel.Gen.facts) := fun m g _ => Cert.Kernel.Gen.frame m g

/-- So does the kernel over the real numbers. -/
theorem ideal_frame : Cert.quiescent_KernelIdeal (hKernelIdeal := Cert.KernelIdeal.Gen.facts) := fun m g _ => Cert.KernelIdeal.Gen.frame m g

/-- And the reference. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Arguments laid out as the precondition has them are ready. -/
theorem ready_at (m : (ℓ : Loc Cert.KernelIdeal.nD Cert.KernelIdeal.τ Cert.KernelIdeal.sig) → Buf (Elt Ideal) ℓ)
    (h : Cert.Pre_KernelIdeal_laid_out (hPre_laid_out := Cert.Attn.preFacts) m) (c : Dev Cert.KernelIdeal.nD) : Cert.Attn.ReadyAt m c :=
  Cert.Attn.ready_of _ _ _ _ _ _ _ _ _ _ (h c)

/-- The reference's result from agreeing arguments. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (H : Cert.Attn.ReadyAt m c)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v228 (F := Ideal) (StableHlo.launchContents m' c) = Cert.Attn.layerAt m c := by
  obtain ⟨h0, h1, h2, h3, h4, h5, h6, h7, h8, h9⟩ := h
  refine (Cert.ReferenceIdeal.Read.val_main_v228_eq (StableHlo.launchContents m' c)).trans ?_
  show Cert.ReferenceIdeal.Read.val_main_v228 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9)) = _
  rw [h0, h1, h2, h3, h4, h5, h6, h7, h8, h9]
  exact Cert.Attn.reference_eq _ _ _ _ _ _ _ _ _ _ H

/-- Over the real numbers the two results are one. -/
theorem equal : Cert.algebraic_KernelIdeal_ReferenceIdeal_pre_laid_out (hKernelIdeal := Cert.KernelIdeal.Gen.facts)
    (hReferenceIdeal := Cert.ReferenceIdeal.Gen.facts) (hPre_laid_out := Cert.Attn.preFacts) := fun m g m' g' hp ha =>
  ⟨fun c => Cert.Attn.layerAt m c,
    (θ_run Cert.KernelIdeal.defs _ _).mono (fun r h c => ⟨(h c).1.trans (Cert.Attn.result_eq m c (ready_at m hp c)), (h c).2⟩)
      (Cert.KernelIdeal.Value.run_blocks m g),
    (θ_run Cert.ReferenceIdeal.defs _ _).mono
      (fun r h c => ⟨(h c).1.trans (reference_result m m' c (ready_at m hp c) (ha c)), (h c).2⟩)
      (Cert.ReferenceIdeal.Value.run (F := Ideal) m' g')⟩

theorem claim : Cert.Claim :=
  ⟨Cert.Kernel.Gen.facts, Cert.KernelIdeal.Gen.facts, Cert.ReferenceIdeal.Gen.facts, Cert.Experts.Gen.facts, Cert.ExpertsIdeal.Gen.facts,
    Cert.ExpertsReferenceIdeal.Gen.facts, Cert.LastExperts.Gen.facts, Cert.LastExpertsIdeal.Gen.facts,
    Cert.LastExpertsReferenceIdeal.Gen.facts, Cert.Dense.Gen.facts, Cert.DenseIdeal.Gen.facts, Cert.DenseReferenceIdeal.Gen.facts, Cert.Attn.preFacts, Cert.Experts.preFacts, Cert.LastExperts.preFacts,
    kernel_frame, ideal_frame, fun m g _ => ideal_frame m g trivial, reference_frame, fun m g _ => reference_frame m g trivial,
    Cert.Experts.kernel_frame, Cert.Experts.ideal_frame, Cert.Experts.reference_frame, fun m g _ => Cert.Experts.reference_frame m g trivial,
    Cert.LastExperts.kernel_frame, Cert.LastExperts.ideal_frame, Cert.LastExperts.reference_frame,
    fun m g _ => Cert.LastExperts.reference_frame m g trivial,
    Cert.Dense.kernel_frame, Cert.Dense.ideal_frame, Cert.Dense.reference_frame,
    trivial, equal, trivial, Cert.Experts.equal, trivial, Cert.LastExperts.equal, trivial, Cert.Dense.equal⟩

end Cert.Proof

end
